-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v57) = v0 c
          ∧ r.2.mem ((c.tc : Thread Cert.Reference2Ideal.nD Cert.Reference2Ideal.τ).loc Cert.Reference2Ideal.main_v60) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v27) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v37)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v37) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v62) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S3x8192x512 : Shape := ⟨3, ![3, 8192, 512]⟩
abbrev S8192x512 : Shape := ⟨2, ![8192, 512]⟩
abbrev S_ : Shape := ⟨0, ![]⟩

class Facts : Prop where
  bitsLt_bf16_f32 : FTy.bits .bf16 < FTy.bits .f32
  bcast_S_S3x8192x512 : S_.BroadcastsInDim S3x8192x512 (![] : Fin 0 → Fin S3x8192x512.rank)
  reducesTo_S3x8192x512_S_d0_1_2 : S3x8192x512.ReducesTo [0, 1, 2] S_
  h_S_ : 0 < S_.numel
  bcast_S_S8192x512 : S_.BroadcastsInDim S8192x512 (![] : Fin 0 → Fin S8192x512.rank)
  reducesTo_S8192x512_S_d0_1 : S8192x512.ReducesTo [0, 1] S_

variable [Facts]

def fn {F : FTy → Type} [FloatOps F] (main_arg0 : FVec F S3x8192x512 .bf16) (main_arg1 : FVec F S8192x512 .f32) : IVec S_ 1 :=
  let main_v0 : FVec F S3x8192x512 .f32 := (extf .f32 · bitsLt_bf16_f32) main_arg0
  let main_v1 : FVec F S3x8192x512 .f32 := Host.absf main_v0
  let main_cst : FVec F S_ .f32 := constant S_ .f32 0x7F800000#32
  let main_v2 : FVec F S3x8192x512 .f32 := broadcastInDim S3x8192x512 ![] bcast_S_S3x8192x512 main_cst
  let main_v3 : IVec S3x8192x512 1 := cmpf .olt main_v1 main_v2
  let main_c : IVec S_ 1 := constantI S_ 1 1#1
  let main_v4 : IVec S_ 1 := (fun x v => Host.reduce IntOp.andi x v reducesTo_S3x8192x512_S_d0_1_2 h_S_) main_v3 main_c
  let main_v5 : FVec F S8192x512 .f32 := Host.absf main_arg1
  let main_cst_0 : FVec F S_ .f32 := constant S_ .f32 0x7F800000#32
  let main_v6 : FVec F S8192x512 .f32 := broadcastInDim S8192x512 ![] bcast_S_S8192x512 main_cst_0
  let main_v7 : IVec S8192x512 1 := cmpf .olt main_v5 main_v6
  let main_c_1 : IVec S_ 1 := constantI S_ 1 1#1
  let main_v8 : IVec S_ 1 := (fun x v => Host.reduce IntOp.andi x v reducesTo_S8192x512_S_d0_1 h_S_) main_v7 main_c_1
  let main_v9 : IVec S_ 1 := andi main_v4 main_v8
  main_v9
-- ==== Pre_finite2.lean ====
abbrev S8192x10240 : Shape := ⟨2, ![8192, 10240]⟩
abbrev S1024x10240 : Shape := ⟨2, ![1024, 10240]⟩
abbrev S8192x1024 : Shape := ⟨2, ![8192, 1024]⟩
abbrev S3x1024 : Shape := ⟨2, ![3, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x10240 : S_.BroadcastsInDim S8192x10240 (![] : Fin 0 → Fin S8192x10240.rank)
  reducesTo_S8192x10240_S_d0_1 : S8192x10240.ReducesTo [0, 1] S_
  h_S_ : 0 < S_.numel
  bcast_S_S1024x10240 : S_.BroadcastsInDim S1024x10240 (![] : Fin 0 → Fin S1024x10240.rank)
  reducesTo_S1024x10240_S_d0_1 : S1024x10240.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S3x1024 : S_.BroadcastsInDim S3x1024 (![] : Fin 0 → Fin S3x1024.rank)
  reducesTo_S3x1024_S_d0_1 : S3x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S3x1024 .f32) (main_arg5 : FVec F S1x1024 .f32) (main_v5 : IVec S_ 1) (main_v9 : IVec S_ 1) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : FVec F S3x1024 .f32 := Host.absf main_arg4
  let main_cst_6 : FVec F S_ .f32 := constant S_ .f32 0x7F800000#32
  let main_v19 : FVec F S3x1024 .f32 := broadcastInDim S3x1024 ![] bcast_S_S3x1024 main_cst_6
  let main_v20 : IVec S3x1024 1 := cmpf .olt main_v18 main_v19
  let main_c_7 : IVec S_ 1 := constantI S_ 1 1#1
  let main_v21 : IVec S_ 1 := (fun x v => Host.reduce IntOp.andi x v reducesTo_S3x1024_S_d0_1 h_S_) main_v20 main_c_7
  let main_v22 : FVec F S1x1024 .f32 := Host.absf main_arg5
  let main_cst_8 : FVec F S_ .f32 := constant S_ .f32 0x7F800000#32
  let main_v23 : FVec F S1x1024 .f32 := broadcastInDim S1x1024 ![] bcast_S_S1x1024 main_cst_8
  let main_v24 : IVec S1x1024 1 := cmpf .olt main_v22 main_v23
  let main_c_9 : IVec S_ 1 := constantI S_ 1 1#1
  let main_v25 : IVec S_ 1 := (fun x v => Host.reduce IntOp.andi x v reducesTo_S1x1024_S_d0_1 h_S_) main_v24 main_c_9
  let main_v26 : IVec S_ 1 := andi main_v5 main_v9
  let main_v27 : IVec S_ 1 := andi main_v26 main_v13
  let main_v28 : IVec S_ 1 := andi main_v27 main_v17
  let main_v29 : IVec S_ 1 := andi main_v28 main_v21
  let main_v30 : IVec S_ 1 := andi main_v29 main_v25
  main_v30

def fn {F : FTy → Type} [FloatOps F] (main_arg0 : FVec F S8192x10240 .bf16) (main_arg1 : FVec F S1024x10240 .bf16) (main_arg2 : FVec F S8192x1024 .f32) (main_arg3 : FVec F S8192x1024 .f32) (main_arg4 : FVec F S3x1024 .f32) (main_arg5 : FVec F S1x1024 .f32) : IVec S_ 1 :=
  let main_v0 : FVec F S8192x10240 .f32 := (extf .f32 · bitsLt_bf16_f32) main_arg0
  let main_v1 : FVec F S1024x10240 .f32 := (extf .f32 · bitsLt_bf16_f32) main_arg1
  let main_v2 : FVec F S8192x10240 .f32 := Host.absf main_v0
  let main_cst : FVec F S_ .f32 := constant S_ .f32 0x7F800000#32
  let main_v3 : FVec F S8192x10240 .f32 := broadcastInDim S8192x10240 ![] bcast_S_S8192x10240 main_cst
  let main_v4 : IVec S8192x10240 1 := cmpf .olt main_v2 main_v3
  let main_c : IVec S_ 1 := constantI S_ 1 1#1
  let main_v5 : IVec S_ 1 := (fun x v => Host.reduce IntOp.andi x v reducesTo_S8192x10240_S_d0_1 h_S_) main_v4 main_c
  let main_v6 : FVec F S1024x10240 .f32 := Host.absf main_v1
  let main_cst_0 : FVec F S_ .f32 := constant S_ .f32 0x7F800000#32
  let main_v7 : FVec F S1024x10240 .f32 := broadcastInDim S1024x10240 ![] bcast_S_S1024x10240 main_cst_0
  let main_v8 : IVec S1024x10240 1 := cmpf .olt main_v6 main_v7
  let main_c_1 : IVec S_ 1 := constantI S_ 1 1#1
  let main_v9 : IVec S_ 1 := (fun x v => Host.reduce IntOp.andi x v reducesTo_S1024x10240_S_d0_1 h_S_) main_v8 main_c_1
  let main_v10 : FVec F S8192x1024 .f32 := Host.absf main_arg2
  let main_cst_2 : FVec F S_ .f32 := constant S_ .f32 0x7F800000#32
  let main_v11 : FVec F S8192x1024 .f32 := broadcastInDim S8192x1024 ![] bcast_S_S8192x1024 main_cst_2
  let main_v12 : IVec S8192x1024 1 := cmpf .olt main_v10 main_v11
  let main_c_3 : IVec S_ 1 := constantI S_ 1 1#1
  let main_v13 : IVec S_ 1 := (fun x v => Host.reduce IntOp.andi x v reducesTo_S8192x1024_S_d0_1 h_S_) main_v12 main_c_3
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg4 main_arg5 main_v5 main_v9 main_v13 main_v16
-- ==== Kernel.lean ====
abbrev S3x8192x512 : Shape := ⟨3, ![3, 8192, 512]⟩
abbrev S8192x512 : Shape := ⟨2, ![8192, 512]⟩
abbrev S1x8192x512 : Shape := ⟨3, ![1, 8192, 512]⟩
abbrev S16x512x8x64 : Shape := ⟨4, ![16, 512, 8, 64]⟩
abbrev S16x8x512x512 : Shape := ⟨4, ![16, 8, 512, 512]⟩
abbrev S_ : Shape := ⟨0, ![]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S16x8x512 : Shape := ⟨3, ![16, 8, 512]⟩
abbrev S16x8x512x1 : Shape := ⟨4, ![16, 8, 512, 1]⟩
abbrev S16x8x512x64 : Shape := ⟨4, ![16, 8, 512, 64]⟩
abbrev S16x512x8 : Shape := ⟨3, ![16, 512, 8]⟩
abbrev S8192x8 : Shape := ⟨2, ![8192, 8]⟩
abbrev S8192x8x64 : Shape := ⟨3, ![8192, 8, 64]⟩
abbrev S1x512x512 : Shape := ⟨3, ![1, 512, 512]⟩
abbrev S1x128x512 : Shape := ⟨3, ![1, 128, 512]⟩
abbrev S128x512 : Shape := ⟨2, ![128, 512]⟩
abbrev S3x512x512 : Shape := ⟨3, ![3, 512, 512]⟩
abbrev S5120x128 : Shape := ⟨2, ![5120, 128]⟩
abbrev S128x128 : Shape := ⟨2, ![128, 128]⟩
abbrev S128x256 : Shape := ⟨2, ![128, 256]⟩
abbrev S1x128x128 : Shape := ⟨3, ![1, 128, 128]⟩
abbrev S512x128 : Shape := ⟨2, ![512, 128]⟩
abbrev S128x1 : Shape := ⟨2, ![128, 1]⟩
abbrev S256x128 : Shape := ⟨2, ![256, 128]⟩

abbrev nBuf : Space → Nat
  | .hbm => 65
  | .vmem => 28
  | .smem => 0
  | _ => 0

abbrev bufTy : (tb : Table) → Fin (tcTables nBuf tb) → BufTy
  | .hbm, ⟨0, _⟩ => ⟨S3x8192x512, .bf16⟩
  | .hbm, ⟨1, _⟩ => ⟨S8192x512, .f32⟩
  | .hbm, ⟨2, _⟩ => ⟨S1x8192x512, .bf16⟩
  | .hbm, ⟨3, _⟩ => ⟨S8192x512, .bf16⟩
  | .hbm, ⟨4, _⟩ => ⟨S8192x512, .f32⟩
  | .hbm, ⟨5, _⟩ => ⟨S16x512x8x64, .f32⟩
  | .hbm, ⟨6, _⟩ => ⟨S1x8192x512, .bf16⟩
  | .hbm, ⟨7, _⟩ => ⟨S8192x512, .bf16⟩
  | .hbm, ⟨8, _⟩ => ⟨S8192x512, .f32⟩
  | .hbm, ⟨9, _⟩ => ⟨S16x512x8x64, .f32⟩
  | .hbm, ⟨10, _⟩ => ⟨S1x8192x512, .bf16⟩
  | .hbm, ⟨11, _⟩ => ⟨S8192x512, .bf16⟩
  | .hbm, ⟨12, _⟩ => ⟨S8192x512, .f32⟩
  | .hbm, ⟨13, _⟩ => ⟨S16x512x8x64, .f32⟩
  | .hbm, ⟨14, _⟩ => ⟨S16x8x512x512, .f32⟩
  | .hbm, ⟨15, _⟩ => ⟨S_, .f32⟩
  | .hbm, ⟨16, _⟩ => ⟨S16x8x512x512, .f32⟩
  | .hbm, ⟨17, _⟩ => ⟨S16x8x512x512, .f32⟩
  | .hbm, ⟨18, _⟩ => ⟨S512, .i32⟩
  | .hbm, ⟨19, _⟩ => ⟨S512x1, .i32⟩
  | .hbm, ⟨20, _⟩ => ⟨S512, .i32⟩
  | .hbm, ⟨21, _⟩ => ⟨S1x512, .i32⟩
  | .hbm, ⟨22, _⟩ => ⟨S512x512, .i32⟩
  | .hbm, ⟨23, _⟩ => ⟨S512x512, .i32⟩
  | .hbm, ⟨24, _⟩ => ⟨S512x512, .i32⟩
  | .hbm, ⟨25, _⟩ => ⟨S_, .i32⟩
  | .hbm, ⟨26, _⟩ => ⟨S512x512, .i32⟩
  | .hbm, ⟨27, _⟩ => ⟨S512x512, .i1⟩
  | .hbm, ⟨28, _⟩ => ⟨S_, .i32⟩
  | .hbm, ⟨29, _⟩ => ⟨S512x512, .i32⟩
  | .hbm, ⟨30, _⟩ => ⟨S512x512, .i1⟩
  | .hbm, ⟨31, _⟩ => ⟨S512x512, .i1⟩
  | .hbm, ⟨32, _⟩ => ⟨S_, .f32⟩
  | .hbm, ⟨33, _⟩ => ⟨S_, .f32⟩
  | .hbm, ⟨34, _⟩ => ⟨S16x8x512x512, .i1⟩
  | .hbm, ⟨35, _⟩ => ⟨S16x8x512x512, .f32⟩
  | .hbm, ⟨36, _⟩ => ⟨S16x8x512x512, .f32⟩
  | .hbm, ⟨37, _⟩ => ⟨S_, .f32⟩
  | .hbm, ⟨38, _⟩ => ⟨S16x8x512, .f32⟩
  | .hbm, ⟨39, _⟩ => ⟨S16x8x512x1, .f32⟩
  | .hbm, ⟨40, _⟩ => ⟨S16x8x512x512, .f32⟩
  | .hbm, ⟨41, _⟩ => ⟨S16x8x512x512, .f32⟩
  | .hbm, ⟨42, _⟩ => ⟨S16x8x512x512, .f32⟩
  | .hbm, ⟨43, _⟩ => ⟨S_, .f32⟩
  | .hbm, ⟨44, _⟩ => ⟨S16x8x512, .f32⟩
  | .hbm, ⟨45, _⟩ => ⟨S16x8x512x64, .f32⟩
  | .hbm, ⟨46, _⟩ => ⟨S16x8x512x1, .f32⟩
  | .hbm, ⟨47, _⟩ => ⟨S16x8x512x64, .f32⟩
  | .hbm, ⟨48, _⟩ => ⟨S16x8x512x64, .f32⟩
  | .hbm, ⟨49, _⟩ => ⟨S16x8x512, .f32⟩
  | .hbm, ⟨50, _⟩ => ⟨S16x8x512, .f32⟩
  | .hbm, ⟨51, _⟩ => ⟨S16x512x8, .f32⟩
  | .hbm, ⟨52, _⟩ => ⟨S8192x8, .f32⟩
  | .hbm, ⟨53, _⟩ => ⟨S8192x8x64, .f32⟩
  | .hbm, ⟨54, _⟩ => ⟨S8192x512, .f32⟩
  | .hbm, ⟨55, _⟩ => ⟨S16x512x8x64, .f32⟩
  | .hbm, ⟨56, _⟩ => ⟨S8192x512, .f32⟩
  | .hbm, ⟨57, _⟩ => ⟨S8192x512, .f32⟩
  | .hbm, ⟨58, _⟩ => ⟨S8192x8x64, .f32⟩
  | .hbm, ⟨59, _⟩ => ⟨S_, .f32⟩
  | .hbm, ⟨60, _⟩ => ⟨S8192x8, .f32⟩
  | .hbm, ⟨61, _⟩ => ⟨S8192x8x64, .f32⟩
  | .hbm, ⟨62, _⟩ => ⟨S8192x512, .f32⟩
  | .hbm, ⟨63, _⟩ => ⟨S8192x512, .bf16⟩
  | .hbm, ⟨64, _⟩ => ⟨S3x8192x512, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x128x512, .bf16⟩
  | .local _ .vmem, ⟨7, _⟩ => ⟨S1x128x512, .bf16⟩
  | .local _ .vmem, ⟨8, _⟩ => ⟨S1x128x512, .bf16⟩
  | .local _ .vmem, ⟨9, _⟩ => ⟨S1x128x512, .bf16⟩
  | .local _ .vmem, ⟨10, _⟩ => ⟨S512x512, .bf16⟩
  | .local _ .vmem, ⟨11, _⟩ => ⟨S512x512, .bf16⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S1x128x512, .bf16⟩
  | .local _ .vmem, ⟨17, _⟩ => ⟨S1x128x512, .bf16⟩
  | .local _ .vmem, ⟨18, _⟩ => ⟨S128x512, .bf16⟩
  | .local _ .vmem, ⟨19, _⟩ => ⟨S128x512, .bf16⟩
  | .local _ .vmem, ⟨20, _⟩ => ⟨S128x512, .f32⟩
  | .local _ .vmem, ⟨21, _⟩ => ⟨S128x512, .f32⟩
  | .local _ .vmem, ⟨22, _⟩ => ⟨S128x512, .f32⟩
  | .local _ .vmem, ⟨23, _⟩ => ⟨S128x512, .f32⟩
  | .local _ .vmem, ⟨24, _⟩ => ⟨S3x512x512, .f32⟩
  | .local _ .vmem, ⟨25, _⟩ => ⟨S3x512x512, .f32⟩
  | .local _ .vmem, ⟨26, _⟩ => ⟨S5120x128, .bf16⟩
  | .local _ .vmem, ⟨27, _⟩ => ⟨S5120x128, .bf16⟩
  | _, _ => ⟨S3x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_c : Ref sig .tc := ⟨.hbm, 25, rfl⟩
abbrev main_v22 : Ref sig .tc := ⟨.hbm, 26, rfl⟩
abbrev main_v23 : Ref sig .tc := ⟨.hbm, 27, rfl⟩
abbrev main_c_0 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst_1 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_4 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  let c0_i32_2 : BitVec 32 := 0#32
  ![c1_i32_0.toNat, v2.toNat, c0_i32_1.toNat]

def cc0_transform_4 (i : grid0.Coords) : Fin 3 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  let c0_i32_1 : BitVec 32 := 0#32
  ![c2_i32.toNat, v2.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c63_i32 : BitVec 32 := 63#32
  let v2 : BitVec 32 := Scalar.minsi v1 c63_i32
  let c0_i32 : BitVec 32 := 0#32
  let c0_i32_0 : BitVec 32 := 0#32
  let c0_i32_1 : BitVec 32 := 0#32
  ![c0_i32.toNat, v2.toNat, c0_i32_0.toNat]

def cc0_transform_9 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_11 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S3x512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S3x8192x512 : Shape := ⟨3, ![3, 8192, 512]⟩
abbrev S8192x512 : Shape := ⟨2, ![8192, 512]⟩
abbrev S1x8192x512 : Shape := ⟨3, ![1, 8192, 512]⟩
abbrev S16x512x8x64 : Shape := ⟨4, ![16, 512, 8, 64]⟩
abbrev S16x8x512x64 : Shape := ⟨4, ![16, 8, 512, 64]⟩
abbrev S16x8x512x512 : Shape := ⟨4, ![16, 8, 512, 512]⟩
abbrev S_ : Shape := ⟨0, ![]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S16x8x512 : Shape := ⟨3, ![16, 8, 512]⟩
abbrev S16x8x512x1 : Shape := ⟨4, ![16, 8, 512, 1]⟩
abbrev S16x8x64x512 : Shape := ⟨4, ![16, 8, 64, 512]⟩
abbrev S1x16x512x8x64 : Shape := ⟨5, ![1, 16, 512, 8, 64]⟩
abbrev S3x16x512x8x64 : Shape := ⟨5, ![3, 16, 512, 8, 64]⟩

abbrev nBuf : Space → Nat
  | .hbm => 105
  | .vmem => 0
  | .smem => 0
  | _ => 0

abbrev bufTy : (tb : Table) → Fin (tcTables nBuf tb) → BufTy
  | .hbm, ⟨0, _⟩ => ⟨S3x8192x512, .bf16⟩
  | .hbm, ⟨1, _⟩ => ⟨S8192x512, .f32⟩
  | .hbm, ⟨2, _⟩ => ⟨S1x8192x512, .bf16⟩
  | .hbm, ⟨3, _⟩ => ⟨S8192x512, .bf16⟩
  | .hbm, ⟨4, _⟩ => ⟨S8192x512, .f32⟩
  | .hbm, ⟨5, _⟩ => ⟨S16x512x8x64, .f32⟩
  | .hbm, ⟨6, _⟩ => ⟨S1x8192x512, .bf16⟩
  | .hbm, ⟨7, _⟩ => ⟨S8192x512, .bf16⟩
  | .hbm, ⟨8, _⟩ => ⟨S8192x512, .f32⟩
  | .hbm, ⟨9, _⟩ => ⟨S16x512x8x64, .f32⟩
  | .hbm, ⟨10, _⟩ => ⟨S1x8192x512, .bf16⟩
  | .hbm, ⟨11, _⟩ => ⟨S8192x512, .bf16⟩
  | .hbm, ⟨12, _⟩ => ⟨S8192x512, .f32⟩
  | .hbm, ⟨13, _⟩ => ⟨S16x512x8x64, .f32⟩
  | .hbm, ⟨14, _⟩ => ⟨S16x512x8x64, .f32⟩
  | .hbm, ⟨15, _⟩ => ⟨S16x8x512x64, .f32⟩
  | .hbm, ⟨16, _⟩ => ⟨S16x8x512x512, .f32⟩
  | .hbm, ⟨17, _⟩ => ⟨S_, .f32⟩
  | .hbm, ⟨18, _⟩ => ⟨S16x8x512x512, .f32⟩
  | .hbm, ⟨19, _⟩ => ⟨S16x8x512x512, .f32⟩
  | .hbm, ⟨20, _⟩ => ⟨S512, .i32⟩
  | .hbm, ⟨21, _⟩ => ⟨S512x1, .i32⟩
  | .hbm, ⟨22, _⟩ => ⟨S512, .i32⟩
  | .hbm, ⟨23, _⟩ => ⟨S1x512, .i32⟩
  | .hbm, ⟨24, _⟩ => ⟨S512x512, .i32⟩
  | .hbm, ⟨25, _⟩ => ⟨S512x512, .i32⟩
  | .hbm, ⟨26, _⟩ => ⟨S512x512, .i32⟩
  | .hbm, ⟨27, _⟩ => ⟨S_, .i32⟩
  | .hbm, ⟨28, _⟩ => ⟨S512x512, .i32⟩
  | .hbm, ⟨29, _⟩ => ⟨S512x512, .i1⟩
  | .hbm, ⟨30, _⟩ => ⟨S_, .i32⟩
  | .hbm, ⟨31, _⟩ => ⟨S512x512, .i32⟩
  | .hbm, ⟨32, _⟩ => ⟨S512x512, .i1⟩
  | .hbm, ⟨33, _⟩ => ⟨S512x512, .i1⟩
  | .hbm, ⟨34, _⟩ => ⟨S_, .f32⟩
  | .hbm, ⟨35, _⟩ => ⟨S_, .f32⟩
  | .hbm, ⟨36, _⟩ => ⟨S16x8x512x512, .i1⟩
  | .hbm, ⟨37, _⟩ => ⟨S16x8x512x512, .f32⟩
  | .hbm, ⟨38, _⟩ => ⟨S16x8x512x512, .f32⟩
  | .hbm, ⟨39, _⟩ => ⟨S_, .f32⟩
  | .hbm, ⟨40, _⟩ => ⟨S16x8x512x512, .f32⟩
  | .hbm, ⟨41, _⟩ => ⟨S_, .f32⟩
  | .hbm, ⟨42, _⟩ => ⟨S16x8x512, .f32⟩
  | .hbm, ⟨43, _⟩ => ⟨S16x8x512x1, .f32⟩
  | .hbm, ⟨44, _⟩ => ⟨S16x8x512x512, .f32⟩
  | .hbm, ⟨45, _⟩ => ⟨S16x8x512x512, .i1⟩
  | .hbm, ⟨46, _⟩ => ⟨S16x8x512x512, .f32⟩
  | .hbm, ⟨47, _⟩ => ⟨S_, .f32⟩
  | .hbm, ⟨48, _⟩ => ⟨S16x8x512, .f32⟩
  | .hbm, ⟨49, _⟩ => ⟨S16x8x512x1, .f32⟩
  | .hbm, ⟨50, _⟩ => ⟨S16x8x512x512, .f32⟩
  | .hbm, ⟨51, _⟩ => ⟨S16x8x512x512, .f32⟩
  | .hbm, ⟨52, _⟩ => ⟨S16x8x512x512, .f32⟩
  | .hbm, ⟨53, _⟩ => ⟨S_, .f32⟩
  | .hbm, ⟨54, _⟩ => ⟨S16x8x512, .f32⟩
  | .hbm, ⟨55, _⟩ => ⟨S16x8x512x64, .f32⟩
  | .hbm, ⟨56, _⟩ => ⟨S16x8x512x1, .f32⟩
  | .hbm, ⟨57, _⟩ => ⟨S16x8x512x64, .f32⟩
  | .hbm, ⟨58, _⟩ => ⟨S16x8x512x64, .f32⟩
  | .hbm, ⟨59, _⟩ => ⟨S16x8x512x1, .f32⟩
  | .hbm, ⟨60, _⟩ => ⟨S_, .f32⟩
  | .hbm, ⟨61, _⟩ => ⟨S16x8x512x1, .f32⟩
  | .hbm, ⟨62, _⟩ => ⟨S16x8x512x1, .f32⟩
  | .hbm, ⟨63, _⟩ => ⟨S16x8x512x64, .f32⟩
  | .hbm, ⟨64, _⟩ => ⟨S16x8x512x64, .f32⟩
  | .hbm, ⟨65, _⟩ => ⟨S16x8x512x64, .f32⟩
  | .hbm, ⟨66, _⟩ => ⟨S_, .f32⟩
  | .hbm, ⟨67, _⟩ => ⟨S16x8x512, .f32⟩
  | .hbm, ⟨68, _⟩ => ⟨S16x8x512x1, .f32⟩
  | .hbm, ⟨69, _⟩ => ⟨S16x8x512x1, .f32⟩
  | .hbm, ⟨70, _⟩ => ⟨S16x8x512x64, .f32⟩
  | .hbm, ⟨71, _⟩ => ⟨S16x8x512x64, .f32⟩
  | .hbm, ⟨72, _⟩ => ⟨S_, .f32⟩
  | .hbm, ⟨73, _⟩ => ⟨S16x8x512, .f32⟩
  | .hbm, ⟨74, _⟩ => ⟨S16x8x64x512, .f32⟩
  | .hbm, ⟨75, _⟩ => ⟨S16x512x8x64, .f32⟩
  | .hbm, ⟨76, _⟩ => ⟨S16x8x512x512, .f32⟩
  | .hbm, ⟨77, _⟩ => ⟨S16x8x512x512, .f32⟩
  | .hbm, ⟨78, _⟩ => ⟨S16x8x512x512, .f32⟩
  | .hbm, ⟨79, _⟩ => ⟨S16x8x512x512, .f32⟩
  | .hbm, ⟨80, _⟩ => ⟨S16x8x512x512, .f32⟩
  | .hbm, ⟨81, _⟩ => ⟨S_, .f32⟩
  | .hbm, ⟨82, _⟩ => ⟨S16x8x512, .f32⟩
  | .hbm, ⟨83, _⟩ => ⟨S16x8x512x1, .f32⟩
  | .hbm, ⟨84, _⟩ => ⟨S_, .f32⟩
  | .hbm, ⟨85, _⟩ => ⟨S16x8x512, .f32⟩
  | .hbm, ⟨86, _⟩ => ⟨S16x8x512, .f32⟩
  | .hbm, ⟨87, _⟩ => ⟨S16x8x512x512, .f32⟩
  | .hbm, ⟨88, _⟩ => ⟨S16x8x512x512, .f32⟩
  | .hbm, ⟨89, _⟩ => ⟨S16x8x512x512, .f32⟩
  | .hbm, ⟨90, _⟩ => ⟨S_, .f32⟩
  | .hbm, ⟨91, _⟩ => ⟨S16x8x512x512, .f32⟩
  | .hbm, ⟨92, _⟩ => ⟨S16x8x512x512, .f32⟩
  | .hbm, ⟨93, _⟩ => ⟨S_, .f32⟩
  | .hbm, ⟨94, _⟩ => ⟨S16x8x512x512, .f32⟩
  | .hbm, ⟨95, _⟩ => ⟨S16x8x512x512, .f32⟩
  | .hbm, ⟨96, _⟩ => ⟨S16x8x512x64, .f32⟩
  | .hbm, ⟨97, _⟩ => ⟨S16x512x8x64, .f32⟩
  | .hbm, ⟨98, _⟩ => ⟨S16x8x512x64, .f32⟩
  | .hbm, ⟨99, _⟩ => ⟨S16x512x8x64, .f32⟩
  | .hbm, ⟨100, _⟩ => ⟨S1x16x512x8x64, .f32⟩
  | .hbm, ⟨101, _⟩ => ⟨S1x16x512x8x64, .f32⟩
  | .hbm, ⟨102, _⟩ => ⟨S1x16x512x8x64, .f32⟩
  | .hbm, ⟨103, _⟩ => ⟨S3x16x512x8x64, .f32⟩
  | .hbm, ⟨104, _⟩ => ⟨S3x8192x512, .f32⟩
  | _, _ => ⟨S3x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_c : Ref sig .tc := ⟨.hbm, 27, rfl⟩
abbrev main_v24 : Ref sig .tc := ⟨.hbm, 28, rfl⟩
abbrev main_v25 : Ref sig .tc := ⟨.hbm, 29, rfl⟩
abbrev main_c_0 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_cst_1 : Ref sig .tc := ⟨.hbm, 34, rfl⟩
abbrev main_call0_v0 : Ref sig .tc := ⟨.hbm, 35, rfl⟩
abbrev main_v29_1 : Ref sig .tc := ⟨.hbm, 36, rfl⟩
abbrev main_call0_v2 : Ref sig .tc := ⟨.hbm, 37, rfl⟩
abbrev main_v29_0 : Ref sig .tc := ⟨.hbm, 38, rfl⟩
abbrev main_call0_cst : Ref sig .tc := ⟨.hbm, 39, rfl⟩
abbrev main_v29_2 : Ref sig .tc := ⟨.hbm, 40, rfl⟩
abbrev main_cst_2 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_4 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_5 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_6 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_7 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_8 : Ref sig .tc := ⟨.hbm, 81, rfl⟩
abbrev main_v64 : Ref sig .tc := ⟨.hbm, 82, rfl⟩
abbrev main_v65 : Ref sig .tc := ⟨.hbm, 83, rfl⟩
abbrev main_cst_9 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_call1_cst : Ref sig .tc := ⟨.hbm, 90, rfl⟩
abbrev main_call1_v0 : Ref sig .tc := ⟨.hbm, 91, rfl⟩
abbrev main_v71 : Ref sig .tc := ⟨.hbm, 92, rfl⟩
abbrev main_cst_10 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩

abbrev nD : Nat := 1
abbrev τ : Topo := Topo.v7x

variable {F : FTy → Type} [FloatOps F]
-- ==== Kernel2.lean ====
abbrev S8192x10240 : Shape := ⟨2, ![8192, 10240]⟩
abbrev S1024x10240 : Shape := ⟨2, ![1024, 10240]⟩
abbrev S8192x1024 : Shape := ⟨2, ![8192, 1024]⟩
abbrev S3x1024 : Shape := ⟨2, ![3, 1024]⟩
abbrev S1x1024 : Shape := ⟨2, ![1, 1024]⟩
abbrev S_ : Shape := ⟨0, ![]⟩
abbrev S5x1024 : Shape := ⟨2, ![5, 1024]⟩
abbrev S8x1024 : Shape := ⟨2, ![8, 1024]⟩
abbrev S256x10240 : Shape := ⟨2, ![256, 10240]⟩
abbrev S256x1024 : Shape := ⟨2, ![256, 1024]⟩
abbrev S256x2560 : Shape := ⟨2, ![256, 2560]⟩
abbrev S1024x2560 : Shape := ⟨2, ![1024, 2560]⟩
abbrev S256 : Shape := ⟨1, ![256]⟩
abbrev S256x1 : Shape := ⟨2, ![256, 1]⟩
abbrev S1024 : Shape := ⟨1, ![1024]⟩

abbrev nBuf : Space → Nat
  | .hbm => 11
  | .vmem => 12
  | .smem => 0
  | _ => 0

abbrev bufTy : (tb : Table) → Fin (tcTables nBuf tb) → BufTy
  | .hbm, ⟨0, _⟩ => ⟨S8192x10240, .bf16⟩
  | .hbm, ⟨1, _⟩ => ⟨S1024x10240, .bf16⟩
  | .hbm, ⟨2, _⟩ => ⟨S8192x1024, .f32⟩
  | .hbm, ⟨3, _⟩ => ⟨S8192x1024, .f32⟩
  | .hbm, ⟨4, _⟩ => ⟨S3x1024, .f32⟩
  | .hbm, ⟨5, _⟩ => ⟨S1x1024, .f32⟩
  | .hbm, ⟨6, _⟩ => ⟨S_, .f32⟩
  | .hbm, ⟨7, _⟩ => ⟨S5x1024, .f32⟩
  | .hbm, ⟨8, _⟩ => ⟨S8x1024, .f32⟩
  | .hbm, ⟨9, _⟩ => ⟨S8192x1024, .f32⟩
  | .hbm, ⟨10, _⟩ => ⟨S8x1024, .f32⟩
  | .local _ .vmem, ⟨0, _⟩ => ⟨S256x10240, .bf16⟩
  | .local _ .vmem, ⟨1, _⟩ => ⟨S256x10240, .bf16⟩
  | .local _ .vmem, ⟨2, _⟩ => ⟨S1024x10240, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S8x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S8x1024, .f32⟩
  | _, _ => ⟨S8192x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x10240 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x10240 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference2Ideal.lean ====
abbrev S8192x10240 : Shape := ⟨2, ![8192, 10240]⟩
abbrev S1024x10240 : Shape := ⟨2, ![1024, 10240]⟩
abbrev S8192x1024 : Shape := ⟨2, ![8192, 1024]⟩
abbrev S3x1024 : Shape := ⟨2, ![3, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S5x1024 : Shape := ⟨2, ![5, 1024]⟩
abbrev S8x1024 : Shape := ⟨2, ![8, 1024]⟩

abbrev nBuf : Space → Nat
  | .hbm => 80
  | .vmem => 0
  | .smem => 0
  | _ => 0

abbrev bufTy : (tb : Table) → Fin (tcTables nBuf tb) → BufTy
  | .hbm, ⟨0, _⟩ => ⟨S8192x10240, .bf16⟩
  | .hbm, ⟨1, _⟩ => ⟨S1024x10240, .bf16⟩
  | .hbm, ⟨2, _⟩ => ⟨S8192x1024, .f32⟩
  | .hbm, ⟨3, _⟩ => ⟨S8192x1024, .f32⟩
  | .hbm, ⟨4, _⟩ => ⟨S3x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1024, .f32⟩
  | .hbm, ⟨10, _⟩ => ⟨S1024x10240, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x10240, .f32⟩
  | .hbm, ⟨39, _⟩ => ⟨S8192x10240, .f32⟩
  | .hbm, ⟨40, _⟩ => ⟨S8192x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S8192x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S1024, .f32⟩
  | .hbm, ⟨58, _⟩ => ⟨S8192x1024, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S_, .f32⟩
  | .hbm, ⟨70, _⟩ => ⟨S8192, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S1x1024, .f32⟩
  | .hbm, ⟨77, _⟩ => ⟨S_, .f32⟩
  | .hbm, ⟨78, _⟩ => ⟨S5x1024, .f32⟩
  | .hbm, ⟨79, _⟩ => ⟨S8x1024, .f32⟩
  | _, _ => ⟨S8192x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_9 : Ref sig .tc := ⟨.hbm, 66, rfl⟩
abbrev main_v50 : Ref sig .tc := ⟨.hbm, 67, rfl⟩
abbrev main_v51 : Ref sig .tc := ⟨.hbm, 68, rfl⟩
abbrev main_cst_10 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_11 : Ref sig .tc := ⟨.hbm, 77, rfl⟩
abbrev main_v59 : Ref sig .tc := ⟨.hbm, 78, rfl⟩
abbrev main_v60 : Ref sig .tc := ⟨.hbm, 79, rfl⟩

abbrev nD : Nat := 1
abbrev τ : Topo := Topo.v7x

variable {F : FTy → Type} [FloatOps F]
-- ==== Kernel3.lean ====
abbrev S8192x1024 : Shape := ⟨2, ![8192, 1024]⟩
abbrev S3x1024 : Shape := ⟨2, ![3, 1024]⟩
abbrev S1x1024 : Shape := ⟨2, ![1, 1024]⟩
abbrev S8192x10240 : Shape := ⟨2, ![8192, 10240]⟩
abbrev S_ : Shape := ⟨0, ![]⟩
abbrev S5x1024 : Shape := ⟨2, ![5, 1024]⟩
abbrev S8x1024 : Shape := ⟨2, ![8, 1024]⟩
abbrev S1024x8192 : Shape := ⟨2, ![1024, 8192]⟩
abbrev S1024x1024 : Shape := ⟨2, ![1024, 1024]⟩
abbrev S1024 : Shape := ⟨1, ![1024]⟩
abbrev S1024x1 : Shape := ⟨2, ![1024, 1]⟩
abbrev S1024x10240 : Shape := ⟨2, ![1024, 10240]⟩
abbrev S1024x2048 : Shape := ⟨2, ![1024, 2048]⟩
abbrev S2048x2560 : Shape := ⟨2, ![2048, 2560]⟩
abbrev S1024x2560 : Shape := ⟨2, ![1024, 2560]⟩

abbrev nBuf : Space → Nat
  | .hbm => 11
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S3x1024, .f32⟩
  | .hbm, ⟨2, _⟩ => ⟨S1x1024, .f32⟩
  | .hbm, ⟨3, _⟩ => ⟨S8192x10240, .bf16⟩
  | .hbm, ⟨4, _⟩ => ⟨S_, .f32⟩
  | .hbm, ⟨5, _⟩ => ⟨S5x1024, .f32⟩
  | .hbm, ⟨6, _⟩ => ⟨S8x1024, .f32⟩
  | .hbm, ⟨7, _⟩ => ⟨S8192x1024, .bf16⟩
  | .hbm, ⟨8, _⟩ => ⟨S1024x8192, .bf16⟩
  | .hbm, ⟨9, _⟩ => ⟨S1024x10240, .f32⟩
  | .hbm, ⟨10, _⟩ => ⟨S1024x10240, .f32⟩
  | .local _ .vmem, ⟨0, _⟩ => ⟨S1024x1024, .f32⟩
  | .local _ .vmem, ⟨1, _⟩ => ⟨S1024x1024, .f32⟩
  | .local _ .vmem, ⟨2, _⟩ => ⟨S8x1024, .f32⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x2048, .bf16⟩
  | .local _ .vmem, ⟨9, _⟩ => ⟨S1024x2048, .bf16⟩
  | .local _ .vmem, ⟨10, _⟩ => ⟨S2048x2560, .bf16⟩
  | .local _ .vmem, ⟨11, _⟩ => ⟨S2048x2560, .bf16⟩
  | .local _ .vmem, ⟨12, _⟩ => ⟨S1024x2560, .f32⟩
  | .local _ .vmem, ⟨13, _⟩ => ⟨S1024x2560, .f32⟩
  | .local _ .vmem, ⟨14, _⟩ => ⟨S1024x2048, .bf16⟩
  | .local _ .vmem, ⟨15, _⟩ => ⟨S1024x2048, .bf16⟩
  | .local _ .vmem, ⟨16, _⟩ => ⟨S2048x2560, .bf16⟩
  | .local _ .vmem, ⟨17, _⟩ => ⟨S2048x2560, .bf16⟩
  | .local _ .vmem, ⟨18, _⟩ => ⟨S1024x2560, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![3, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x2560 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1024x2560 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![1, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  ![arg1.toNat, v0.toNat]

def cc2_transform_3 (i : grid2.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  let c0_i32_0 : BitVec 32 := 0#32
  ![c0_i32.toNat, v0.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S2048x2560 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S1024x2560 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, false]
-- ==== Reference3Ideal.lean ====
abbrev S8192x1024 : Shape := ⟨2, ![8192, 1024]⟩
abbrev S3x1024 : Shape := ⟨2, ![3, 1024]⟩
abbrev S1x1024 : Shape := ⟨2, ![1, 1024]⟩
abbrev S8192x10240 : Shape := ⟨2, ![8192, 10240]⟩
abbrev S_ : Shape := ⟨0, ![]⟩
abbrev S1024x10240 : Shape := ⟨2, ![1024, 10240]⟩
abbrev S1024 : Shape := ⟨1, ![1024]⟩
abbrev S8192 : Shape := ⟨1, ![8192]⟩
abbrev S8192x1 : Shape := ⟨2, ![8192, 1]⟩
abbrev S10240x1024 : Shape := ⟨2, ![10240, 1024]⟩

abbrev nBuf : Space → Nat
  | .hbm => 37
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S3x1024, .f32⟩
  | .hbm, ⟨2, _⟩ => ⟨S1x1024, .f32⟩
  | .hbm, ⟨3, _⟩ => ⟨S8192x10240, .bf16⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1024x10240, .f32⟩
  | .hbm, ⟨9, _⟩ => ⟨S1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x10240, .f32⟩
  | .hbm, ⟨34, _⟩ => ⟨S8192x10240, .f32⟩
  | .hbm, ⟨35, _⟩ => ⟨S10240x1024, .f32⟩
  | .hbm, ⟨36, _⟩ => ⟨S1024x10240, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Kernel4.lean ====
abbrev S8192x1024 : Shape := ⟨2, ![8192, 1024]⟩
abbrev S1024x10240 : Shape := ⟨2, ![1024, 10240]⟩
abbrev S8192x3072 : Shape := ⟨2, ![8192, 3072]⟩
abbrev S1024x1024 : Shape := ⟨2, ![1024, 1024]⟩
abbrev S1024x3072 : Shape := ⟨2, ![1024, 3072]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x10240, .bf16⟩
  | .hbm, ⟨2, _⟩ => ⟨S8192x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x3072, .bf16⟩
  | .local _ .vmem, ⟨3, _⟩ => ⟨S1024x3072, .f32⟩
  | .local _ .vmem, ⟨4, _⟩ => ⟨S1024x3072, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S8192x1024 : Shape := ⟨2, ![8192, 1024]⟩
abbrev S1024x10240 : Shape := ⟨2, ![1024, 10240]⟩
abbrev S8192x10240 : Shape := ⟨2, ![8192, 10240]⟩
abbrev S8192x3072 : Shape := ⟨2, ![8192, 3072]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x10240, .bf16⟩
  | .hbm, ⟨2, _⟩ => ⟨S8192x1024, .f32⟩
  | .hbm, ⟨3, _⟩ => ⟨S1024x10240, .f32⟩
  | .hbm, ⟨4, _⟩ => ⟨S8192x10240, .f32⟩
  | .hbm, ⟨5, _⟩ => ⟨S8192x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel5.lean ====
abbrev S8192x1024 : Shape := ⟨2, ![8192, 1024]⟩
abbrev S1024x10240 : Shape := ⟨2, ![1024, 10240]⟩
abbrev S8192x2560 : Shape := ⟨2, ![8192, 2560]⟩
abbrev S1024x1024 : Shape := ⟨2, ![1024, 1024]⟩
abbrev S1024x2560 : Shape := ⟨2, ![1024, 2560]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x10240, .bf16⟩
  | .hbm, ⟨2, _⟩ => ⟨S8192x2560, .f32⟩
  | .local _ .vmem, ⟨0, _⟩ => ⟨S1024x1024, .bf16⟩
  | .local _ .vmem, ⟨1, _⟩ => ⟨S1024x1024, .bf16⟩
  | .local _ .vmem, ⟨2, _⟩ => ⟨S1024x2560, .bf16⟩
  | .local _ .vmem, ⟨3, _⟩ => ⟨S1024x2560, .f32⟩
  | .local _ .vmem, ⟨4, _⟩ => ⟨S1024x2560, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S8192x1024 : Shape := ⟨2, ![8192, 1024]⟩
abbrev S1024x10240 : Shape := ⟨2, ![1024, 10240]⟩
abbrev S8192x10240 : Shape := ⟨2, ![8192, 10240]⟩
abbrev S8192x2560 : Shape := ⟨2, ![8192, 2560]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x10240, .bf16⟩
  | .hbm, ⟨2, _⟩ => ⟨S8192x1024, .f32⟩
  | .hbm, ⟨3, _⟩ => ⟨S1024x10240, .f32⟩
  | .hbm, ⟨4, _⟩ => ⟨S8192x10240, .f32⟩
  | .hbm, ⟨5, _⟩ => ⟨S8192x2560, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel6.lean ====
abbrev S8192x1024 : Shape := ⟨2, ![8192, 1024]⟩
abbrev S8192 : Shape := ⟨1, ![8192]⟩
abbrev S1024x10240 : Shape := ⟨2, ![1024, 10240]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S1x8192x128 : Shape := ⟨3, ![1, 8192, 128]⟩
abbrev S3x8192x128 : Shape := ⟨3, ![3, 8192, 128]⟩
abbrev S3x1x8192x512 : Shape := ⟨4, ![3, 1, 8192, 512]⟩
abbrev S2048x1024 : Shape := ⟨2, ![2048, 1024]⟩
abbrev S3x2048x128 : Shape := ⟨3, ![3, 2048, 128]⟩
abbrev S1024x512 : Shape := ⟨2, ![1024, 512]⟩
abbrev S3x1x2048x512 : Shape := ⟨4, ![3, 1, 2048, 512]⟩
abbrev S2x8x1024x128 : Shape := ⟨4, ![2, 8, 1024, 128]⟩
abbrev S1024x1024 : Shape := ⟨2, ![1024, 1024]⟩
abbrev S1024x128 : Shape := ⟨2, ![1024, 128]⟩
abbrev S1x2048x128 : Shape := ⟨3, ![1, 2048, 128]⟩
abbrev S2048x128 : Shape := ⟨2, ![2048, 128]⟩
abbrev S1x1x1024x512 : Shape := ⟨4, ![1, 1, 1024, 512]⟩
abbrev S1x1024x512 : Shape := ⟨3, ![1, 1024, 512]⟩
abbrev S1x1024x128 : Shape := ⟨3, ![1, 1024, 128]⟩
abbrev S1x1x1024x128 : Shape := ⟨4, ![1, 1, 1024, 128]⟩

abbrev nBuf : Space → Nat
  | .hbm => 48
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S8192, .i32⟩
  | .hbm, ⟨2, _⟩ => ⟨S1024x10240, .bf16⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S8192, .f32⟩
  | .hbm, ⟨15, _⟩ => ⟨S8192x1, .f32⟩
  | .hbm, ⟨16, _⟩ => ⟨S1x8, .f32⟩
  | .hbm, ⟨17, _⟩ => ⟨S8192x8, .f32⟩
  | .hbm, ⟨18, _⟩ => ⟨S8192x8, .f32⟩
  | .hbm, ⟨19, _⟩ => ⟨S8192x8, .f32⟩
  | .hbm, ⟨20, _⟩ => ⟨S8192x8, .f32⟩
  | .hbm, ⟨21, _⟩ => ⟨S8192x8, .f32⟩
  | .hbm, ⟨22, _⟩ => ⟨S_, .f32⟩
  | .hbm, ⟨23, _⟩ => ⟨S8192x8, .f32⟩
  | .hbm, ⟨24, _⟩ => ⟨S_, .f32⟩
  | .hbm, ⟨25, _⟩ => ⟨S8192x48, .f32⟩
  | .hbm, ⟨26, _⟩ => ⟨S8192x64, .f32⟩
  | .hbm, ⟨27, _⟩ => ⟨S1x8192x1x64, .f32⟩
  | .hbm, ⟨28, _⟩ => ⟨S1x8192x2x64, .f32⟩
  | .hbm, ⟨29, _⟩ => ⟨S8192x128, .f32⟩
  | .hbm, ⟨30, _⟩ => ⟨S8192x8, .f32⟩
  | .hbm, ⟨31, _⟩ => ⟨S_, .f32⟩
  | .hbm, ⟨32, _⟩ => ⟨S8192x48, .f32⟩
  | .hbm, ⟨33, _⟩ => ⟨S8192x64, .f32⟩
  | .hbm, ⟨34, _⟩ => ⟨S1x8192x1x64, .f32⟩
  | .hbm, ⟨35, _⟩ => ⟨S1x8192x2x64, .f32⟩
  | .hbm, ⟨36, _⟩ => ⟨S8192x128, .f32⟩
  | .hbm, ⟨37, _⟩ => ⟨S_, .f32⟩
  | .hbm, ⟨38, _⟩ => ⟨S8192x48, .f32⟩
  | .hbm, ⟨39, _⟩ => ⟨S8192x64, .f32⟩
  | .hbm, ⟨40, _⟩ => ⟨S1x8192x1x64, .f32⟩
  | .hbm, ⟨41, _⟩ => ⟨S1x8192x2x64, .f32⟩
  | .hbm, ⟨42, _⟩ => ⟨S8192x128, .f32⟩
  | .hbm, ⟨43, _⟩ => ⟨S1x8192x128, .f32⟩
  | .hbm, ⟨44, _⟩ => ⟨S1x8192x128, .f32⟩
  | .hbm, ⟨45, _⟩ => ⟨S1x8192x128, .f32⟩
  | .hbm, ⟨46, _⟩ => ⟨S3x8192x128, .f32⟩
  | .hbm, ⟨47, _⟩ => ⟨S3x1x8192x512, .bf16⟩
  | .local _ .vmem, ⟨0, _⟩ => ⟨S2048x1024, .bf16⟩
  | .local _ .vmem, ⟨1, _⟩ => ⟨S2048x1024, .bf16⟩
  | .local _ .vmem, ⟨2, _⟩ => ⟨S3x2048x128, .f32⟩
  | .local _ .vmem, ⟨3, _⟩ => ⟨S3x2048x128, .f32⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S3x1x2048x512, .bf16⟩
  | .local _ .vmem, ⟨8, _⟩ => ⟨S3x1x2048x512, .bf16⟩
  | .local _ .vmem, ⟨9, _⟩ => ⟨S2x8x1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c6_i32 : BitVec 32 := 6#32
  let c0_i32_0 : BitVec 32 := 0#32
  ![c0_i32.toNat, c6_i32.toNat]

def cc0_transform_3 (i : grid0.Coords) : Fin 2 → Nat :=
  let arg0 : BitVec 32 := BitVec.ofNat 32 (i 0).val
  let c0_i32 : BitVec 32 := 0#32
  let c9_i32 : BitVec 32 := 9#32
  let c0_i32_0 : BitVec 32 := 0#32
  ![c0_i32.toNat, c9_i32.toNat]

def cc0_transform_4 (i : grid0.Coords) : Fin 2 → Nat :=
  let arg0 : BitVec 32 := BitVec.ofNat 32 (i 0).val
  let c0_i32 : BitVec 32 := 0#32
  let c12_i32 : BitVec 32 := 12#32
  let c0_i32_0 : BitVec 32 := 0#32
  ![c0_i32.toNat, c12_i32.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S3x1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S8192x1024 : Shape := ⟨2, ![8192, 1024]⟩
abbrev S8192 : Shape := ⟨1, ![8192]⟩
abbrev S1024x10240 : Shape := ⟨2, ![1024, 10240]⟩
abbrev S8192x10240 : Shape := ⟨2, ![8192, 10240]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S8192x512 : Shape := ⟨2, ![8192, 512]⟩
abbrev S8192x8x64 : Shape := ⟨3, ![8192, 8, 64]⟩
abbrev S8192x1x8 : Shape := ⟨3, ![8192, 1, 8]⟩
abbrev S8192x8x8 : Shape := ⟨3, ![8192, 8, 8]⟩
abbrev S8192x8x48 : Shape := ⟨3, ![8192, 8, 48]⟩
abbrev S1x8192x8x64 : Shape := ⟨4, ![1, 8192, 8, 64]⟩
abbrev S3x8192x8x64 : Shape := ⟨4, ![3, 8192, 8, 64]⟩
abbrev S3x1x8192x512 : Shape := ⟨4, ![3, 1, 8192, 512]⟩

abbrev nBuf : Space → Nat
  | .hbm => 69
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192, .i32⟩
  | .hbm, ⟨2, _⟩ => ⟨S1024x10240, .bf16⟩
  | .hbm, ⟨3, _⟩ => ⟨S8192x1024, .f32⟩
  | .hbm, ⟨4, _⟩ => ⟨S1024x10240, .f32⟩
  | .hbm, ⟨5, _⟩ => ⟨S8192x10240, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S8192, .f32⟩
  | .hbm, ⟨18, _⟩ => ⟨S8192x1, .f32⟩
  | .hbm, ⟨19, _⟩ => ⟨S1x8, .f32⟩
  | .hbm, ⟨20, _⟩ => ⟨S8192x8, .f32⟩
  | .hbm, ⟨21, _⟩ => ⟨S8192x8, .f32⟩
  | .hbm, ⟨22, _⟩ => ⟨S8192x8, .f32⟩
  | .hbm, ⟨23, _⟩ => ⟨S8192x8, .f32⟩
  | .hbm, ⟨24, _⟩ => ⟨S8192x8, .f32⟩
  | .hbm, ⟨25, _⟩ => ⟨S8192x512, .f32⟩
  | .hbm, ⟨26, _⟩ => ⟨S8192x8x64, .f32⟩
  | .hbm, ⟨27, _⟩ => ⟨S8192x512, .f32⟩
  | .hbm, ⟨28, _⟩ => ⟨S8192x8x64, .f32⟩
  | .hbm, ⟨29, _⟩ => ⟨S8192x512, .f32⟩
  | .hbm, ⟨30, _⟩ => ⟨S8192x8x64, .f32⟩
  | .hbm, ⟨31, _⟩ => ⟨S8192x1x8, .f32⟩
  | .hbm, ⟨32, _⟩ => ⟨S8192x1x8, .f32⟩
  | .hbm, ⟨33, _⟩ => ⟨S8192x8x8, .f32⟩
  | .hbm, ⟨34, _⟩ => ⟨S8192x8x8, .f32⟩
  | .hbm, ⟨35, _⟩ => ⟨S8192x8x8, .f32⟩
  | .hbm, ⟨36, _⟩ => ⟨S8192x8x8, .f32⟩
  | .hbm, ⟨37, _⟩ => ⟨S8192x8x8, .f32⟩
  | .hbm, ⟨38, _⟩ => ⟨S8192x8x8, .f32⟩
  | .hbm, ⟨39, _⟩ => ⟨S8192x8x8, .f32⟩
  | .hbm, ⟨40, _⟩ => ⟨S8192x8x8, .f32⟩
  | .hbm, ⟨41, _⟩ => ⟨S8192x8x8, .f32⟩
  | .hbm, ⟨42, _⟩ => ⟨S8192x8x8, .f32⟩
  | .hbm, ⟨43, _⟩ => ⟨S8192x8x8, .f32⟩
  | .hbm, ⟨44, _⟩ => ⟨S8192x8x8, .f32⟩
  | .hbm, ⟨45, _⟩ => ⟨S8192x8x48, .f32⟩
  | .hbm, ⟨46, _⟩ => ⟨S8192x8x64, .f32⟩
  | .hbm, ⟨47, _⟩ => ⟨S8192x1x8, .f32⟩
  | .hbm, ⟨48, _⟩ => ⟨S8192x1x8, .f32⟩
  | .hbm, ⟨49, _⟩ => ⟨S8192x8x8, .f32⟩
  | .hbm, ⟨50, _⟩ => ⟨S8192x8x8, .f32⟩
  | .hbm, ⟨51, _⟩ => ⟨S8192x8x8, .f32⟩
  | .hbm, ⟨52, _⟩ => ⟨S8192x8x8, .f32⟩
  | .hbm, ⟨53, _⟩ => ⟨S8192x8x8, .f32⟩
  | .hbm, ⟨54, _⟩ => ⟨S8192x8x8, .f32⟩
  | .hbm, ⟨55, _⟩ => ⟨S8192x8x8, .f32⟩
  | .hbm, ⟨56, _⟩ => ⟨S8192x8x8, .f32⟩
  | .hbm, ⟨57, _⟩ => ⟨S8192x8x8, .f32⟩
  | .hbm, ⟨58, _⟩ => ⟨S8192x8x8, .f32⟩
  | .hbm, ⟨59, _⟩ => ⟨S8192x8x8, .f32⟩
  | .hbm, ⟨60, _⟩ => ⟨S8192x8x8, .f32⟩
  | .hbm, ⟨61, _⟩ => ⟨S8192x8x48, .f32⟩
  | .hbm, ⟨62, _⟩ => ⟨S8192x8x64, .f32⟩
  | .hbm, ⟨63, _⟩ => ⟨S1x8192x8x64, .f32⟩
  | .hbm, ⟨64, _⟩ => ⟨S1x8192x8x64, .f32⟩
  | .hbm, ⟨65, _⟩ => ⟨S1x8192x8x64, .f32⟩
  | .hbm, ⟨66, _⟩ => ⟨S3x8192x8x64, .f32⟩
  | .hbm, ⟨67, _⟩ => ⟨S3x1x8192x512, .f32⟩
  | .hbm, ⟨68, _⟩ => ⟨S3x1x8192x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩

abbrev nD : Nat := 1
abbrev τ : Topo := Topo.v7x

variable {F : FTy → Type} [FloatOps F]
-- ==== Proof.Finite.lean ====
/- The precondition read back: arguments of which it holds are real at every index. -/
module

public import proofs.«01_k».proof.Pre_finite
public import proofs.«01_k».proof.Proof.Gen.Pre_finite
public import Idealize.ShloMosaic.Lib.ReduceAll
public import Idealize.ShloMosaic.Lib.Pointwise
public import Idealize.ShloMosaic.PureOps.Ideal.Laws

@[expose] public section

noncomputable section

namespace Cert.Pre_finite.Read

open Cert.Pre_finite Cert.Pre_finite.Gen Idealize.ShloMosaic

/-- The word 0x7F800000 is +∞. -/
theorem top_word : Ideal.ofBits .f32 0x7F800000#32 = (⊤ : EReal) := by
  simp [Ideal.ofBits, Ideal.ieee, -EReal.coe_mul]

/-- An extended real whose absolute value compares below +∞ is a real. -/
theorem real_of (x : EReal) (h : Ideal.cmp .olt (max x (-x)) (⊤ : EReal) = 1#1) : x = ((x.toReal : ℝ) : EReal) := by
  refine (EReal.coe_toReal ?_ ?_).symm
  · rintro rfl
    exact absurd h (by simp [Ideal.cmp])
  · rintro rfl
    exact absurd h (by simp [Ideal.cmp])

theorem andi_one (a b : BitVec 1) (h : IntOp.andi a b = 1#1) : a = 1#1 ∧ b = 1#1 := by
  unfold IntOp.andi at h
  revert a b
  decide

theorem both (x : FVec Ideal S3x8192x512 .bf16) (y : FVec Ideal S8192x512 .f32) (h : fn (F := Ideal) x y = fun _ => 1#1) :
    (∀ i, x i = (((x i : EReal).toReal : ℝ) : EReal)) ∧ (∀ i, y i = (((y i : EReal).toReal : ℝ) : EReal)) := by
  have h0 := congrFun h ix0
  unfold fn at h0
  obtain ⟨hx, hy⟩ := andi_one _ _ h0
  haveI : Subsingleton S_.Idx := ⟨fun a b => funext fun i => i.elim0⟩
  refine ⟨fun i => real_of _ ?_, fun i => real_of _ ?_⟩
  · have e := Host.reduce_andi_all _ _ _ _ ix0 hx i
    rw [← top_word]
    exact e
  · have e := Host.reduce_andi_all _ _ _ _ ix0 hy i
    rw [← top_word]
    exact e

end Cert.Pre_finite.Read

end
-- ==== Proof.Tile.lean ====
/- The tile kernel's stores, told again by block: pair `p` of heads (128 lanes), block `n` of 128 positions. -/
module

public import proofs.«01_k».proof.Proof.Gen.KernelIdeal.Value
public import Idealize.ShloMosaic.Lib.Pointwise
public import Idealize.ShloMosaic.PureOps.Ideal

@[expose] public section

set_option maxRecDepth 16384

noncomputable section

namespace Cert.KernelIdeal.Tile

open Cert.KernelIdeal Cert.KernelIdeal.Gen Idealize.ShloMosaic Idealize.ShloMosaic.TcCoe

/-! ## Blocks of the operands -/

theorem inb_rows3 (R r p : ℕ) (hr : r + 128 ≤ R) (hp : p + 128 ≤ 512) : ∀ a, (![0, r, p] : Fin 3 → ℕ) a + (![1, 128, 128] : Fin 3 → ℕ) a ≤ (![1, R, 512] : Fin 3 → ℕ) a := by
  intro a; fin_cases a
  · exact le_refl 1
  · exact hr
  · exact hp

theorem inb_rows2 (R r p : ℕ) (hr : r + 128 ≤ R) (hp : p + 128 ≤ 512) : ∀ a, (![r, p] : Fin 2 → ℕ) a + (![128, 128] : Fin 2 → ℕ) a ≤ (![R, 512] : Fin 2 → ℕ) a := by
  intro a; fin_cases a
  · exact hr
  · exact hp

theorem inb_scratch (k r : ℕ) (hr : r + k ≤ 5120) : ∀ a, (![r, 0] : Fin 2 → ℕ) a + (![k, 128] : Fin 2 → ℕ) a ≤ (![5120, 128] : Fin 2 → ℕ) a := by
  intro a; fin_cases a
  · exact hr
  · exact le_refl 128

/-- Block (n, p) of a tile of queries, keys or values. -/
noncomputable def big (m : Memref sig .tc .vmem S1x512x512 .bf16) (h : m.IsWhole) (x : Vec Ideal S1x512x512 .bf16) (p n : Fin 4) : FVec Ideal S128x128 .bf16 :=
  shapeCast S128x128 (View.readAt (Elt Ideal) m.view (Rect.unit (s := S1x512x512) ![0, 128 * (n : ℕ), 128 * (p : ℕ)] S1x128x128.size
    (inb_rows3 512 _ _ (by omega) (by omega))).toLoadRect (h.unread x)) shapeCasts_S1x128x128_S128x128

/-- Pair `p` of a neighbouring block of queries, keys or values. -/
noncomputable def halo (m : Memref sig .tc .vmem S1x128x512 .bf16) (h : m.IsWhole) (x : Vec Ideal S1x128x512 .bf16) (p : Fin 4) : FVec Ideal S128x128 .bf16 :=
  shapeCast S128x128 (View.readAt (Elt Ideal) m.view (Rect.unit (s := S1x128x512) ![0, 0, 128 * (p : ℕ)] S1x128x128.size
    (inb_rows3 128 _ _ (by omega) (by omega))).toLoadRect (h.unread x)) shapeCasts_S1x128x128_S128x128

/-- Block (n, p) of a tile without the leading axis. -/
noncomputable def flatB (m : Memref sig .tc .vmem S512x512 .bf16) (h : m.IsWhole) (x : Vec Ideal S512x512 .bf16) (p n : Fin 4) : FVec Ideal S128x128 .bf16 :=
  shapeCast S128x128 (View.readAt (Elt Ideal) m.view (Rect.unit (s := S512x512) ![128 * (n : ℕ), 128 * (p : ℕ)] S128x128.size
    (inb_rows2 512 _ _ (by omega) (by omega))).toLoadRect (h.unread x)) shapeCasts_S128x128_S128x128

/-- Block (n, p) of a tile without the leading axis. -/
noncomputable def flatF (m : Memref sig .tc .vmem S512x512 .f32) (h : m.IsWhole) (x : Vec Ideal S512x512 .f32) (p n : Fin 4) : FVec Ideal S128x128 .f32 :=
  shapeCast S128x128 (View.readAt (Elt Ideal) m.view (Rect.unit (s := S512x512) ![128 * (n : ℕ), 128 * (p : ℕ)] S128x128.size
    (inb_rows2 512 _ _ (by omega) (by omega))).toLoadRect (h.unread x)) shapeCasts_S128x128_S128x128

/-- Pair `p` of a neighbouring block without the leading axis. -/
noncomputable def edgeB (m : Memref sig .tc .vmem S128x512 .bf16) (h : m.IsWhole) (x : Vec Ideal S128x512 .bf16) (p : Fin 4) : FVec Ideal S128x128 .bf16 :=
  shapeCast S128x128 (View.readAt (Elt Ideal) m.view (Rect.unit (s := S128x512) ![0, 128 * (p : ℕ)] S128x128.size
    (inb_rows2 128 _ _ (by omega) (by omega))).toLoadRect (h.unread x)) shapeCasts_S128x128_S128x128

/-- Pair `p` of a neighbouring block without the leading axis. -/
noncomputable def edgeF (m : Memref sig .tc .vmem S128x512 .f32) (h : m.IsWhole) (x : Vec Ideal S128x512 .f32) (p : Fin 4) : FVec Ideal S128x128 .f32 :=
  shapeCast S128x128 (View.readAt (Elt Ideal) m.view (Rect.unit (s := S128x512) ![0, 128 * (p : ℕ)] S128x128.size
    (inb_rows2 128 _ _ (by omega) (by omega))).toLoadRect (h.unread x)) shapeCasts_S128x128_S128x128

/-! ## The block-diagonal scratch -/

/-- The lanes of the pair's first head. -/
noncomputable def lanes : IVec S128x128 1 := cmpi .slt kernelRun0_A.sl.v24 kernelRun0_A.sl.v25

noncomputable def fillLo (b : FVec Ideal S128x128 .bf16) : FVec Ideal S128x128 .bf16 :=
  shapeCast S128x128 (select lanes b (broadcast S128x128 (FloatOps.ofBits FTy.bf16 0#16))) shapeCasts_S128x128_S128x128

noncomputable def fillHi (b : FVec Ideal S128x128 .bf16) : FVec Ideal S128x128 .bf16 :=
  shapeCast S128x128 (select lanes (broadcast S128x128 (FloatOps.ofBits FTy.bf16 0#16)) b) shapeCasts_S128x128_S128x128

noncomputable def fills (m4 : Memref sig .tc .vmem S1x128x512 .bf16) (h4 : m4.IsWhole) (x4 : Vec Ideal S1x128x512 .bf16)
    (m2 : Memref sig .tc .vmem S1x512x512 .bf16) (h2 : m2.IsWhole) (x2 : Vec Ideal S1x512x512 .bf16) : List (View.Piece (Elt Ideal) S5120x128 .bf16) := [
  ⟨Rect.unit ![4992, 0] S128x128.size (by decide), fillHi (big m2 h2 x2 3 3)⟩,
  ⟨Rect.unit ![4864, 0] S128x128.size (by decide), fillLo (big m2 h2 x2 3 3)⟩,
  ⟨Rect.unit ![4736, 0] S128x128.size (by decide), fillHi (big m2 h2 x2 3 2)⟩,
  ⟨Rect.unit ![4608, 0] S128x128.size (by decide), fillLo (big m2 h2 x2 3 2)⟩,
  ⟨Rect.unit ![4480, 0] S128x128.size (by decide), fillHi (big m2 h2 x2 3 1)⟩,
  ⟨Rect.unit ![4352, 0] S128x128.size (by decide), fillLo (big m2 h2 x2 3 1)⟩,
  ⟨Rect.unit ![4224, 0] S128x128.size (by decide), fillHi (big m2 h2 x2 3 0)⟩,
  ⟨Rect.unit ![4096, 0] S128x128.size (by decide), fillLo (big m2 h2 x2 3 0)⟩,
  ⟨Rect.unit ![3968, 0] S128x128.size (by decide), fillHi (halo m4 h4 x4 3)⟩,
  ⟨Rect.unit ![3840, 0] S128x128.size (by decide), fillLo (halo m4 h4 x4 3)⟩,
  ⟨Rect.unit ![3712, 0] S128x128.size (by decide), fillHi (big m2 h2 x2 2 3)⟩,
  ⟨Rect.unit ![3584, 0] S128x128.size (by decide), fillLo (big m2 h2 x2 2 3)⟩,
  ⟨Rect.unit ![3456, 0] S128x128.size (by decide), fillHi (big m2 h2 x2 2 2)⟩,
  ⟨Rect.unit ![3328, 0] S128x128.size (by decide), fillLo (big m2 h2 x2 2 2)⟩,
  ⟨Rect.unit ![3200, 0] S128x128.size (by decide), fillHi (big m2 h2 x2 2 1)⟩,
  ⟨Rect.unit ![3072, 0] S128x128.size (by decide), fillLo (big m2 h2 x2 2 1)⟩,
  ⟨Rect.unit ![2944, 0] S128x128.size (by decide), fillHi (big m2 h2 x2 2 0)⟩,
  ⟨Rect.unit ![2816, 0] S128x128.size (by decide), fillLo (big m2 h2 x2 2 0)⟩,
  ⟨Rect.unit ![2688, 0] S128x128.size (by decide), fillHi (halo m4 h4 x4 2)⟩,
  ⟨Rect.unit ![2560, 0] S128x128.size (by decide), fillLo (halo m4 h4 x4 2)⟩,
  ⟨Rect.unit ![2432, 0] S128x128.size (by decide), fillHi (big m2 h2 x2 1 3)⟩,
  ⟨Rect.unit ![2304, 0] S128x128.size (by decide), fillLo (big m2 h2 x2 1 3)⟩,
  ⟨Rect.unit ![2176, 0] S128x128.size (by decide), fillHi (big m2 h2 x2 1 2)⟩,
  ⟨Rect.unit ![2048, 0] S128x128.size (by decide), fillLo (big m2 h2 x2 1 2)⟩,
  ⟨Rect.unit ![1920, 0] S128x128.size (by decide), fillHi (big m2 h2 x2 1 1)⟩,
  ⟨Rect.unit ![1792, 0] S128x128.size (by decide), fillLo (big m2 h2 x2 1 1)⟩,
  ⟨Rect.unit ![1664, 0] S128x128.size (by decide), fillHi (big m2 h2 x2 1 0)⟩,
  ⟨Rect.unit ![1536, 0] S128x128.size (by decide), fillLo (big m2 h2 x2 1 0)⟩,
  ⟨Rect.unit ![1408, 0] S128x128.size (by decide), fillHi (halo m4 h4 x4 1)⟩,
  ⟨Rect.unit ![1280, 0] S128x128.size (by decide), fillLo (halo m4 h4 x4 1)⟩,
  ⟨Rect.unit ![1152, 0] S128x128.size (by decide), fillHi (big m2 h2 x2 0 3)⟩,
  ⟨Rect.unit ![1024, 0] S128x128.size (by decide), fillLo (big m2 h2 x2 0 3)⟩,
  ⟨Rect.unit ![896, 0] S128x128.size (by decide), fillHi (big m2 h2 x2 0 2)⟩,
  ⟨Rect.unit ![768, 0] S128x128.size (by decide), fillLo (big m2 h2 x2 0 2)⟩,
  ⟨Rect.unit ![640, 0] S128x128.size (by decide), fillHi (big m2 h2 x2 0 1)⟩,
  ⟨Rect.unit ![512, 0] S128x128.size (by decide), fillLo (big m2 h2 x2 0 1)⟩,
  ⟨Rect.unit ![384, 0] S128x128.size (by decide), fillHi (big m2 h2 x2 0 0)⟩,
  ⟨Rect.unit ![256, 0] S128x128.size (by decide), fillLo (big m2 h2 x2 0 0)⟩,
  ⟨Rect.unit ![128, 0] S128x128.size (by decide), fillHi (halo m4 h4 x4 0)⟩,
  ⟨Rect.unit ![0, 0] S128x128.size (by decide), fillLo (halo m4 h4 x4 0)⟩]

theorem keys_eq (c : Dev nD) (m2 : Memref sig .tc .vmem S1x512x512 .bf16) (h2 : m2.IsWhole) (m4 : Memref sig .tc .vmem S1x128x512 .bf16) (h4 : m4.IsWhole)
    (x2 : Vec Ideal S1x512x512 .bf16) (x4 : Vec Ideal S1x128x512 .bf16) : kernelRun0_A.sl.HS0_40 c m2 h2 m4 h4 x2 x4 = fills m4 h4 x4 m2 h2 x2 := rfl

theorem values_eq (c : Dev nD) (m2 : Memref sig .tc .vmem S1x512x512 .bf16) (h2 : m2.IsWhole) (m4 : Memref sig .tc .vmem S1x128x512 .bf16) (h4 : m4.IsWhole)
    (x2 : Vec Ideal S1x512x512 .bf16) (x4 : Vec Ideal S1x128x512 .bf16) : kernelRun0_A.sl.HS1_40 c m2 h2 m4 h4 x2 x4 = fills m4 h4 x4 m2 h2 x2 := rfl

/-! ## One unit's arithmetic -/

/-- What a full unit reads: queries, cotangents, the saved row sums, two blocks of keys and of values, and its mask. -/
structure Unit4 where
  q : FVec Ideal S128x128 .bf16
  o : FVec Ideal S128x128 .bf16
  l : FVec Ideal S128x128 .f32
  d : FVec Ideal S128x128 .f32
  k : FVec Ideal S512x128 .bf16
  v : FVec Ideal S512x128 .bf16
  b : IVec S128x512 32

/-- What the unit past the tile reads: one block of keys and of values. -/
structure Unit2 where
  q : FVec Ideal S128x128 .bf16
  o : FVec Ideal S128x128 .bf16
  l : FVec Ideal S128x128 .f32
  d : FVec Ideal S128x128 .f32
  k : FVec Ideal S256x128 .bf16
  v : FVec Ideal S256x128 .bf16
  b : IVec S128x256 32

/-- Weights of one group of keys. -/
noncomputable def wt (b : IVec S128x128 32) (s : FVec Ideal S128x128 .f32) (l : FVec Ideal S128x1 .f32) : FVec Ideal S128x128 .f32 :=
  exp (select (cmpi .sge b (broadcast S128x128 0#32)) (subf s (broadcastTo S128x128 l broadcasts_S128x1_S128x128))
    (broadcast S128x128 (Named.named κ "mask" 4048155338#32)))

/-- The gradient of one group's scores. -/
noncomputable def ds (p : FVec Ideal S128x128 .f32) (g : FVec Ideal S128x128 .f32) (d : FVec Ideal S128x1 .f32) : FVec Ideal S128x128 .bf16 :=
  truncf .bf16 (mulf (mulf p (subf g (broadcastTo S128x128 d broadcasts_S128x1_S128x128))) (broadcast S128x128 (FloatOps.ofBits FTy.f32 1040187392#32))) bitsLt_bf16_f32

namespace Unit4

variable (u : Unit4)

noncomputable def s : FVec Ideal S128x512 .f32 := matmul dot_S128x128_S512x128_S128x512_1_1_0_0_n_n none (mulf u.q (broadcast S128x128 (FloatOps.ofBits FTy.bf16 15872#16))) u.k (constant S128x512 .f32 0#32)
noncomputable def g : FVec Ideal S128x512 .f32 := matmul dot_S128x128_S512x128_S128x512_1_1_0_0_n_n none u.o u.v (constant S128x512 .f32 0#32)
noncomputable def p0 : FVec Ideal S128x128 .f32 := wt (extractStridedSlice S128x128 ![0, 0] u.b slices_S128x512_o0_0_S128x128) (extractStridedSlice S128x128 ![0, 0] u.s slices_S128x512_o0_0_S128x128) (extractStridedSlice S128x1 ![0, 0] u.l slices_S128x128_o0_0_S128x1)
noncomputable def ds0 : FVec Ideal S128x128 .bf16 := ds u.p0 (extractStridedSlice S128x128 ![0, 0] u.g slices_S128x512_o0_0_S128x128) (extractStridedSlice S128x1 ![0, 0] u.d slices_S128x128_o0_0_S128x1)
noncomputable def p1 : FVec Ideal S128x128 .f32 := wt (extractStridedSlice S128x128 ![0, 128] u.b slices_S128x512_o0_128_S128x128) (extractStridedSlice S128x128 ![0, 128] u.s slices_S128x512_o0_128_S128x128) (extractStridedSlice S128x1 ![0, 64] u.l slices_S128x128_o0_64_S128x1)
noncomputable def ds1 : FVec Ideal S128x128 .bf16 := ds u.p1 (extractStridedSlice S128x128 ![0, 128] u.g slices_S128x512_o0_128_S128x128) (extractStridedSlice S128x1 ![0, 64] u.d slices_S128x128_o0_64_S128x1)
noncomputable def p2 : FVec Ideal S128x128 .f32 := wt (extractStridedSlice S128x128 ![0, 256] u.b slices_S128x512_o0_256_S128x128) (extractStridedSlice S128x128 ![0, 256] u.s slices_S128x512_o0_256_S128x128) (extractStridedSlice S128x1 ![0, 0] u.l slices_S128x128_o0_0_S128x1)
noncomputable def ds2 : FVec Ideal S128x128 .bf16 := ds u.p2 (extractStridedSlice S128x128 ![0, 256] u.g slices_S128x512_o0_256_S128x128) (extractStridedSlice S128x1 ![0, 0] u.d slices_S128x128_o0_0_S128x1)
noncomputable def p3 : FVec Ideal S128x128 .f32 := wt (extractStridedSlice S128x128 ![0, 384] u.b slices_S128x512_o0_384_S128x128) (extractStridedSlice S128x128 ![0, 384] u.s slices_S128x512_o0_384_S128x128) (extractStridedSlice S128x1 ![0, 64] u.l slices_S128x128_o0_64_S128x1)
noncomputable def ds3 : FVec Ideal S128x128 .bf16 := ds u.p3 (extractStridedSlice S128x128 ![0, 384] u.g slices_S128x512_o0_384_S128x128) (extractStridedSlice S128x1 ![0, 64] u.d slices_S128x128_o0_64_S128x1)
noncomputable def P : FVec Ideal S128x512 .bf16 := concatenate S128x512 1 [⟨S128x128, (truncf .bf16 u.p0 bitsLt_bf16_f32 : FVec Ideal S128x128 .bf16)⟩, ⟨S128x128, (truncf .bf16 u.p1 bitsLt_bf16_f32 : FVec Ideal S128x128 .bf16)⟩, ⟨S128x128, (truncf .bf16 u.p2 bitsLt_bf16_f32 : FVec Ideal S128x128 .bf16)⟩, ⟨S128x128, (truncf .bf16 u.p3 bitsLt_bf16_f32 : FVec Ideal S128x128 .bf16)⟩] concatenates_S128x128_S128x128_S128x128_S128x128_S128x512_d1
noncomputable def dS : FVec Ideal S128x512 .bf16 := concatenate S128x512 1 [⟨S128x128, u.ds0⟩, ⟨S128x128, u.ds1⟩, ⟨S128x128, u.ds2⟩, ⟨S128x128, u.ds3⟩] concatenates_S128x128_S128x128_S128x128_S128x128_S128x512_d1
noncomputable def dQ : FVec Ideal S128x128 .f32 := matmul dot_S128x512_S512x128_S128x128_1_0_0_1_n_n none u.dS u.k (constant S128x128 .f32 0#32)
noncomputable def dK : FVec Ideal S512x128 .f32 := matmul dot_S128x512_S128x128_S512x128_0_0_1_1_n_n none u.dS u.q (constant S512x128 .f32 0#32)
noncomputable def dV : FVec Ideal S512x128 .f32 := matmul dot_S128x512_S128x128_S512x128_0_0_1_1_n_n none u.P u.o (constant S512x128 .f32 0#32)

end Unit4

namespace Unit2

variable (u : Unit2)

noncomputable def s : FVec Ideal S128x256 .f32 := matmul dot_S128x128_S256x128_S128x256_1_1_0_0_n_n none (mulf u.q (broadcast S128x128 (FloatOps.ofBits FTy.bf16 15872#16))) u.k (constant S128x256 .f32 0#32)
noncomputable def g : FVec Ideal S128x256 .f32 := matmul dot_S128x128_S256x128_S128x256_1_1_0_0_n_n none u.o u.v (constant S128x256 .f32 0#32)
noncomputable def p0 : FVec Ideal S128x128 .f32 := wt (extractStridedSlice S128x128 ![0, 0] u.b slices_S128x256_o0_0_S128x128) (extractStridedSlice S128x128 ![0, 0] u.s slices_S128x256_o0_0_S128x128) (extractStridedSlice S128x1 ![0, 0] u.l slices_S128x128_o0_0_S128x1)
noncomputable def ds0 : FVec Ideal S128x128 .bf16 := ds u.p0 (extractStridedSlice S128x128 ![0, 0] u.g slices_S128x256_o0_0_S128x128) (extractStridedSlice S128x1 ![0, 0] u.d slices_S128x128_o0_0_S128x1)
noncomputable def p1 : FVec Ideal S128x128 .f32 := wt (extractStridedSlice S128x128 ![0, 128] u.b slices_S128x256_o0_128_S128x128) (extractStridedSlice S128x128 ![0, 128] u.s slices_S128x256_o0_128_S128x128) (extractStridedSlice S128x1 ![0, 64] u.l slices_S128x128_o0_64_S128x1)
noncomputable def ds1 : FVec Ideal S128x128 .bf16 := ds u.p1 (extractStridedSlice S128x128 ![0, 128] u.g slices_S128x256_o0_128_S128x128) (extractStridedSlice S128x1 ![0, 64] u.d slices_S128x128_o0_64_S128x1)
noncomputable def P : FVec Ideal S128x256 .bf16 := concatenate S128x256 1 [⟨S128x128, (truncf .bf16 u.p0 bitsLt_bf16_f32 : FVec Ideal S128x128 .bf16)⟩, ⟨S128x128, (truncf .bf16 u.p1 bitsLt_bf16_f32 : FVec Ideal S128x128 .bf16)⟩] concatenates_S128x128_S128x128_S128x256_d1
noncomputable def dS : FVec Ideal S128x256 .bf16 := concatenate S128x256 1 [⟨S128x128, u.ds0⟩, ⟨S128x128, u.ds1⟩] concatenates_S128x128_S128x128_S128x256_d1
noncomputable def dK : FVec Ideal S256x128 .f32 := matmul dot_S128x256_S128x128_S256x128_0_0_1_1_n_n none u.dS u.q (constant S256x128 .f32 0#32)
noncomputable def dV : FVec Ideal S256x128 .f32 := matmul dot_S128x256_S128x128_S256x128_0_0_1_1_n_n none u.P u.o (constant S256x128 .f32 0#32)

end Unit2

/-- Each head's own lanes of the unit's current block of keys, of its previous block, and of the block past the tile. -/
noncomputable def cur (r : FVec Ideal S512x128 .f32) : FVec Ideal S128x128 .f32 :=
  select lanes (extractStridedSlice S128x128 ![256, 0] r slices_S512x128_o256_0_S128x128) (extractStridedSlice S128x128 ![384, 0] r slices_S512x128_o384_0_S128x128)
noncomputable def prev (r : FVec Ideal S512x128 .f32) : FVec Ideal S128x128 .f32 :=
  select lanes (extractStridedSlice S128x128 ![0, 0] r slices_S512x128_o0_0_S128x128) (extractStridedSlice S128x128 ![128, 0] r slices_S512x128_o128_0_S128x128)
noncomputable def past (r : FVec Ideal S256x128 .f32) : FVec Ideal S128x128 .f32 :=
  select lanes (extractStridedSlice S128x128 ![0, 0] r slices_S256x128_o0_0_S128x128) (extractStridedSlice S128x128 ![128, 0] r slices_S256x128_o128_0_S128x128)

/-! ## What is stored at block (n, p), from the units of pair `p` -/

variable (u : Fin 4 → Fin 4 → Unit4) (t : Fin 4 → Unit2)

/-- What unit `n + 1` adds to block `n` of the keys' and of the values' gradient. -/
noncomputable def nextK (p n : Fin 4) : FVec Ideal S128x128 .f32 :=
  match n with
  | 0 => prev (u p 1).dK
  | 1 => prev (u p 2).dK
  | 2 => prev (u p 3).dK
  | 3 => past (t p).dK
noncomputable def nextV (p n : Fin 4) : FVec Ideal S128x128 .f32 :=
  match n with
  | 0 => prev (u p 1).dV
  | 1 => prev (u p 2).dV
  | 2 => prev (u p 3).dV
  | 3 => past (t p).dV

noncomputable def dqPiece (_t : Fin 4 → Unit2) (p n : Fin 4) : FVec Ideal S1x128x128 .f32 := shapeCast S1x128x128 (u p n).dQ shapeCasts_S128x128_S1x128x128
noncomputable def dkPiece (p n : Fin 4) : FVec Ideal S1x128x128 .f32 := shapeCast S1x128x128 (addf (cur (u p n).dK) (nextK u t p n)) shapeCasts_S128x128_S1x128x128
noncomputable def dvPiece (p n : Fin 4) : FVec Ideal S1x128x128 .f32 := shapeCast S1x128x128 (addf (cur (u p n).dV) (nextV u t p n)) shapeCasts_S128x128_S1x128x128

/-- All the stores, the last first. -/
noncomputable def stores : List (View.Piece (Elt Ideal) S3x512x512 .f32) := [
  ⟨Rect.unit ![2, 384, 384] S1x128x128.size (by decide), dvPiece u t 3 3⟩,
  ⟨Rect.unit ![1, 384, 384] S1x128x128.size (by decide), dkPiece u t 3 3⟩,
  ⟨Rect.unit ![2, 256, 384] S1x128x128.size (by decide), dvPiece u t 3 2⟩,
  ⟨Rect.unit ![1, 256, 384] S1x128x128.size (by decide), dkPiece u t 3 2⟩,
  ⟨Rect.unit ![0, 384, 384] S1x128x128.size (by decide), dqPiece u t 3 3⟩,
  ⟨Rect.unit ![2, 128, 384] S1x128x128.size (by decide), dvPiece u t 3 1⟩,
  ⟨Rect.unit ![1, 128, 384] S1x128x128.size (by decide), dkPiece u t 3 1⟩,
  ⟨Rect.unit ![0, 256, 384] S1x128x128.size (by decide), dqPiece u t 3 2⟩,
  ⟨Rect.unit ![2, 0, 384] S1x128x128.size (by decide), dvPiece u t 3 0⟩,
  ⟨Rect.unit ![1, 0, 384] S1x128x128.size (by decide), dkPiece u t 3 0⟩,
  ⟨Rect.unit ![0, 128, 384] S1x128x128.size (by decide), dqPiece u t 3 1⟩,
  ⟨Rect.unit ![0, 0, 384] S1x128x128.size (by decide), dqPiece u t 3 0⟩,
  ⟨Rect.unit ![2, 384, 256] S1x128x128.size (by decide), dvPiece u t 2 3⟩,
  ⟨Rect.unit ![1, 384, 256] S1x128x128.size (by decide), dkPiece u t 2 3⟩,
  ⟨Rect.unit ![2, 256, 256] S1x128x128.size (by decide), dvPiece u t 2 2⟩,
  ⟨Rect.unit ![1, 256, 256] S1x128x128.size (by decide), dkPiece u t 2 2⟩,
  ⟨Rect.unit ![0, 384, 256] S1x128x128.size (by decide), dqPiece u t 2 3⟩,
  ⟨Rect.unit ![2, 128, 256] S1x128x128.size (by decide), dvPiece u t 2 1⟩,
  ⟨Rect.unit ![1, 128, 256] S1x128x128.size (by decide), dkPiece u t 2 1⟩,
  ⟨Rect.unit ![0, 256, 256] S1x128x128.size (by decide), dqPiece u t 2 2⟩,
  ⟨Rect.unit ![2, 0, 256] S1x128x128.size (by decide), dvPiece u t 2 0⟩,
  ⟨Rect.unit ![1, 0, 256] S1x128x128.size (by decide), dkPiece u t 2 0⟩,
  ⟨Rect.unit ![0, 128, 256] S1x128x128.size (by decide), dqPiece u t 2 1⟩,
  ⟨Rect.unit ![0, 0, 256] S1x128x128.size (by decide), dqPiece u t 2 0⟩,
  ⟨Rect.unit ![2, 384, 128] S1x128x128.size (by decide), dvPiece u t 1 3⟩,
  ⟨Rect.unit ![1, 384, 128] S1x128x128.size (by decide), dkPiece u t 1 3⟩,
  ⟨Rect.unit ![2, 256, 128] S1x128x128.size (by decide), dvPiece u t 1 2⟩,
  ⟨Rect.unit ![1, 256, 128] S1x128x128.size (by decide), dkPiece u t 1 2⟩,
  ⟨Rect.unit ![0, 384, 128] S1x128x128.size (by decide), dqPiece u t 1 3⟩,
  ⟨Rect.unit ![2, 128, 128] S1x128x128.size (by decide), dvPiece u t 1 1⟩,
  ⟨Rect.unit ![1, 128, 128] S1x128x128.size (by decide), dkPiece u t 1 1⟩,
  ⟨Rect.unit ![0, 256, 128] S1x128x128.size (by decide), dqPiece u t 1 2⟩,
  ⟨Rect.unit ![2, 0, 128] S1x128x128.size (by decide), dvPiece u t 1 0⟩,
  ⟨Rect.unit ![1, 0, 128] S1x128x128.size (by decide), dkPiece u t 1 0⟩,
  ⟨Rect.unit ![0, 128, 128] S1x128x128.size (by decide), dqPiece u t 1 1⟩,
  ⟨Rect.unit ![0, 0, 128] S1x128x128.size (by decide), dqPiece u t 1 0⟩,
  ⟨Rect.unit ![2, 384, 0] S1x128x128.size (by decide), dvPiece u t 0 3⟩,
  ⟨Rect.unit ![1, 384, 0] S1x128x128.size (by decide), dkPiece u t 0 3⟩,
  ⟨Rect.unit ![2, 256, 0] S1x128x128.size (by decide), dvPiece u t 0 2⟩,
  ⟨Rect.unit ![1, 256, 0] S1x128x128.size (by decide), dkPiece u t 0 2⟩,
  ⟨Rect.unit ![0, 384, 0] S1x128x128.size (by decide), dqPiece u t 0 3⟩,
  ⟨Rect.unit ![2, 128, 0] S1x128x128.size (by decide), dvPiece u t 0 1⟩,
  ⟨Rect.unit ![1, 128, 0] S1x128x128.size (by decide), dkPiece u t 0 1⟩,
  ⟨Rect.unit ![0, 256, 0] S1x128x128.size (by decide), dqPiece u t 0 2⟩,
  ⟨Rect.unit ![2, 0, 0] S1x128x128.size (by decide), dvPiece u t 0 0⟩,
  ⟨Rect.unit ![1, 0, 0] S1x128x128.size (by decide), dkPiece u t 0 0⟩,
  ⟨Rect.unit ![0, 128, 0] S1x128x128.size (by decide), dqPiece u t 0 1⟩,
  ⟨Rect.unit ![0, 0, 0] S1x128x128.size (by decide), dqPiece u t 0 0⟩]

section Run

variable (c : Dev nD) (i : grid0.Coords) (arg1 : Memref sig .tc .vmem S1x512x512 .bf16) (harg1 : arg1.IsWhole) (arg2 : Memref sig .tc .vmem S1x512x512 .bf16) (harg2 : arg2.IsWhole) (arg3 : Memref sig .tc .vmem S1x512x512 .bf16) (harg3 : arg3.IsWhole) (arg4 : Memref sig .tc .vmem S1x128x512 .bf16) (harg4 : arg4.IsWhole) (arg5 : Memref sig .tc .vmem S1x128x512 .bf16) (harg5 : arg5.IsWhole) (arg6 : Memref sig .tc .vmem S512x512 .bf16) (harg6 : arg6.IsWhole) (arg7 : Memref sig .tc .vmem S512x512 .f32) (harg7 : arg7.IsWhole) (arg8 : Memref sig .tc .vmem S512x512 .f32) (harg8 : arg8.IsWhole) (arg9 : Memref sig .tc .vmem S1x128x512 .bf16) (harg9 : arg9.IsWhole) (arg10 : Memref sig .tc .vmem S128x512 .bf16) (harg10 : arg10.IsWhole) (arg11 : Memref sig .tc .vmem S128x512 .f32) (harg11 : arg11.IsWhole) (arg12 : Memref sig .tc .vmem S128x512 .f32) (harg12 : arg12.IsWhole) (arg13 : Memref sig .tc .vmem S3x512x512 .f32) (harg13 : arg13.IsWhole) (arg14 : Memref sig .tc .vmem S5120x128 .bf16) (harg14 : arg14.IsWhole) (arg15 : Memref sig .tc .vmem S5120x128 .bf16) (harg15 : arg15.IsWhole)
  (x0 : Vec Ideal S1x512x512 .bf16) (x1 : Vec Ideal S1x512x512 .bf16) (x2 : Vec Ideal S1x512x512 .bf16) (x3 : Vec Ideal S1x128x512 .bf16) (x4 : Vec Ideal S1x128x512 .bf16) (x5 : Vec Ideal S512x512 .bf16) (x6 : Vec Ideal S512x512 .f32) (x7 : Vec Ideal S512x512 .f32) (x8 : Vec Ideal S1x128x512 .bf16) (x9 : Vec Ideal S128x512 .bf16) (x10 : Vec Ideal S128x512 .f32) (x11 : Vec Ideal S128x512 .f32)

/-- Row block `b` of pair `p` in a scratch buffer starts here. -/
noncomputable def base (p : Fin 4) (n : ℕ) : ℕ := (5 * (p : ℕ) + n) * 256

noncomputable def units (p n : Fin 4) : Unit4 where
  q := big arg1 harg1 x0 p n
  o := flatB arg6 harg6 x5 p n
  l := flatF arg7 harg7 x6 p n
  d := flatF arg8 harg8 x7 p n
  k := arg14.view.readCov (fills arg4 harg4 x3 arg2 harg2 x1) (Rect.unit (s := S5120x128) ![base p n, 0] S512x128.size (inb_scratch 512 _ (by unfold base; omega))).toLoadRect
  v := arg15.view.readCov (fills arg5 harg5 x4 arg3 harg3 x2) (Rect.unit (s := S5120x128) ![base p n, 0] S512x128.size (inb_scratch 512 _ (by unfold base; omega))).toLoadRect
  b := match n with
    | 0 => kernelRun0_A.sl.v57 i
    | _ => kernelRun0_A.sl.v54

noncomputable def tails (p : Fin 4) : Unit2 where
  q := halo arg9 harg9 x8 p
  o := edgeB arg10 harg10 x9 p
  l := edgeF arg11 harg11 x10 p
  d := edgeF arg12 harg12 x11 p
  k := arg14.view.readCov (fills arg4 harg4 x3 arg2 harg2 x1) (Rect.unit (s := S5120x128) ![base p 4, 0] S256x128.size (inb_scratch 256 _ (by unfold base; omega))).toLoadRect
  v := arg15.view.readCov (fills arg5 harg5 x4 arg3 harg3 x2) (Rect.unit (s := S5120x128) ![base p 4, 0] S256x128.size (inb_scratch 256 _ (by unfold base; omega))).toLoadRect
  b := kernelRun0_A.sl.v60 i

theorem run_stores : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11).1
    = stores (units i arg1 harg1 arg2 harg2 arg3 harg3 arg4 harg4 arg5 harg5 arg6 harg6 arg7 harg7 arg8 harg8 arg14 arg15 x0 x1 x2 x3 x4 x5 x6 x7)
      (tails i arg2 harg2 arg3 harg3 arg4 harg4 arg5 harg5 arg9 harg9 arg10 harg10 arg11 harg11 arg12 harg12 arg14 arg15 x1 x2 x3 x4 x8 x9 x10 x11) := by sl_kernel_rfl

end Run

end Cert.KernelIdeal.Tile

end
-- ==== Proof.Rows.lean ====
/- The real mathematics of one masked softmax attention and of its gradient: one sequence, one head, queries and keys
   indexed by `ι`, features by `ε`. Nothing here names a program. -/
module

public import Idealize.ShloMosaic.PureOps.Ideal
public import Idealize.ShloMosaic.PureOps.Ideal.Laws

@[expose] public section

noncomputable section

namespace Attn

open Finset Idealize.ShloMosaic

/-! ## Sums of reals among the extended reals -/

theorem coe_sum {α : Type*} (s : Finset α) (f : α → ℝ) : ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

theorem sum_coe {α : Type*} (s : Finset α) {F : α → EReal} {f : α → ℝ} (h : ∀ a ∈ s, F a = (f a : EReal)) :
    ∑ a ∈ s, F a = ((∑ a ∈ s, f a : ℝ) : EReal) := by
  rw [coe_sum]; exact Finset.sum_congr rfl h

theorem div_coe_coe (x : ℝ) {y : ℝ} (hy : y ≠ 0) : Ideal.div (x : EReal) (y : EReal) = ((x / y : ℝ) : EReal) := by
  unfold Ideal.div
  rw [if_neg (by simpa using hy), div_eq_mul_inv, EReal.coe_mul, EReal.coe_inv]

theorem log_coe_pos {x : ℝ} (hx : 0 < x) : Ideal.log (x : EReal) = ((Real.log x : ℝ) : EReal) := by
  rw [Ideal.log_coe, if_neg (not_le.mpr hx)]

/-! ## One head of one sequence -/

/-- Queries, keys, values and the cotangent of the output. -/
structure Head (ι ε : Type) where
  Q : ι → ε → ℝ
  K : ι → ε → ℝ
  V : ι → ε → ℝ
  C : ι → ε → ℝ

variable {ι ε : Type} [Fintype ι] [Fintype ε] (ok : ι → ι → Prop) [∀ i j, Decidable (ok i j)]

namespace Head

variable (x : Head ι ε)

/-- The score of query `i` against key `j`. -/
def s (i j : ι) : ℝ := (∑ e, x.Q i e * x.K j e) * (1 / 8)

/-- The score, −∞ where the mask forbids the pair. -/
def S (i j : ι) : EReal := if ok i j then ((x.s i j : ℝ) : EReal) else ⊥

/-- The row's maximum, a real number when the row has an allowed pair. -/
def M (i : ι) : ℝ := (Finset.univ.sup (x.S ok i)).toReal

/-- The row's unnormalised weights. -/
def P (i j : ι) : ℝ := if ok i j then Real.exp (x.s i j - x.M ok i) else 0

/-- The row's denominator. -/
def D (i : ι) : ℝ := ∑ j, x.P ok i j

/-- The row's numerator. -/
def num (i : ι) (e : ε) : ℝ := ∑ j, x.P ok i j * x.V j e

/-- The output. -/
def O (i : ι) (e : ε) : ℝ := x.num ok i e / x.D ok i

/-- The cotangent against the output. -/
def del (i : ι) : ℝ := ∑ e, x.C i e * x.O ok i e

/-- The cotangent against value `j`. -/
def G (i j : ι) : ℝ := ∑ e, x.C i e * x.V j e

/-- The normalised weight. -/
def W (i j : ι) : ℝ := x.P ok i j / x.D ok i

/-- The gradient with respect to the dot product of query `i` and key `j`. -/
def dS (i j : ι) : ℝ := x.W ok i j * (x.G i j - x.del ok i) * (1 / 8)

def dQ (i : ι) (e : ε) : ℝ := ∑ j, x.dS ok i j * x.K j e
def dK (j : ι) (e : ε) : ℝ := ∑ i, x.dS ok i j * x.Q i e
def dV (j : ι) (e : ε) : ℝ := ∑ i, x.W ok i j * x.C i e

/-- The three gradients: of the queries, the keys and the values. -/
def grad (w : Fin 3) (i : ι) (e : ε) : ℝ :=
  match w with
  | 0 => x.dQ ok i e
  | 1 => x.dK ok i e
  | 2 => x.dV ok i e

variable {ok}

theorem sup_eq (i : ι) (h : ∃ j, ok i j) : Finset.univ.sup (x.S ok i) = ((x.M ok i : ℝ) : EReal) := by
  obtain ⟨j₀, hj₀⟩ := h
  have hne : (Finset.univ : Finset ι).Nonempty := ⟨j₀, Finset.mem_univ _⟩
  obtain ⟨j, -, hj⟩ := Finset.exists_mem_eq_sup _ hne (x.S ok i)
  have hle : x.S ok i j₀ ≤ x.S ok i j := hj ▸ Finset.le_sup (f := x.S ok i) (Finset.mem_univ j₀)
  have hok : ok i j := by
    by_contra hn
    simp only [S, if_pos hj₀, if_neg hn, le_bot_iff, EReal.coe_ne_bot] at hle
  unfold M
  rw [hj]
  simp only [S, if_pos hok, EReal.toReal_coe]

theorem P_nonneg (i j : ι) : 0 ≤ x.P ok i j := by
  unfold P; split
  · exact (Real.exp_pos _).le
  · exact le_rfl

theorem D_pos (i : ι) (h : ∃ j, ok i j) : 0 < x.D ok i := by
  obtain ⟨j, hj⟩ := h
  refine Finset.sum_pos' (fun k _ => x.P_nonneg i k) ⟨j, Finset.mem_univ _, ?_⟩
  rw [P, if_pos hj]; exact Real.exp_pos _

/-- The exponential of a masked score below the row's maximum. -/
theorem exp_sub (i j : ι) : Ideal.exp (x.S ok i j - ((x.M ok i : ℝ) : EReal)) = ((x.P ok i j : ℝ) : EReal) := by
  unfold S P
  split
  · rw [← EReal.coe_sub, Ideal.exp_coe]
  · rw [EReal.bot_sub]; rfl

/-- The weight from the row's saved log-sum. -/
theorem exp_lse (i j : ι) (h : ∃ j, ok i j) (hok : ok i j) :
    Real.exp (x.s i j - (x.M ok i + Real.log (x.D ok i))) = x.W ok i j := by
  rw [← sub_sub, Real.exp_sub, Real.exp_log (x.D_pos i h), W, P, if_pos hok]

theorem W_of_not (i j : ι) (hok : ¬ ok i j) : x.W ok i j = 0 := by rw [W, P, if_neg hok, zero_div]

theorem dS_of_not (i j : ι) (hok : ¬ ok i j) : x.dS ok i j = 0 := by rw [dS, x.W_of_not i j hok]; ring

theorem sum_W (i : ι) (h : ∃ j, ok i j) : ∑ j, x.W ok i j = 1 := by
  unfold W
  rw [← Finset.sum_div]; exact div_self (x.D_pos i h).ne'

/-- The cotangent of the output, spread over the row's weights, adds up to `del`. -/
theorem sum_W_G (i : ι) : ∑ j, x.W ok i j * x.G i j = x.del ok i := by
  unfold G del O num W
  simp only [Finset.mul_sum, Finset.sum_div]
  rw [Finset.sum_comm]
  exact Finset.sum_congr rfl fun e _ => Finset.sum_congr rfl fun j _ => by ring

/-- What reaches the weights before the maximum's own share. -/
theorem pull_eq (i j : ι) :
    ((∑ e, x.C i e / x.D ok i * x.V j e) + -(∑ e, x.C i e * (1 / (x.D ok i * x.D ok i)) * x.num ok i e)) * x.P ok i j
      = x.W ok i j * (x.G i j - x.del ok i) := by
  have h1 : ∑ e, x.C i e / x.D ok i * x.V j e = x.G i j / x.D ok i := by
    unfold G; rw [Finset.sum_div]; exact Finset.sum_congr rfl fun e _ => by ring
  have h2 : ∑ e, x.C i e * (1 / (x.D ok i * x.D ok i)) * x.num ok i e = x.del ok i / x.D ok i := by
    unfold del O; rw [Finset.sum_div]; refine Finset.sum_congr rfl fun e _ => ?_
    by_cases hD : x.D ok i = 0
    · simp [hD]
    · field_simp
  rw [h1, h2, W]; ring

/-- Through the row's maximum nothing flows: the weights' pulls cancel. -/
theorem sum_pull (i : ι) (h : ∃ j, ok i j) : ∑ j, -(x.W ok i j * (x.G i j - x.del ok i)) = 0 := by
  rw [Finset.sum_neg_distrib, neg_eq_zero]
  simp only [mul_sub]
  rw [Finset.sum_sub_distrib, x.sum_W_G, ← Finset.sum_mul, x.sum_W i h, one_mul, sub_self]

end Head

end Attn

end
-- ==== Proof.RefRead.lean ====
/- The reference's stages read at an index, over finite arguments, as the real quantities of Rows. -/
module

public import proofs.«01_k».proof.Proof.Rows
public import proofs.«01_k».proof.Proof.Gen.ReferenceIdeal.Run
public import Idealize.ShloMosaic.Lib.Pointwise
public import Idealize.ShloMosaic.Lib.Tactic.WordOmega

@[expose] public section

set_option maxRecDepth 16384

noncomputable section

namespace Attn

open Idealize.ShloMosaic

/-- Query `i` may look at key `j`: itself and the 128 before it. -/
def ok (i j : Fin 512) : Prop := (j : ℕ) ≤ (i : ℕ) ∧ (i : ℕ) ≤ (j : ℕ) + 128

instance (i j : Fin 512) : Decidable (ok i j) := by unfold ok; infer_instance

theorem ok_self (i : Fin 512) : ∃ j, ok i j := ⟨i, le_rfl, by omega⟩

/-- Position `i` of sequence `r` among the tokens. -/
abbrev row (r : Fin 16) (i : Fin 512) : Fin 8192 := ⟨(r : ℕ) * 512 + (i : ℕ), by omega⟩

/-- Feature `e` of head `h` among the columns. -/
abbrev col (h : Fin 8) (e : Fin 64) : Fin 512 := ⟨(h : ℕ) * 64 + (e : ℕ), by omega⟩

/-- Head `h` of sequence `r`. -/
def head (X : Fin 3 → Fin 8192 → Fin 512 → ℝ) (Y : Fin 8192 → Fin 512 → ℝ) (r : Fin 16) (h : Fin 8) : Head (Fin 512) (Fin 64) where
  Q i e := X 0 (row r i) (col h e)
  K i e := X 1 (row r i) (col h e)
  V i e := X 2 (row r i) (col h e)
  C i e := Y (row r i) (col h e)

end Attn

namespace Cert.ReferenceIdeal.Read

open Cert.ReferenceIdeal Cert.ReferenceIdeal.Gen Cert.ReferenceIdeal.Value Idealize.ShloMosaic Idealize.ShloMosaic.StableHlo Attn

/-- The two arguments hold the reals `X` and `Y`. -/
structure Holds (V0 : Valuation τ sig (Elt Ideal)) (X : Fin 3 → Fin 8192 → Fin 512 → ℝ) (Y : Fin 8192 → Fin 512 → ℝ) : Prop where
  x : ∀ w t a, (V0 (Proc.devRef .tc main_arg0) : S3x8192x512.Idx → EReal) (ix3 w t a) = ((X w t a : ℝ) : EReal)
  y : ∀ t a, (V0 (Proc.devRef .tc main_arg1) : S8192x512.Idx → EReal) (ix2 t a) = ((Y t a : ℝ) : EReal)

variable {V0 : Valuation τ sig (Elt Ideal)} {X : Fin 3 → Fin 8192 → Fin 512 → ℝ} {Y : Fin 8192 → Fin 512 → ℝ}

theorem q_at (H : Holds V0 X Y) (r : Fin 16) (i : Fin 512) (h : Fin 8) (e : Fin 64) :
    (res_main_v3 V0 : S16x512x8x64.Idx → EReal) (ix4 r i h e) = (((head X Y r h).Q i e : ℝ) : EReal) := by
  unfold res_main_v3
  pointwise
  exact H.x _ _ _

theorem k_at (H : Holds V0 X Y) (r : Fin 16) (i : Fin 512) (h : Fin 8) (e : Fin 64) :
    (res_main_v7 V0 : S16x512x8x64.Idx → EReal) (ix4 r i h e) = (((head X Y r h).K i e : ℝ) : EReal) := by
  unfold res_main_v7
  pointwise
  exact H.x _ _ _

theorem v_at (H : Holds V0 X Y) (r : Fin 16) (i : Fin 512) (h : Fin 8) (e : Fin 64) :
    (res_main_v11 V0 : S16x512x8x64.Idx → EReal) (ix4 r i h e) = (((head X Y r h).V i e : ℝ) : EReal) := by
  unfold res_main_v11
  pointwise
  exact H.x _ _ _

theorem c_at (H : Holds V0 X Y) (r : Fin 16) (h : Fin 8) (i : Fin 512) (e : Fin 64) :
    (res_main_v13 V0 : S16x8x512x64.Idx → EReal) (ix4 r h i e) = (((head X Y r h).C i e : ℝ) : EReal) := by
  unfold res_main_v13
  pointwise
  exact H.y _ _

/-- The word 0x3E000000 is one eighth. -/
theorem eighth : Ideal.ofBits .f32 0x3E000000#32 = ((1 / 8 : ℝ) : EReal) := by
  simp [Ideal.ofBits, Ideal.ieee, -EReal.coe_mul]; norm_num

/-- The word 0xFF800000 is −∞. -/
theorem bottom : Ideal.ofBits .f32 0xFF800000#32 = (⊥ : EReal) := by
  simp [Ideal.ofBits, Ideal.ieee, -EReal.coe_mul]

/-- The words of the mask's two comparisons. -/
theorem band (i j : Fin 512) : IntOp.andi (IntOp.cmpi .sge (IntOp.subi (BitVec.ofNat 32 ↑i) (BitVec.ofNat 32 ↑j)) 0#32)
      (IntOp.cmpi .sle (IntOp.subi (BitVec.ofNat 32 ↑i) (BitVec.ofNat 32 ↑j)) 128#32) = if ok i j then 1#1 else 0#1 := by
  have hi := i.isLt
  have hj := j.isLt
  have hs : (IntOp.subi (BitVec.ofNat 32 ↑i) (BitVec.ofNat 32 ↑j)).toInt = (i : ℤ) - (j : ℤ) := by
    unfold IntOp.subi
    rw [BitVec.toInt_eq_toNat_bmod, BitVec.toNat_sub, BitVec.toNat_ofNat, BitVec.toNat_ofNat, Int.bmod_def]
    split <;> omega
  rw [WordCmp.cmpi_sge_eq, WordCmp.cmpi_sle_eq, hs]
  show BitVec.ofBool (decide ((0 : ℤ) ≤ (i : ℤ) - (j : ℤ))) &&& BitVec.ofBool (decide ((i : ℤ) - (j : ℤ) ≤ (128 : ℤ))) = _
  by_cases h1 : (j : ℕ) ≤ (i : ℕ)
  · by_cases h2 : (i : ℕ) ≤ (j : ℕ) + 128
    · rw [if_pos ⟨h1, h2⟩, decide_eq_true (by omega), decide_eq_true (by omega)]; rfl
    · rw [if_neg fun hk => h2 hk.2, decide_eq_true (by omega), decide_eq_false (by omega)]; rfl
  · rw [if_neg fun hk => h1 hk.1, decide_eq_false (by omega)]
    exact BitVec.zero_and

theorem mask_at (r : Fin 16) (h : Fin 8) (i j : Fin 512) :
    (res_main_v29_1 V0 : S16x8x512x512.Idx → BitVec 1) (ix4 r h i j) = if ok i j then 1#1 else 0#1 := by
  unfold res_main_v29_1 res_main_v23
  pointwise
  exact band i j

theorem S_at (H : Holds V0 X Y) (r : Fin 16) (h : Fin 8) (i j : Fin 512) :
    (res_main_v29_0 V0 : S16x8x512x512.Idx → EReal) (ix4 r h i j) = (head X Y r h).S ok i j := by
  unfold res_main_v29_0
  pointwise [mask_at]
  rw [Attn.sum_coe (f := fun e => (head X Y r h).Q i e * (head X Y r h).K j e) _
    (fun e _ => by rw [q_at H, k_at H, EReal.coe_mul]), eighth, ← EReal.coe_mul]
  unfold Head.S
  split
  · rfl
  · exact bottom

theorem max_at (H : Holds V0 X Y) (r : Fin 16) (h : Fin 8) (i : Fin 512) :
    (res_main_v30 V0 : S16x8x512.Idx → EReal) (ix3 r h i) = (((head X Y r h).M ok i : ℝ) : EReal) := by
  unfold res_main_v30
  pointwise
  refine (Shape.ReducesTo.fold_fiber_r4_a3 reducesTo_S16x8x512x512_S16x8x512_d3 (ix3 r h i) (max : EReal → EReal → EReal) _ _).trans ?_
  rw [bottom, ← Head.sup_eq _ _ (ok_self i)]
  exact Finset.fold_congr fun j _ => S_at H r h i j

theorem P_at (H : Holds V0 X Y) (r : Fin 16) (h : Fin 8) (i j : Fin 512) :
    (res_main_v39 V0 : S16x8x512x512.Idx → EReal) (ix4 r h i j) = (((head X Y r h).P ok i j : ℝ) : EReal) := by
  unfold res_main_v39
  pointwise
  rw [S_at H, max_at H, Head.exp_sub]

theorem num_at (H : Holds V0 X Y) (r : Fin 16) (h : Fin 8) (i : Fin 512) (e : Fin 64) :
    (res_main_v41 V0 : S16x8x512x64.Idx → EReal) (ix4 r h i e) = (((head X Y r h).num ok i e : ℝ) : EReal) := by
  unfold res_main_v41
  pointwise
  exact Attn.sum_coe _ fun j _ => by rw [P_at H, v_at H, EReal.coe_mul]

theorem D_at (H : Holds V0 X Y) (r : Fin 16) (h : Fin 8) (i : Fin 512) :
    (res_main_v42 V0 : S16x8x512x1.Idx → EReal) (ix4 r h i 0) = (((head X Y r h).D ok i : ℝ) : EReal) := by
  unfold res_main_v42
  pointwise
  exact Attn.sum_coe _ fun j _ => P_at H r h i j

theorem D_ne (r : Fin 16) (h : Fin 8) (i : Fin 512) : (head X Y r h).D ok i ≠ 0 := (Head.D_pos _ i (ok_self i)).ne'

theorem CD_at (H : Holds V0 X Y) (r : Fin 16) (h : Fin 8) (i : Fin 512) (e : Fin 64) :
    (res_main_v55 V0 : S16x8x512x64.Idx → EReal) (ix4 r h i e)
      = (((head X Y r h).C i e / (head X Y r h).D ok i : ℝ) : EReal) := by
  unfold res_main_v55
  pointwise
  rw [c_at H, D_at H, Attn.div_coe_coe _ (D_ne r h i)]

theorem pull_at (H : Holds V0 X Y) (r : Fin 16) (h : Fin 8) (i j : Fin 512) :
    (res_main_v62 V0 : S16x8x512x512.Idx → EReal) (ix4 r h i j)
      = (((head X Y r h).W ok i j * ((head X Y r h).G i j - (head X Y r h).del ok i) : ℝ) : EReal) := by
  unfold res_main_v62
  pointwise
  rw [← Head.pull_eq, P_at H, EReal.coe_mul, EReal.coe_add, EReal.coe_neg]
  congr 2
  · exact Attn.sum_coe _ fun e _ => by rw [CD_at H, v_at H, EReal.coe_mul]
  · refine (Fin.sum_univ_one _).trans (congrArg (fun a : EReal => -a) (Attn.sum_coe _ fun e _ => ?_))
    rw [c_at H, D_at H, num_at H, ← EReal.coe_mul, ← EReal.coe_one, Attn.div_coe_coe _ (mul_ne_zero (D_ne r h i) (D_ne r h i)),
      ← EReal.coe_mul, ← EReal.coe_mul]

/-- How many keys of a row attain its maximum, key by key. -/
theorem tie_at (H : Holds V0 X Y) (r : Fin 16) (h : Fin 8) (i j : Fin 512) :
    (res_main_v34 V0 : S16x8x512x512.Idx → EReal) (ix4 r h i j)
      = ((if (head X Y r h).S ok i j = (((head X Y r h).M ok i : ℝ) : EReal) then 1 else 0 : ℝ) : EReal) := by
  unfold res_main_v34
  pointwise
  rw [S_at H, max_at H]
  by_cases hs : (head X Y r h).S ok i j = (((head X Y r h).M ok i : ℝ) : EReal)
  · rw [if_pos hs, decide_eq_true hs]; show (((1 : ℕ) : ℝ) : EReal) = _; norm_num
  · rw [if_neg hs, decide_eq_false hs]; show (((0 : ℕ) : ℝ) : EReal) = _; norm_num

theorem dS_at (H : Holds V0 X Y) (r : Fin 16) (h : Fin 8) (i j : Fin 512) :
    (res_main_v73 V0 : S16x8x512x512.Idx → EReal) (ix4 r h i j) = (((head X Y r h).dS ok i j : ℝ) : EReal) := by
  unfold res_main_v73
  pointwise
  have hn : ∀ f : Fin 512 → EReal, (∀ j, f j = (((head X Y r h).W ok i j * ((head X Y r h).G i j - (head X Y r h).del ok i) : ℝ) : EReal)) →
      ∑ _ : Fin 1, ∑ j, -f j = ((0 : ℝ) : EReal) := by
    intro f hf
    rw [Fin.sum_univ_one, Attn.sum_coe _ (f := fun j => -((head X Y r h).W ok i j * ((head X Y r h).G i j - (head X Y r h).del ok i)))
      (fun j _ => by rw [hf, ← EReal.coe_neg]), Head.sum_pull _ i (ok_self i)]
  obtain ⟨j₀, -, hj₀⟩ := Finset.exists_mem_eq_sup (Finset.univ : Finset (Fin 512)) ⟨i, Finset.mem_univ _⟩ ((head X Y r h).S ok i)
  have hc : ∀ f : Fin 512 → EReal,
      (∀ j, f j = ((if (head X Y r h).S ok i j = (((head X Y r h).M ok i : ℝ) : EReal) then 1 else 0 : ℝ) : EReal)) →
      ∑ j, f j = ((∑ j : Fin 512, if (head X Y r h).S ok i j = (((head X Y r h).M ok i : ℝ) : EReal) then 1 else 0 : ℝ) : EReal) :=
    fun f hf => Attn.sum_coe _ fun j _ => hf j
  have hpos : (∑ j : Fin 512, if (head X Y r h).S ok i j = (((head X Y r h).M ok i : ℝ) : EReal) then 1 else 0 : ℝ) ≠ 0 := by
    refine (Finset.sum_pos' (fun j _ => by split <;> norm_num) ⟨j₀, Finset.mem_univ _, ?_⟩).ne'
    rw [if_pos (by rw [← Head.sup_eq _ _ (ok_self i), hj₀])]; norm_num
  rw [hn _ (pull_at H r h i), hc _ (tie_at H r h i), Attn.div_coe_coe _ hpos, zero_div, tie_at H, ← EReal.coe_mul, zero_mul, pull_at H, ← EReal.coe_add, add_zero, eighth,
    ← EReal.coe_mul, mask_at]
  by_cases hk : ok i j
  · rw [if_pos hk]; rfl
  · rw [if_neg hk, Head.dS_of_not _ _ _ hk]; rfl

/-- The program's result. -/
def out (V0 : Valuation τ sig (Elt Ideal)) : S3x8192x512.Idx → EReal :=
  shapeCast _ ((concatenate S3x16x512x8x64 0 [⟨S1x16x512x8x64, ((broadcastInDim S1x16x512x8x64 ![1, 2, 3, 4] bcast_S16x512x8x64_S1x16x512x8x64_1_2_3_4 (transpose S16x512x8x64 [0, 2, 1, 3] (Host.dotGeneral (φ₁ := .f32) (φ₂ := .f32) dot_S16x8x512x512_S16x512x8x64_S16x8x512x64_3_1_2_3_01_02 none (res_main_v73 V0) (res_main_v7 V0)) transposes_S16x8x512x64_S16x512x8x64_0_2_1_3)) : (⟨S1x16x512x8x64, .f32⟩ : BufTy).Contents (Elt Ideal))⟩, ⟨S1x16x512x8x64, ((broadcastInDim S1x16x512x8x64 ![1, 2, 3, 4] bcast_S16x512x8x64_S1x16x512x8x64_1_2_3_4 (transpose S16x512x8x64 [0, 2, 1, 3] (Host.dotGeneral (φ₁ := .f32) (φ₂ := .f32) dot_S16x8x512x512_S16x512x8x64_S16x8x512x64_2_1_3_3_01_02 none (res_main_v73 V0) (res_main_v3 V0)) transposes_S16x8x512x64_S16x512x8x64_0_2_1_3)) : (⟨S1x16x512x8x64, .f32⟩ : BufTy).Contents (Elt Ideal))⟩, ⟨S1x16x512x8x64, ((broadcastInDim S1x16x512x8x64 ![1, 2, 3, 4] bcast_S16x512x8x64_S1x16x512x8x64_1_2_3_4 (transpose S16x512x8x64 [0, 3, 1, 2] (Host.dotGeneral (φ₁ := .f32) (φ₂ := .f32) dot_S16x8x512x64_S16x8x512x512_S16x8x64x512_2_2_3_3_01_01 none (res_main_v55 V0) (res_main_v39 V0)) transposes_S16x8x64x512_S16x512x8x64_0_3_1_2)) : (⟨S1x16x512x8x64, .f32⟩ : BufTy).Contents (Elt Ideal))⟩] concatenates_S1x16x512x8x64_S1x16x512x8x64_S1x16x512x8x64_S3x16x512x8x64_d0 : (⟨S3x16x512x8x64, .f32⟩ : BufTy).Contents (Elt Ideal))) shapeCasts_S3x16x512x8x64_S3x8192x512

theorem row_div (r : Fin 16) (i : Fin 512) (hh : ((r : ℕ) * 512 + (i : ℕ)) / 512 < 16) : (⟨((r : ℕ) * 512 + (i : ℕ)) / 512, hh⟩ : Fin 16) = r :=
  Fin.ext (by have := i.isLt; simp only; omega)

theorem row_mod (r : Fin 16) (i : Fin 512) (hh : ((r : ℕ) * 512 + (i : ℕ)) % 512 < 512) : (⟨((r : ℕ) * 512 + (i : ℕ)) % 512, hh⟩ : Fin 512) = i :=
  Fin.ext (by have := i.isLt; simp only; omega)

theorem col_div (h : Fin 8) (e : Fin 64) (hh : ((h : ℕ) * 64 + (e : ℕ)) / 64 < 8) : (⟨((h : ℕ) * 64 + (e : ℕ)) / 64, hh⟩ : Fin 8) = h :=
  Fin.ext (by have := e.isLt; simp only; omega)

theorem col_mod (h : Fin 8) (e : Fin 64) (hh : ((h : ℕ) * 64 + (e : ℕ)) % 64 < 64) : (⟨((h : ℕ) * 64 + (e : ℕ)) % 64, hh⟩ : Fin 64) = e :=
  Fin.ext (by have := e.isLt; simp only; omega)

theorem out_at (H : Holds V0 X Y) (w : Fin 3) (r : Fin 16) (i : Fin 512) (h : Fin 8) (e : Fin 64) :
    out V0 (ix3 w (row r i) (col h e)) = (((head X Y r h).grad ok w i e : ℝ) : EReal) := by
  unfold out
  fin_cases w
  · pointwise
    simp only [row_div, row_mod, col_div, col_mod]
    refine (Attn.sum_coe (f := fun j => (head X Y r h).dS ok i j * (head X Y r h).K j e) _ fun j _ => ?_).trans rfl
    rw [dS_at H, k_at H, EReal.coe_mul]
  · pointwise
    simp only [row_div, row_mod, col_div, col_mod]
    refine (Attn.sum_coe (f := fun j => (head X Y r h).dS ok j i * (head X Y r h).Q j e) _ fun j _ => ?_).trans rfl
    rw [dS_at H, q_at H, EReal.coe_mul]
  · pointwise
    simp only [row_div, row_mod, col_div, col_mod]
    refine (Attn.sum_coe (f := fun j => (head X Y r h).W ok j i * (head X Y r h).C j e) _ fun j _ => ?_).trans rfl
    rw [CD_at H, P_at H, ← EReal.coe_mul, Head.W, div_mul_eq_mul_div, div_mul_eq_mul_div, mul_comm]

end Cert.ReferenceIdeal.Read

end
-- ==== Proof.Units.lean ====
/- One unit of the tile kernel over reals: what it stores is its share of the masked attention's gradient. -/
module

public import proofs.«01_k».proof.Proof.Tile
public import proofs.«01_k».proof.Proof.RefRead

@[expose] public section

set_option maxRecDepth 16384

noncomputable section

namespace Attn

open Idealize.ShloMosaic

/-! ## Positions by block and lanes by head -/

/-- Position `a` of block `n`. -/
abbrev pos (n : Fin 4) (a : Fin 128) : Fin 512 := ⟨128 * (n : ℕ) + (a : ℕ), by omega⟩

/-- The block before. -/
abbrev before (n : Fin 4) : Fin 4 := ⟨(n : ℕ) - 1, by omega⟩

/-- Which head of the pair a lane belongs to, and the feature it holds. -/
abbrev hi (l : Fin 128) : Fin 2 := ⟨(l : ℕ) / 64, by omega⟩
abbrev lo (l : Fin 128) : Fin 64 := ⟨(l : ℕ) % 64, by omega⟩

theorem sum_blocks (f : Fin 512 → ℝ) : ∑ j, f j = ∑ m : Fin 4, ∑ a : Fin 128, f (pos m a) := by
  rw [← Fintype.sum_prod_type' (f := fun (m : Fin 4) (a : Fin 128) => f (pos m a))]
  refine (Fintype.sum_equiv (finProdFinEquiv (m := 4) (n := 128)) _ _ fun x => ?_).symm
  refine congrArg f (Fin.ext ?_)
  show 128 * (x.1 : ℕ) + (x.2 : ℕ) = (x.2 : ℕ) + 128 * (x.1 : ℕ)
  omega

/-- A sum over the keys one query sees: the block before and its own. -/
theorem sum_row (f : Fin 512 → ℝ) (n : Fin 4) (a : Fin 128) (h : ∀ j, ¬ ok (pos n a) j → f j = 0) :
    ∑ j, f j = (∑ k : Fin 128, if n = 0 then 0 else f (pos (before n) k)) + ∑ k : Fin 128, f (pos n k) := by
  have z : ∀ m : Fin 4, m ≠ n → (n = 0 ∨ m ≠ before n) → ∑ k : Fin 128, f (pos m k) = 0 := by
    intro m h1 h2
    refine Finset.sum_eq_zero fun k _ => h _ ?_
    rintro ⟨h3, h4⟩
    simp only [ne_eq, Fin.ext_iff, Fin.val_zero] at h1 h2 h3 h4
    omega
  rw [sum_blocks, Fin.sum_univ_four]
  fin_cases n
  · rw [z 1 (by decide) (by decide), z 2 (by decide) (by decide), z 3 (by decide) (by decide)]; simp
  · rw [z 2 (by decide) (by decide), z 3 (by decide) (by decide)]; simp; rfl
  · rw [z 0 (by decide) (by decide), z 3 (by decide) (by decide)]; simp; rfl
  · rw [z 0 (by decide) (by decide), z 1 (by decide) (by decide)]; simp; rfl

/-- A sum over the queries that see one key: its own block and the one after. -/
theorem sum_col (f : Fin 512 → ℝ) (m : Fin 4) (k : Fin 128) (h : ∀ i, ¬ ok i (pos m k) → f i = 0) :
    ∑ i, f i = (∑ a : Fin 128, f (pos m a)) + (if h : (m : ℕ) < 3 then ∑ a : Fin 128, f (pos ⟨(m : ℕ) + 1, by omega⟩ a) else 0) := by
  have z : ∀ n : Fin 4, n ≠ m → (n : ℕ) ≠ m + 1 → ∑ a : Fin 128, f (pos n a) = 0 := by
    intro n h1 h2
    refine Finset.sum_eq_zero fun a _ => h _ ?_
    rintro ⟨h3, h4⟩
    simp only [ne_eq, Fin.ext_iff] at h1 h2 h3 h4
    omega
  rw [sum_blocks, Fin.sum_univ_four]
  fin_cases m
  · rw [z 2 (by decide) (by decide), z 3 (by decide) (by decide)]; simp
  · rw [z 0 (by decide) (by decide), z 3 (by decide) (by decide)]; simp
  · rw [z 0 (by decide) (by decide), z 1 (by decide) (by decide)]; simp
  · rw [z 0 (by decide) (by decide), z 1 (by decide) (by decide), z 2 (by decide) (by decide)]; simp

/-- A sum over lanes of which only one head's are not zero. -/
theorem sum_lanes (F : Fin 128 → EReal) (g : Fin 2) (f : Fin 64 → ℝ)
    (h : ∀ l, F l = if hi l = g then ((f (lo l) : ℝ) : EReal) else 0) : ∑ l, F l = ((∑ e, f e : ℝ) : EReal) := by
  have e : ∑ l, F l = ∑ e : Fin 64, F ⟨e, by omega⟩ + ∑ e : Fin 64, F ⟨64 + e, by omega⟩ :=
    Fin.sum_univ_add (a := 64) (b := 64) F
  have h0 : ∀ e : Fin 64, F ⟨e, by omega⟩ = if (0 : Fin 2) = g then ((f e : ℝ) : EReal) else 0 := by
    intro e; rw [h]
    have a1 : hi ⟨(e : ℕ), by omega⟩ = 0 := Fin.ext (by simp)
    have a2 : lo ⟨(e : ℕ), by omega⟩ = e := Fin.ext (by simp)
    rw [a1, a2]
  have h1 : ∀ e : Fin 64, F ⟨64 + e, by omega⟩ = if (1 : Fin 2) = g then ((f e : ℝ) : EReal) else 0 := by
    intro e; rw [h]
    have a1 : hi ⟨64 + (e : ℕ), by omega⟩ = 1 := Fin.ext (by simp)
    have a2 : lo ⟨64 + (e : ℕ), by omega⟩ = e := Fin.ext (by simp)
    rw [a1, a2]
  rw [e, Finset.sum_congr rfl fun e _ => h0 e, Finset.sum_congr rfl fun e _ => h1 e]
  fin_cases g
  · simp [coe_sum]
  · simp [coe_sum]

theorem sum_four (F : Fin 512 → EReal) : ∑ x, F x = (∑ k : Fin 128, F ⟨k, by omega⟩) + ((∑ k : Fin 128, F ⟨128 + k, by omega⟩)
    + ((∑ k : Fin 128, F ⟨256 + k, by omega⟩) + ∑ k : Fin 128, F ⟨384 + k, by omega⟩)) := by
  refine (Fin.sum_univ_add (a := 128) (b := 384) F).trans (congrArg₂ _ rfl ?_)
  refine (Fin.sum_univ_add (a := 128) (b := 256) fun x : Fin 384 => F ⟨128 + x, by omega⟩).trans (congrArg₂ _ rfl ?_)
  refine (Fin.sum_univ_add (a := 128) (b := 128) fun x : Fin 256 => F ⟨128 + (128 + x), by omega⟩).trans (congrArg₂ _ ?_ ?_)
  · exact Finset.sum_congr rfl fun k _ => congrArg F (Fin.ext (by simp; omega))
  · exact Finset.sum_congr rfl fun k _ => congrArg F (Fin.ext (by simp; omega))

end Attn

namespace Cert.KernelIdeal.Tile

open Cert.KernelIdeal Cert.KernelIdeal.Gen Idealize.ShloMosaic Idealize.ShloMosaic.TcCoe Attn

/-- The word 0x3E00 is one eighth. -/
theorem eighthB : Ideal.ofBits .bf16 15872#16 = ((1 / 8 : ℝ) : EReal) := by
  simp [Ideal.ofBits, Ideal.ieee, -EReal.coe_mul]; norm_num

/-- The word 0x3E000000 is one eighth. -/
theorem eighthF : Ideal.ofBits .f32 1040187392#32 = ((1 / 8 : ℝ) : EReal) := by
  simp [Ideal.ofBits, Ideal.ieee, -EReal.coe_mul]; norm_num

theorem mask_bot : Named.named (F := Ideal) (φ := .f32) κ "mask" 4048155338#32 = (⊥ : EReal) := rfl

theorem pick_pos {p : Prop} [Decidable p] {α : Type} (h : p) (x y : α) : Scalar.select (if p then 1#1 else 0#1) x y = x := by rw [if_pos h]; rfl
theorem pick_neg {p : Prop} [Decidable p] {α : Type} (h : ¬ p) (x y : α) : Scalar.select (if p then 1#1 else 0#1) x y = y := by rw [if_neg h]; rfl

theorem lanes_at (a l : Fin 128) : lanes (ix2 a l) = if (l : ℕ) < 64 then 1#1 else 0#1 := by
  unfold lanes kernelRun0_A.sl.v24 kernelRun0_A.sl.v25
  pointwise
  have key : ∀ l : Fin 128, IntOp.cmpi CmpIPredicate.slt (BitVec.ofNat 32 ↑l) 64#32 = if (l : ℕ) < 64 then 1#1 else 0#1 := by decide
  exact key l

theorem half_zero {l : Fin 128} (h : (l : ℕ) < 64) : hi l = 0 := Fin.ext (by simp; omega)
theorem half_one {l : Fin 128} (h : ¬ (l : ℕ) < 64) : hi l = 1 := Fin.ext (by simp; omega)

/-- What a full unit at block `n` of a pair of heads holds. -/
structure Full (u : Unit4) (H : Fin 2 → Head (Fin 512) (Fin 64)) (n : Fin 4) : Prop where
  q : ∀ a l, u.q (ix2 a l) = (((H (hi l)).Q (pos n a) (lo l) : ℝ) : EReal)
  o : ∀ a l, u.o (ix2 a l) = (((H (hi l)).C (pos n a) (lo l) : ℝ) : EReal)
  l : ∀ a l, u.l (ix2 a l) = (((H (hi l)).M ok (pos n a) + Real.log ((H (hi l)).D ok (pos n a)) : ℝ) : EReal)
  d : ∀ a l, u.d (ix2 a l) = (((H (hi l)).del ok (pos n a) : ℝ) : EReal)
  kc : ∀ (g : Fin 2) (j : Fin 512) (k l : Fin 128), (j : ℕ) = 256 + 128 * g + k →
    u.k (ix2 j l) = if hi l = g then (((H g).K (pos n k) (lo l) : ℝ) : EReal) else 0
  vc : ∀ (g : Fin 2) (j : Fin 512) (k l : Fin 128), (j : ℕ) = 256 + 128 * g + k →
    u.v (ix2 j l) = if hi l = g then (((H g).V (pos n k) (lo l) : ℝ) : EReal) else 0
  kp : n ≠ 0 → ∀ (g : Fin 2) (j : Fin 512) (k l : Fin 128), (j : ℕ) = 128 * g + k →
    u.k (ix2 j l) = if hi l = g then (((H g).K (pos (before n) k) (lo l) : ℝ) : EReal) else 0
  vp : n ≠ 0 → ∀ (g : Fin 2) (j : Fin 512) (k l : Fin 128), (j : ℕ) = 128 * g + k →
    u.v (ix2 j l) = if hi l = g then (((H g).V (pos (before n) k) (lo l) : ℝ) : EReal) else 0
  bc : ∀ (g : Fin 2) (j : Fin 512) (a k : Fin 128), (j : ℕ) = 256 + 128 * g + k →
    IntOp.cmpi .sge (u.b (ix2 a j)) 0#32 = if (k : ℕ) ≤ a then 1#1 else 0#1
  bp : ∀ (g : Fin 2) (j : Fin 512) (a k : Fin 128), (j : ℕ) = 128 * g + k →
    IntOp.cmpi .sge (u.b (ix2 a j)) 0#32 = if n ≠ 0 ∧ (a : ℕ) ≤ k then 1#1 else 0#1

namespace Full

variable {u : Unit4} {H : Fin 2 → Head (Fin 512) (Fin 64)} {n : Fin 4} (F : Full u H n)

/-- The previous block's weights, none for the first block. -/
def Wp (H : Fin 2 → Head (Fin 512) (Fin 64)) (n : Fin 4) (g : Fin 2) (a k : Fin 128) : ℝ := if n = 0 then 0 else (H g).W ok (pos n a) (pos (before n) k)
def dSp (H : Fin 2 → Head (Fin 512) (Fin 64)) (n : Fin 4) (g : Fin 2) (a k : Fin 128) : ℝ := if n = 0 then 0 else (H g).dS ok (pos n a) (pos (before n) k)

include F

theorem sc (g : Fin 2) (j : Fin 512) (a k : Fin 128) (h : (j : ℕ) = 256 + 128 * g + k) : u.s (ix2 a j) = (((H g).s (pos n a) (pos n k) : ℝ) : EReal) := by
  unfold Unit4.s
  pointwise
  rw [sum_lanes _ g (fun e => (H g).Q (pos n a) e * (1 / 8) * (H g).K (pos n k) e)]
  · refine congrArg _ ?_
    unfold Head.s; rw [Finset.sum_mul]; exact Finset.sum_congr rfl fun e _ => by ring
  · intro l
    rw [F.q, F.kc g j k l h, eighthB]
    split
    · rename_i h; rw [h, ← EReal.coe_mul, ← EReal.coe_mul]
    · exact mul_zero _

theorem gc (g : Fin 2) (j : Fin 512) (a k : Fin 128) (h : (j : ℕ) = 256 + 128 * g + k) : u.g (ix2 a j) = (((H g).G (pos n a) (pos n k) : ℝ) : EReal) := by
  unfold Unit4.g
  pointwise
  rw [sum_lanes _ g (fun e => (H g).C (pos n a) e * (H g).V (pos n k) e)]
  · rfl
  · intro l
    rw [F.o, F.vc g j k l h]
    split
    · rename_i h; rw [h, ← EReal.coe_mul]
    · exact mul_zero _

theorem sp (hn : n ≠ 0) (g : Fin 2) (j : Fin 512) (a k : Fin 128) (h : (j : ℕ) = 128 * g + k) : u.s (ix2 a j) = (((H g).s (pos n a) (pos (before n) k) : ℝ) : EReal) := by
  unfold Unit4.s
  pointwise
  rw [sum_lanes _ g (fun e => (H g).Q (pos n a) e * (1 / 8) * (H g).K (pos (before n) k) e)]
  · refine congrArg _ ?_
    unfold Head.s; rw [Finset.sum_mul]; exact Finset.sum_congr rfl fun e _ => by ring
  · intro l
    rw [F.q, F.kp hn g j k l h, eighthB]
    split
    · rename_i h; rw [h, ← EReal.coe_mul, ← EReal.coe_mul]
    · exact mul_zero _

theorem gp (hn : n ≠ 0) (g : Fin 2) (j : Fin 512) (a k : Fin 128) (h : (j : ℕ) = 128 * g + k) : u.g (ix2 a j) = (((H g).G (pos n a) (pos (before n) k) : ℝ) : EReal) := by
  unfold Unit4.g
  pointwise
  rw [sum_lanes _ g (fun e => (H g).C (pos n a) e * (H g).V (pos (before n) k) e)]
  · rfl
  · intro l
    rw [F.o, F.vp hn g j k l h]
    split
    · rename_i h; rw [h, ← EReal.coe_mul]
    · exact mul_zero _

/-- A weight of the unit's own block. -/
theorem wc (g : Fin 2) (j : Fin 512) (a k l : Fin 128) (h : (j : ℕ) = 256 + 128 * g + k) (hl : hi l = g) :
    Ideal.exp (Scalar.select (IntOp.cmpi CmpIPredicate.sge (u.b (ix2 a j)) 0#32) (u.s (ix2 a j) - u.l (ix2 a l)) (Named.named (F := Ideal) (φ := .f32) κ "mask" 4048155338#32))
      = (((H g).W ok (pos n a) (pos n k) : ℝ) : EReal) := by
  rw [F.bc g j a k h, F.sc g j a k h, F.l, hl, mask_bot]
  by_cases hk : (k : ℕ) ≤ a
  · have hok : ok (pos n a) (pos n k) := ⟨by simp; omega, by simp; omega⟩
    rw [if_pos hk, ← (H g).exp_lse _ _ (ok_self _) hok, ← Ideal.exp_coe, EReal.coe_sub]; rfl
  · have hok : ¬ ok (pos n a) (pos n k) := fun h => by have := h.1; simp at this; omega
    rw [if_neg hk, (H g).W_of_not _ _ hok]; rfl

/-- A weight of the block before. -/
theorem wp (g : Fin 2) (j : Fin 512) (a k l : Fin 128) (h : (j : ℕ) = 128 * g + k) (hl : hi l = g) :
    Ideal.exp (Scalar.select (IntOp.cmpi CmpIPredicate.sge (u.b (ix2 a j)) 0#32) (u.s (ix2 a j) - u.l (ix2 a l)) (Named.named (F := Ideal) (φ := .f32) κ "mask" 4048155338#32))
      = ((Wp H n g a k : ℝ) : EReal) := by
  rw [F.bp g j a k h, mask_bot]
  unfold Wp
  by_cases hn : n = 0
  · rw [if_neg (by simp [hn]), if_pos hn]; rfl
  rw [if_neg hn, F.sp hn g j a k h, F.l, hl]
  have h0 : (n : ℕ) ≠ 0 := fun h => hn (Fin.ext h)
  by_cases hk : (a : ℕ) ≤ k
  · have hok : ok (pos n a) (pos (before n) k) := ⟨by simp; omega, by simp; omega⟩
    rw [if_pos ⟨hn, hk⟩, ← (H g).exp_lse _ _ (ok_self _) hok, ← Ideal.exp_coe, EReal.coe_sub]; rfl
  · have hok : ¬ ok (pos n a) (pos (before n) k) := fun h => by have := h.2; simp at this; omega
    rw [if_neg (fun h => hk h.2), (H g).W_of_not _ _ hok]; rfl

theorem p0_at (a k : Fin 128) : u.p0 (ix2 a k) = ((Wp H n 0 a k : ℝ) : EReal) := by
  unfold Unit4.p0 wt
  pointwise
  exact F.wp 0 _ a k _ (by simp) (by decide)

theorem p1_at (a k : Fin 128) : u.p1 (ix2 a k) = ((Wp H n 1 a k : ℝ) : EReal) := by
  unfold Unit4.p1 wt
  pointwise
  exact F.wp 1 _ a k _ (by simp) (by decide)

theorem p2_at (a k : Fin 128) : u.p2 (ix2 a k) = (((H 0).W ok (pos n a) (pos n k) : ℝ) : EReal) := by
  unfold Unit4.p2 wt
  pointwise
  exact F.wc 0 _ a k _ (by simp) (by decide)

theorem p3_at (a k : Fin 128) : u.p3 (ix2 a k) = (((H 1).W ok (pos n a) (pos n k) : ℝ) : EReal) := by
  unfold Unit4.p3 wt
  pointwise
  exact F.wc 1 _ a k _ (by simp) (by decide)

theorem dsc (g : Fin 2) (j : Fin 512) (a k l : Fin 128) (h : (j : ℕ) = 256 + 128 * g + k) (hl : hi l = g) :
    (((H g).W ok (pos n a) (pos n k) : ℝ) : EReal) * (u.g (ix2 a j) - u.d (ix2 a l)) * Ideal.ofBits FTy.f32 1040187392#32
      = (((H g).dS ok (pos n a) (pos n k) : ℝ) : EReal) := by
  rw [F.gc g j a k h, F.d, hl, eighthF, ← EReal.coe_sub, ← EReal.coe_mul, ← EReal.coe_mul]; rfl

theorem dsp (g : Fin 2) (j : Fin 512) (a k l : Fin 128) (h : (j : ℕ) = 128 * g + k) (hl : hi l = g) :
    ((Wp H n g a k : ℝ) : EReal) * (u.g (ix2 a j) - u.d (ix2 a l)) * Ideal.ofBits FTy.f32 1040187392#32
      = ((dSp H n g a k : ℝ) : EReal) := by
  unfold Wp dSp
  by_cases hn : n = 0
  · rw [if_pos hn, if_pos hn, EReal.coe_zero, zero_mul, zero_mul]
  · rw [if_neg hn, if_neg hn, F.gp hn g j a k h, F.d, hl, eighthF, ← EReal.coe_sub, ← EReal.coe_mul, ← EReal.coe_mul]; rfl

theorem ds0_at (a k : Fin 128) : u.ds0 (ix2 a k) = ((dSp H n 0 a k : ℝ) : EReal) := by
  unfold Unit4.ds0 ds
  pointwise [F.p0_at]
  exact F.dsp 0 _ a k _ (by simp) (by decide)

theorem ds1_at (a k : Fin 128) : u.ds1 (ix2 a k) = ((dSp H n 1 a k : ℝ) : EReal) := by
  unfold Unit4.ds1 ds
  pointwise [F.p1_at]
  exact F.dsp 1 _ a k _ (by simp) (by decide)

theorem ds2_at (a k : Fin 128) : u.ds2 (ix2 a k) = (((H 0).dS ok (pos n a) (pos n k) : ℝ) : EReal) := by
  unfold Unit4.ds2 ds
  pointwise [F.p2_at]
  exact F.dsc 0 _ a k _ (by simp) (by decide)

theorem ds3_at (a k : Fin 128) : u.ds3 (ix2 a k) = (((H 1).dS ok (pos n a) (pos n k) : ℝ) : EReal) := by
  unfold Unit4.ds3 ds
  pointwise [F.p3_at]
  exact F.dsc 1 _ a k _ (by simp) (by decide)

/-! ### The sums -/

theorem dQ_at (a l : Fin 128) : u.dQ (ix2 a l) = (((H (hi l)).dQ ok (pos n a) (lo l) : ℝ) : EReal) := by
  unfold Unit4.dQ Unit4.dS
  pointwise
  refine ((sum_four _).trans (congrArg₂ (· + ·) (sum_coe (f := fun k => if hi l = 0 then dSp H n 0 a k * (H 0).K (pos (before n) k) (lo l) else 0) _ ?_)
    (congrArg₂ (· + ·) (sum_coe (f := fun k => if hi l = 1 then dSp H n 1 a k * (H 1).K (pos (before n) k) (lo l) else 0) _ ?_)
    (congrArg₂ (· + ·) (sum_coe (f := fun k => if hi l = 0 then (H 0).dS ok (pos n a) (pos n k) * (H 0).K (pos n k) (lo l) else 0) _ ?_)
      (sum_coe (f := fun k => if hi l = 1 then (H 1).dS ok (pos n a) (pos n k) * (H 1).K (pos n k) (lo l) else 0) _ ?_))))).trans ?_
  · intro k _
    dsimp only
    rw [dif_pos (by omega), F.ds0_at]
    by_cases hn : n = 0
    · simp [dSp, hn]
    rw [F.kp hn 0 _ k l (by simp)]
    split
    · exact (EReal.coe_mul _ _).symm
    · exact mul_zero _
  · intro k _
    dsimp only
    rw [dif_neg (by omega), dif_pos (by omega)]
    have e : (⟨128 + (k : ℕ) - 128, by omega⟩ : Fin 128) = k := Fin.ext (by simp)
    rw [e, F.ds1_at]
    by_cases hn : n = 0
    · simp [dSp, hn]
    rw [F.kp hn 1 _ k l (by simp)]
    split
    · exact (EReal.coe_mul _ _).symm
    · exact mul_zero _
  · intro k _
    dsimp only
    rw [dif_neg (by omega), dif_neg (by omega), dif_pos (by omega), F.kc 0 _ k l (by simp)]
    have e : (⟨256 + (k : ℕ) - 128 - 128, by omega⟩ : Fin 128) = k := Fin.ext (by simp; omega)
    rw [e, F.ds2_at]
    split
    · exact (EReal.coe_mul _ _).symm
    · exact mul_zero _
  · intro k _
    dsimp only
    rw [dif_neg (by omega), dif_neg (by omega), dif_neg (by omega), F.kc 1 _ k l (by simp)]
    have e : (⟨384 + (k : ℕ) - 128 - 128 - 128, by omega⟩ : Fin 128) = k := Fin.ext (by simp; omega)
    rw [e, F.ds3_at]
    split
    · exact (EReal.coe_mul _ _).symm
    · exact mul_zero _
  · rw [← EReal.coe_add, ← EReal.coe_add, ← EReal.coe_add]
    refine congrArg _ ?_
    have key : (H (hi l)).dQ ok (pos n a) (lo l) = (∑ k : Fin 128, dSp H n (hi l) a k * (H (hi l)).K (pos (before n) k) (lo l))
        + ∑ k : Fin 128, (H (hi l)).dS ok (pos n a) (pos n k) * (H (hi l)).K (pos n k) (lo l) := by
      unfold Head.dQ
      rw [sum_row _ n a fun j hj => by rw [(H (hi l)).dS_of_not _ _ hj, zero_mul]]
      refine congrArg₂ _ (Finset.sum_congr rfl fun k _ => ?_) rfl
      unfold dSp; split <;> simp
    rw [key]
    by_cases h : (l : ℕ) < 64
    · rw [half_zero h]; simp
    · rw [half_one h]; simp

theorem curK_at (k l : Fin 128) : cur u.dK (ix2 k l) = ((∑ a : Fin 128, (H (hi l)).dS ok (pos n a) (pos n k) * (H (hi l)).Q (pos n a) (lo l) : ℝ) : EReal) := by
  unfold cur Unit4.dK Unit4.dS
  pointwise [lanes_at]
  by_cases h : (l : ℕ) < 64
  · rw [pick_pos h]
    refine sum_coe _ fun a _ => ?_
    rw [dif_neg (by omega), dif_neg (by omega), dif_pos (by omega), F.q, half_zero h]
    have e : (⟨256 + (k : ℕ) - 128 - 128, by omega⟩ : Fin 128) = k := Fin.ext (by simp; omega)
    rw [e, F.ds2_at]; exact (EReal.coe_mul _ _).symm
  · rw [pick_neg h]
    refine sum_coe _ fun a _ => ?_
    rw [dif_neg (by omega), dif_neg (by omega), dif_neg (by omega), F.q, half_one h]
    have e : (⟨384 + (k : ℕ) - 128 - 128 - 128, by omega⟩ : Fin 128) = k := Fin.ext (by simp; omega)
    rw [e, F.ds3_at]; exact (EReal.coe_mul _ _).symm

theorem prevK_at (k l : Fin 128) : prev u.dK (ix2 k l) = ((∑ a : Fin 128, dSp H n (hi l) a k * (H (hi l)).Q (pos n a) (lo l) : ℝ) : EReal) := by
  unfold prev Unit4.dK Unit4.dS
  pointwise [lanes_at]
  by_cases h : (l : ℕ) < 64
  · rw [pick_pos h]
    refine sum_coe _ fun a _ => ?_
    rw [F.q, half_zero h, F.ds0_at]; exact (EReal.coe_mul _ _).symm
  · rw [pick_neg h]
    refine sum_coe _ fun a _ => ?_
    rw [F.q, half_one h, F.ds1_at]; exact (EReal.coe_mul _ _).symm

theorem curV_at (k l : Fin 128) : cur u.dV (ix2 k l) = ((∑ a : Fin 128, (H (hi l)).W ok (pos n a) (pos n k) * (H (hi l)).C (pos n a) (lo l) : ℝ) : EReal) := by
  unfold cur Unit4.dV Unit4.P
  pointwise [lanes_at]
  by_cases h : (l : ℕ) < 64
  · rw [pick_pos h]
    refine sum_coe _ fun a _ => ?_
    rw [dif_neg (by omega), dif_neg (by omega), dif_pos (by omega), F.o, half_zero h]
    have e : (⟨256 + (k : ℕ) - 128 - 128, by omega⟩ : Fin 128) = k := Fin.ext (by simp; omega)
    rw [e, F.p2_at]; exact (EReal.coe_mul _ _).symm
  · rw [pick_neg h]
    refine sum_coe _ fun a _ => ?_
    rw [dif_neg (by omega), dif_neg (by omega), dif_neg (by omega), F.o, half_one h]
    have e : (⟨384 + (k : ℕ) - 128 - 128 - 128, by omega⟩ : Fin 128) = k := Fin.ext (by simp; omega)
    rw [e, F.p3_at]; exact (EReal.coe_mul _ _).symm

theorem prevV_at (k l : Fin 128) : prev u.dV (ix2 k l) = ((∑ a : Fin 128, Wp H n (hi l) a k * (H (hi l)).C (pos n a) (lo l) : ℝ) : EReal) := by
  unfold prev Unit4.dV Unit4.P
  pointwise [lanes_at]
  by_cases h : (l : ℕ) < 64
  · rw [pick_pos h]
    refine sum_coe _ fun a _ => ?_
    rw [F.o, half_zero h, F.p0_at]; exact (EReal.coe_mul _ _).symm
  · rw [pick_neg h]
    refine sum_coe _ fun a _ => ?_
    rw [F.o, half_one h, F.p1_at]; exact (EReal.coe_mul _ _).symm

end Full

/-! ## The unit past the tile's end -/

/-- Its mask forbids every pair: nothing of the next sequence looks back. -/
def Shut (t : Unit2) : Prop := ∀ a j, IntOp.cmpi .sge (t.b (ix2 a j)) 0#32 = 0#1

namespace Shut

variable {t : Unit2} (F : Shut t)
include F

theorem p0_at (a k : Fin 128) : t.p0 (ix2 a k) = 0 := by
  unfold Unit2.p0 wt
  pointwise
  rw [F, mask_bot]; rfl

theorem p1_at (a k : Fin 128) : t.p1 (ix2 a k) = 0 := by
  unfold Unit2.p1 wt
  pointwise
  rw [F, mask_bot]; rfl

theorem ds0_at (a k : Fin 128) : t.ds0 (ix2 a k) = 0 := by
  unfold Unit2.ds0 ds
  pointwise [F.p0_at]
  rw [zero_mul, zero_mul]

theorem ds1_at (a k : Fin 128) : t.ds1 (ix2 a k) = 0 := by
  unfold Unit2.ds1 ds
  pointwise [F.p1_at]
  rw [zero_mul, zero_mul]

theorem pastK_at (k l : Fin 128) : past t.dK (ix2 k l) = 0 := by
  unfold past Unit2.dK Unit2.dS
  pointwise [lanes_at]
  by_cases h : (l : ℕ) < 64
  · rw [pick_pos h]
    exact Finset.sum_eq_zero fun a _ => by rw [F.ds0_at, zero_mul]
  · rw [pick_neg h]
    refine Finset.sum_eq_zero fun a _ => ?_
    rw [F.ds1_at, zero_mul]

theorem pastV_at (k l : Fin 128) : past t.dV (ix2 k l) = 0 := by
  unfold past Unit2.dV Unit2.P
  pointwise [lanes_at]
  by_cases h : (l : ℕ) < 64
  · rw [pick_pos h]
    exact Finset.sum_eq_zero fun a _ => by rw [F.p0_at, zero_mul]
  · rw [pick_neg h]
    refine Finset.sum_eq_zero fun a _ => ?_
    rw [F.p1_at, zero_mul]

end Shut

/-! ## What is stored -/

section Pieces

variable {u : Fin 4 → Fin 4 → Unit4} {t : Fin 4 → Unit2} {H : Fin 4 → Fin 2 → Head (Fin 512) (Fin 64)}
  (F : ∀ p n, Full (u p n) (H p) n) (T : ∀ p, Shut (t p))
include F T

theorem nextK_at (p n : Fin 4) (k l : Fin 128) : nextK u t p n (ix2 k l)
    = (((if h : (n : ℕ) < 3 then ∑ a : Fin 128, (H p (hi l)).dS ok (pos ⟨(n : ℕ) + 1, by omega⟩ a) (pos n k) * (H p (hi l)).Q (pos ⟨(n : ℕ) + 1, by omega⟩ a) (lo l) else 0 : ℝ)) : EReal) := by
  fin_cases n
  · exact (F p 1).prevK_at k l
  · exact (F p 2).prevK_at k l
  · exact (F p 3).prevK_at k l
  · exact (T p).pastK_at k l

theorem nextV_at (p n : Fin 4) (k l : Fin 128) : nextV u t p n (ix2 k l)
    = (((if h : (n : ℕ) < 3 then ∑ a : Fin 128, (H p (hi l)).W ok (pos ⟨(n : ℕ) + 1, by omega⟩ a) (pos n k) * (H p (hi l)).C (pos ⟨(n : ℕ) + 1, by omega⟩ a) (lo l) else 0 : ℝ)) : EReal) := by
  fin_cases n
  · exact (F p 1).prevV_at k l
  · exact (F p 2).prevV_at k l
  · exact (F p 3).prevV_at k l
  · exact (T p).pastV_at k l

theorem dqPiece_at (p n : Fin 4) (z : Fin 1) (a l : Fin 128) : dqPiece u t p n (ix3 z a l) = (((H p (hi l)).grad ok 0 (pos n a) (lo l) : ℝ) : EReal) := by
  unfold dqPiece
  pointwise
  exact (F p n).dQ_at a l

theorem dkPiece_at (p n : Fin 4) (z : Fin 1) (k l : Fin 128) : dkPiece u t p n (ix3 z k l) = (((H p (hi l)).grad ok 1 (pos n k) (lo l) : ℝ) : EReal) := by
  unfold dkPiece
  pointwise [(F p n).curK_at, nextK_at F T]
  rw [← EReal.coe_add]
  refine congrArg _ ?_
  unfold Head.grad Head.dK
  dsimp only
  rw [sum_col _ n k fun i hi' => by rw [Head.dS_of_not _ _ _ hi', zero_mul]]

theorem dvPiece_at (p n : Fin 4) (z : Fin 1) (k l : Fin 128) : dvPiece u t p n (ix3 z k l) = (((H p (hi l)).grad ok 2 (pos n k) (lo l) : ℝ) : EReal) := by
  unfold dvPiece
  pointwise [(F p n).curV_at, nextV_at F T]
  rw [← EReal.coe_add]
  refine congrArg _ ?_
  unfold Head.grad Head.dV
  dsimp only
  rw [sum_col _ n k fun i hi' => by rw [Head.W_of_not _ _ _ hi', zero_mul]]

end Pieces

end Cert.KernelIdeal.Tile

end
-- ==== Proof.TileRead.lean ====
/- The tile kernel's blocks, scratch buffers and masks read at an index; then what one tile stores. -/
module

public import proofs.«01_k».proof.Proof.Units
public import Idealize.ShloMosaic.Lib.WholeRead
public import Idealize.ShloMosaic.Lib.Tactic.WordOmega

@[expose] public section

set_option maxRecDepth 16384

noncomputable section

namespace Cert.KernelIdeal.Tile

open Cert.KernelIdeal Cert.KernelIdeal.Gen Idealize.ShloMosaic Idealize.ShloMosaic.TcCoe Attn

/-! ## Blocks -/

theorem big_at (m : Memref sig .tc .vmem S1x512x512 .bf16) (h : m.IsWhole) (x : Vec Ideal S1x512x512 .bf16) (p n : Fin 4) (a l : Fin 128) :
    big m h x p n (ix2 a l) = x (ix3 0 (pos n a) ⟨128 * (p : ℕ) + l, by omega⟩) := by
  unfold big
  refine (shapeCast_dropUnit_apply _ _ _ _).trans ((h.readAt_unread x _ _).trans (congrArg x ?_))
  funext b; fin_cases b
  · rfl
  · exact Fin.ext (by show 128 * (n : ℕ) + 1 * (a : ℕ) = _; simp)
  · exact Fin.ext (by show 128 * (p : ℕ) + 1 * (l : ℕ) = _; simp)

theorem halo_at (m : Memref sig .tc .vmem S1x128x512 .bf16) (h : m.IsWhole) (x : Vec Ideal S1x128x512 .bf16) (p : Fin 4) (a l : Fin 128) :
    halo m h x p (ix2 a l) = x (ix3 0 a ⟨128 * (p : ℕ) + l, by omega⟩) := by
  unfold halo
  refine (shapeCast_dropUnit_apply _ _ _ _).trans ((h.readAt_unread x _ _).trans (congrArg x ?_))
  funext b; fin_cases b
  · rfl
  · exact Fin.ext (by show 0 + 1 * (a : ℕ) = _; simp)
  · exact Fin.ext (by show 128 * (p : ℕ) + 1 * (l : ℕ) = _; simp)

theorem flatB_at (m : Memref sig .tc .vmem S512x512 .bf16) (h : m.IsWhole) (x : Vec Ideal S512x512 .bf16) (p n : Fin 4) (a l : Fin 128) :
    flatB m h x p n (ix2 a l) = x (ix2 (pos n a) ⟨128 * (p : ℕ) + l, by omega⟩) := by
  unfold flatB
  refine (congrFun (shapeCast_self _ _) _).trans ((h.readAt_unread x _ _).trans (congrArg x ?_))
  funext b; fin_cases b
  · exact Fin.ext (by show 128 * (n : ℕ) + 1 * (a : ℕ) = _; simp)
  · exact Fin.ext (by show 128 * (p : ℕ) + 1 * (l : ℕ) = _; simp)

theorem flatF_at (m : Memref sig .tc .vmem S512x512 .f32) (h : m.IsWhole) (x : Vec Ideal S512x512 .f32) (p n : Fin 4) (a l : Fin 128) :
    flatF m h x p n (ix2 a l) = x (ix2 (pos n a) ⟨128 * (p : ℕ) + l, by omega⟩) := by
  unfold flatF
  refine (congrFun (shapeCast_self _ _) _).trans ((h.readAt_unread x _ _).trans (congrArg x ?_))
  funext b; fin_cases b
  · exact Fin.ext (by show 128 * (n : ℕ) + 1 * (a : ℕ) = _; simp)
  · exact Fin.ext (by show 128 * (p : ℕ) + 1 * (l : ℕ) = _; simp)

/-! ## The block-diagonal scratch -/

theorem fillLo_at (b : FVec Ideal S128x128 .bf16) (a l : Fin 128) : fillLo b (ix2 a l) = if (l : ℕ) < 64 then b (ix2 a l) else 0 := by
  unfold fillLo
  pointwise [lanes_at]
  by_cases h : (l : ℕ) < 64
  · rw [pick_pos h, if_pos h]
  · rw [pick_neg h, if_neg h]

theorem fillHi_at (b : FVec Ideal S128x128 .bf16) (a l : Fin 128) : fillHi b (ix2 a l) = if (l : ℕ) < 64 then 0 else b (ix2 a l) := by
  unfold fillHi
  pointwise [lanes_at]
  by_cases h : (l : ℕ) < 64
  · rw [pick_pos h, if_pos h]
  · rw [pick_neg h, if_neg h]

section Scratch

variable (m4 : Memref sig .tc .vmem S1x128x512 .bf16) (h4 : m4.IsWhole) (x4 : Vec Ideal S1x128x512 .bf16)
    (m2 : Memref sig .tc .vmem S1x512x512 .bf16) (h2 : m2.IsWhole) (x2 : Vec Ideal S1x512x512 .bf16)

/-- A filled scratch by row number `r` and lane `l`: five blocks for every pair, two half-empty copies of each block. -/
noncomputable def slot (r : ℕ) (l : ℕ) : EReal :=
  if l / 64 = r / 128 % 2 then
    (if r / 256 % 5 = 0 then x4 (ix3 0 ⟨r % 128, by omega⟩ ⟨(128 * (r / 1280) + l) % 512, by omega⟩)
      else x2 (ix3 0 ⟨(128 * (r / 256 % 5 - 1) + r % 128) % 512, by omega⟩ ⟨(128 * (r / 1280) + l) % 512, by omega⟩))
  else 0

noncomputable def diag (y : S5120x128.Idx) : EReal := slot x4 x2 (y 0).val (y 1).val

theorem diag_emb (o : ℕ) (hb : ∀ a, (![o, 0] : Fin 2 → ℕ) a + S128x128.size a ≤ S5120x128.size a) (x : S128x128.Idx) :
    diag x4 x2 ((Rect.unit (s := S5120x128) ![o, 0] S128x128.size hb).emb x) = slot x4 x2 (o + (x 0).val) (x 1).val := by
  unfold diag
  refine congrArg₂ _ ?_ ?_
  · show o + 1 * (x 0).val = _; omega
  · show 0 + 1 * (x 1).val = _; omega

theorem slot_halo (p : Fin 4) (g : Fin 2) (a l : Fin 128) (r : ℕ) (hr : r = 5 * (p : ℕ) * 256 + 128 * g + a) :
    slot x4 x2 r l = if hi l = g then x4 (ix3 0 a ⟨128 * (p : ℕ) + l, by omega⟩) else 0 := by
  unfold slot
  by_cases h : hi l = g
  · have h' : (l : ℕ) / 64 = g := congrArg Fin.val h
    rw [if_pos h, if_pos (by omega), if_pos (by omega)]
    refine congrArg x4 ((ix3_inj _ _ _ _ _ _).2 ⟨rfl, Fin.ext ?_, Fin.ext ?_⟩)
    · show r % 128 = a; omega
    · show (128 * (r / 1280) + (l : ℕ)) % 512 = 128 * (p : ℕ) + l; omega
  · have h' : (l : ℕ) / 64 ≠ g := fun e => h (Fin.ext e)
    rw [if_neg h, if_neg (by omega)]

theorem slot_tile (p n : Fin 4) (g : Fin 2) (a l : Fin 128) (r : ℕ) (hr : r = (5 * (p : ℕ) + (n + 1)) * 256 + 128 * g + a) :
    slot x4 x2 r l = if hi l = g then x2 (ix3 0 (pos n a) ⟨128 * (p : ℕ) + l, by omega⟩) else 0 := by
  unfold slot
  by_cases h : hi l = g
  · have h' : (l : ℕ) / 64 = g := congrArg Fin.val h
    rw [if_pos h, if_pos (by omega), if_neg (by omega)]
    refine congrArg x2 ((ix3_inj _ _ _ _ _ _).2 ⟨rfl, Fin.ext ?_, Fin.ext ?_⟩)
    · show (128 * (r / 256 % 5 - 1) + r % 128) % 512 = 128 * (n : ℕ) + a; omega
    · show (128 * (r / 1280) + (l : ℕ)) % 512 = 128 * (p : ℕ) + l; omega
  · have h' : (l : ℕ) / 64 ≠ g := fun e => h (Fin.ext e)
    rw [if_neg h, if_neg (by omega)]

theorem lo_big (p n : Fin 4) (o : ℕ) (ho : o = (5 * (p : ℕ) + (n + 1)) * 256) (hb) (x : S128x128.Idx) :
    fillLo (big m2 h2 x2 p n) x = diag x4 x2 ((Rect.unit (s := S5120x128) ![o, 0] S128x128.size hb).emb x) := by
  obtain ⟨a, l, rfl⟩ : ∃ a l, x = ix2 a l := ⟨_, _, eq_ix2 x⟩
  rw [diag_emb, fillLo_at, big_at]
  refine Eq.trans ?_ (slot_tile x4 x2 p n 0 a l (o + a) (by simp; omega)).symm
  by_cases h : (l : ℕ) < 64
  · rw [if_pos h, if_pos (half_zero h)]
  · rw [if_neg h, if_neg (by rw [half_one h]; decide)]

theorem hi_big (p n : Fin 4) (o : ℕ) (ho : o = (5 * (p : ℕ) + (n + 1)) * 256 + 128) (hb) (x : S128x128.Idx) :
    fillHi (big m2 h2 x2 p n) x = diag x4 x2 ((Rect.unit (s := S5120x128) ![o, 0] S128x128.size hb).emb x) := by
  obtain ⟨a, l, rfl⟩ : ∃ a l, x = ix2 a l := ⟨_, _, eq_ix2 x⟩
  rw [diag_emb, fillHi_at, big_at]
  refine Eq.trans ?_ (slot_tile x4 x2 p n 1 a l (o + a) (by simp; omega)).symm
  by_cases h : (l : ℕ) < 64
  · rw [if_pos h, if_neg (by rw [half_zero h]; decide)]
  · rw [if_neg h, if_pos (half_one h)]

theorem lo_halo (p : Fin 4) (o : ℕ) (ho : o = 5 * (p : ℕ) * 256) (hb) (x : S128x128.Idx) :
    fillLo (halo m4 h4 x4 p) x = diag x4 x2 ((Rect.unit (s := S5120x128) ![o, 0] S128x128.size hb).emb x) := by
  obtain ⟨a, l, rfl⟩ : ∃ a l, x = ix2 a l := ⟨_, _, eq_ix2 x⟩
  rw [diag_emb, fillLo_at, halo_at]
  refine Eq.trans ?_ (slot_halo x4 x2 p 0 a l (o + a) (by simp; omega)).symm
  by_cases h : (l : ℕ) < 64
  · rw [if_pos h, if_pos (half_zero h)]
  · rw [if_neg h, if_neg (by rw [half_one h]; decide)]

theorem hi_halo (p : Fin 4) (o : ℕ) (ho : o = 5 * (p : ℕ) * 256 + 128) (hb) (x : S128x128.Idx) :
    fillHi (halo m4 h4 x4 p) x = diag x4 x2 ((Rect.unit (s := S5120x128) ![o, 0] S128x128.size hb).emb x) := by
  obtain ⟨a, l, rfl⟩ : ∃ a l, x = ix2 a l := ⟨_, _, eq_ix2 x⟩
  rw [diag_emb, fillHi_at, halo_at]
  refine Eq.trans ?_ (slot_halo x4 x2 p 1 a l (o + a) (by simp; omega)).symm
  by_cases h : (l : ℕ) < 64
  · rw [if_pos h, if_neg (by rw [half_zero h]; decide)]
  · rw [if_neg h, if_pos (half_one h)]

theorem fills_diag : ∀ q ∈ fills m4 h4 x4 m2 h2 x2, ∀ x : q.1.shape.Idx, q.2 x = diag x4 x2 (q.1.emb x) :=
  List.forall_mem_cons.2 ⟨hi_big x4 m2 h2 x2 3 3 4992 rfl (by decide),
  List.forall_mem_cons.2 ⟨lo_big x4 m2 h2 x2 3 3 4864 rfl (by decide),
  List.forall_mem_cons.2 ⟨hi_big x4 m2 h2 x2 3 2 4736 rfl (by decide),
  List.forall_mem_cons.2 ⟨lo_big x4 m2 h2 x2 3 2 4608 rfl (by decide),
  List.forall_mem_cons.2 ⟨hi_big x4 m2 h2 x2 3 1 4480 rfl (by decide),
  List.forall_mem_cons.2 ⟨lo_big x4 m2 h2 x2 3 1 4352 rfl (by decide),
  List.forall_mem_cons.2 ⟨hi_big x4 m2 h2 x2 3 0 4224 rfl (by decide),
  List.forall_mem_cons.2 ⟨lo_big x4 m2 h2 x2 3 0 4096 rfl (by decide),
  List.forall_mem_cons.2 ⟨hi_halo m4 h4 x4 x2 3 3968 rfl (by decide),
  List.forall_mem_cons.2 ⟨lo_halo m4 h4 x4 x2 3 3840 rfl (by decide),
  List.forall_mem_cons.2 ⟨hi_big x4 m2 h2 x2 2 3 3712 rfl (by decide),
  List.forall_mem_cons.2 ⟨lo_big x4 m2 h2 x2 2 3 3584 rfl (by decide),
  List.forall_mem_cons.2 ⟨hi_big x4 m2 h2 x2 2 2 3456 rfl (by decide),
  List.forall_mem_cons.2 ⟨lo_big x4 m2 h2 x2 2 2 3328 rfl (by decide),
  List.forall_mem_cons.2 ⟨hi_big x4 m2 h2 x2 2 1 3200 rfl (by decide),
  List.forall_mem_cons.2 ⟨lo_big x4 m2 h2 x2 2 1 3072 rfl (by decide),
  List.forall_mem_cons.2 ⟨hi_big x4 m2 h2 x2 2 0 2944 rfl (by decide),
  List.forall_mem_cons.2 ⟨lo_big x4 m2 h2 x2 2 0 2816 rfl (by decide),
  List.forall_mem_cons.2 ⟨hi_halo m4 h4 x4 x2 2 2688 rfl (by decide),
  List.forall_mem_cons.2 ⟨lo_halo m4 h4 x4 x2 2 2560 rfl (by decide),
  List.forall_mem_cons.2 ⟨hi_big x4 m2 h2 x2 1 3 2432 rfl (by decide),
  List.forall_mem_cons.2 ⟨lo_big x4 m2 h2 x2 1 3 2304 rfl (by decide),
  List.forall_mem_cons.2 ⟨hi_big x4 m2 h2 x2 1 2 2176 rfl (by decide),
  List.forall_mem_cons.2 ⟨lo_big x4 m2 h2 x2 1 2 2048 rfl (by decide),
  List.forall_mem_cons.2 ⟨hi_big x4 m2 h2 x2 1 1 1920 rfl (by decide),
  List.forall_mem_cons.2 ⟨lo_big x4 m2 h2 x2 1 1 1792 rfl (by decide),
  List.forall_mem_cons.2 ⟨hi_big x4 m2 h2 x2 1 0 1664 rfl (by decide),
  List.forall_mem_cons.2 ⟨lo_big x4 m2 h2 x2 1 0 1536 rfl (by decide),
  List.forall_mem_cons.2 ⟨hi_halo m4 h4 x4 x2 1 1408 rfl (by decide),
  List.forall_mem_cons.2 ⟨lo_halo m4 h4 x4 x2 1 1280 rfl (by decide),
  List.forall_mem_cons.2 ⟨hi_big x4 m2 h2 x2 0 3 1152 rfl (by decide),
  List.forall_mem_cons.2 ⟨lo_big x4 m2 h2 x2 0 3 1024 rfl (by decide),
  List.forall_mem_cons.2 ⟨hi_big x4 m2 h2 x2 0 2 896 rfl (by decide),
  List.forall_mem_cons.2 ⟨lo_big x4 m2 h2 x2 0 2 768 rfl (by decide),
  List.forall_mem_cons.2 ⟨hi_big x4 m2 h2 x2 0 1 640 rfl (by decide),
  List.forall_mem_cons.2 ⟨lo_big x4 m2 h2 x2 0 1 512 rfl (by decide),
  List.forall_mem_cons.2 ⟨hi_big x4 m2 h2 x2 0 0 384 rfl (by decide),
  List.forall_mem_cons.2 ⟨lo_big x4 m2 h2 x2 0 0 256 rfl (by decide),
  List.forall_mem_cons.2 ⟨hi_halo m4 h4 x4 x2 0 128 rfl (by decide),
  List.forall_mem_cons.2 ⟨lo_halo m4 h4 x4 x2 0 0 rfl (by decide),
  List.forall_mem_nil _⟩⟩⟩⟩⟩⟩⟩⟩⟩⟩⟩⟩⟩⟩⟩⟩⟩⟩⟩⟩⟩⟩⟩⟩⟩⟩⟩⟩⟩⟩⟩⟩⟩⟩⟩⟩⟩⟩⟩⟩

theorem fills_cover (y : S5120x128.Idx) : ∃ q ∈ fills m4 h4 x4 m2 h2 x2, y ∈ q.1.set :=
  View.cover_of_tiledL (fills m4 h4 x4 m2 h2 x2) S128x128.size (by sl_kernel_rfl) y

/-- A load from a filled scratch. -/
theorem scratch_at (m : Memref sig .tc .vmem S5120x128 .bf16) (o k : ℕ) (hb) (j : Fin k) (l : Fin 128) :
    m.view.readCov (fills m4 h4 x4 m2 h2 x2) (Rect.unit (s := S5120x128) ![o, 0] (![k, 128] : Fin 2 → ℕ) hb).toLoadRect (ix2 j l)
      = slot x4 x2 (o + j) l := by
  refine (View.read_writes_apply_of_pieces (Val := Elt Ideal) m.view m.view.junk (diag x4 x2) _ (fills_diag m4 h4 x4 m2 h2 x2) _ (fills_cover m4 h4 x4 m2 h2 x2 _)).trans ?_
  unfold diag
  refine congrArg₂ _ ?_ ?_
  · show o + 1 * (j : ℕ) = _; omega
  · show 0 + 1 * (l : ℕ) = _; omega

end Scratch

/-! ## Masks -/

/-- A difference of two positions of a block is not negative. -/
theorem sge_sub (x y : ℕ) (hx : x < 128) (hy : y < 128) :
    IntOp.cmpi .sge (IntOp.subi (BitVec.ofNat 32 x) (BitVec.ofNat 32 y)) 0#32 = if y ≤ x then 1#1 else 0#1 := by
  have hs : (IntOp.subi (BitVec.ofNat 32 x) (BitVec.ofNat 32 y)).toInt = (x : ℤ) - (y : ℤ) := by
    unfold IntOp.subi
    rw [BitVec.toInt_eq_toNat_bmod, BitVec.toNat_sub, BitVec.toNat_ofNat, BitVec.toNat_ofNat, Int.bmod_def]
    split <;> omega
  rw [WordCmp.cmpi_sge_eq, hs]
  show BitVec.ofBool (decide ((0 : ℤ) ≤ (x : ℤ) - (y : ℤ))) = _
  by_cases h : y ≤ x
  · rw [if_pos h, decide_eq_true (by omega)]; rfl
  · rw [if_neg h, decide_eq_false (by omega)]; rfl

/-- Less 512 it is negative. -/
theorem sge_sub_past (x y : ℕ) (hx : x < 128) (hy : y < 128) :
    IntOp.cmpi .sge (IntOp.subi (IntOp.subi (BitVec.ofNat 32 x) (BitVec.ofNat 32 y)) 512#32) 0#32 = 0#1 := by
  have hs : (IntOp.subi (IntOp.subi (BitVec.ofNat 32 x) (BitVec.ofNat 32 y)) 512#32).toInt = (x : ℤ) - (y : ℤ) - 512 := by
    unfold IntOp.subi
    rw [BitVec.toInt_eq_toNat_bmod, BitVec.toNat_sub, BitVec.toNat_sub, BitVec.toNat_ofNat, BitVec.toNat_ofNat, BitVec.toNat_ofNat, Int.bmod_def]
    split <;> omega
  rw [WordCmp.cmpi_sge_eq, hs]
  show BitVec.ofBool (decide ((0 : ℤ) ≤ (x : ℤ) - (y : ℤ) - 512)) = _
  rw [decide_eq_false (by omega)]; rfl

/-- The position within a block of a column of the mask. -/
theorem rem_at (a : Fin 128) (l : Fin 512) : kernelRun0_A.sl.v44 (ix2 a l) = BitVec.ofNat 32 ((l : ℕ) % 128) := by
  unfold kernelRun0_A.sl.v44 kernelRun0_A.sl.v40 kernelRun0_A.sl.v34 kernelRun0_A.sl.v43 kernelRun0_A.sl.v36 kernelRun0_A.sl.v38 kernelRun0_A.sl.v33 kernelRun0_A.sl.v31 kernelRun0_A.sl.v27
  pointwise
  have key : ∀ l : Fin 512, Scalar.select
      (IntOp.andi
        (IntOp.xori (IntOp.cmpi CmpIPredicate.slt (IntOp.remsi ArithUnit.vector (BitVec.ofNat 32 ↑l) 128#32) 0#32) 0#1)
        (IntOp.cmpi CmpIPredicate.ne (IntOp.remsi ArithUnit.vector (BitVec.ofNat 32 ↑l) 128#32) 0#32))
      (IntOp.addi (IntOp.remsi ArithUnit.vector (BitVec.ofNat 32 ↑l) 128#32) 128#32)
      (IntOp.remsi ArithUnit.vector (BitVec.ofNat 32 ↑l) 128#32) = BitVec.ofNat 32 (↑l % 128) := by decide +kernel
  exact key l

theorem before_256 (l : Fin 512) : IntOp.cmpi CmpIPredicate.slt (BitVec.ofNat 32 ↑l) 256#32 = if (l : ℕ) < 256 then 1#1 else 0#1 := by
  revert l; decide +kernel

theorem other_at (a : Fin 128) (l : Fin 512) : kernelRun0_A.sl.v54 (ix2 a l) = if (l : ℕ) < 256
    then IntOp.subi (BitVec.ofNat 32 (↑l % 128)) (BitVec.ofNat 32 ↑a) else IntOp.subi (BitVec.ofNat 32 ↑a) (BitVec.ofNat 32 (↑l % 128)) := by
  unfold kernelRun0_A.sl.v54 kernelRun0_A.sl.v27 kernelRun0_A.sl.v45 kernelRun0_A.sl.v28
  pointwise [rem_at]
  rw [before_256]
  by_cases h : (l : ℕ) < 256
  · rw [pick_pos h, if_pos h]
  · rw [pick_neg h, if_neg h]

/-- Every tile starts a sequence: what it takes off its first block's band. -/
theorem starts (i : grid0.Coords) : kernelRun0_A.sl.v11 i = 512#32 := by
  unfold kernelRun0_A.sl.v11 kernelRun0_A.sl.v10 kernelRun0_A.sl.v9 kernelRun0_A.sl.v8 kernelRun0_A.sl.v7 kernelRun0_A.sl.v6 kernelRun0_A.sl.v4 kernelRun0_A.sl.v3 kernelRun0_A.sl.v2
  have key : ∀ j : Fin 16, (fun w : BitVec 32 => Scalar.select (Scalar.cmpi CmpIPredicate.eq (Scalar.select (Scalar.andi (Scalar.xori (Scalar.cmpi CmpIPredicate.slt w 0#32) 0#1)
      (Scalar.cmpi CmpIPredicate.ne w 0#32)) (Scalar.addi w 1#32) w) 0#32) 512#32 0#32) (Scalar.remsi (BitVec.ofNat 32 ↑j) 1#32) = 512#32 := by decide
  exact key (i 0)

theorem first_at (i : grid0.Coords) (a : Fin 128) (l : Fin 512) : kernelRun0_A.sl.v57 i (ix2 a l)
    = if (l : ℕ) < 256 then IntOp.subi (kernelRun0_A.sl.v54 (ix2 a l)) 512#32 else kernelRun0_A.sl.v54 (ix2 a l) := by
  unfold kernelRun0_A.sl.v57 kernelRun0_A.sl.v56 kernelRun0_A.sl.v55 kernelRun0_A.sl.v49 kernelRun0_A.sl.v27 kernelRun0_A.sl.v45 kernelRun0_A.sl.v47 kernelRun0_A.sl.v33
  pointwise
  rw [before_256, starts]
  by_cases h : (l : ℕ) < 256
  · rw [pick_pos h, if_pos h]; rfl
  · rw [pick_neg h, if_neg h]; exact BitVec.sub_zero _

theorem tail_at (i : grid0.Coords) (a : Fin 128) (l : Fin 256) : kernelRun0_A.sl.v60 i (ix2 a l)
    = IntOp.subi (kernelRun0_A.sl.v54 (ix2 a ⟨l, by omega⟩)) 512#32 := by
  unfold kernelRun0_A.sl.v60 kernelRun0_A.sl.v58 kernelRun0_A.sl.v59
  pointwise
  rw [starts]

/-! ## The units of a tile -/

/-- Head `g` of pair `p`. -/
abbrev hd (p : Fin 4) (g : Fin 2) : Fin 8 := ⟨2 * (p : ℕ) + g, by omega⟩

theorem col_pair (p : Fin 4) (l : Fin 128) : (⟨128 * (p : ℕ) + l, by omega⟩ : Fin 512) = col (hd p (hi l)) (lo l) :=
  Fin.ext (by show 128 * (p : ℕ) + l = (2 * (p : ℕ) + (l : ℕ) / 64) * 64 + (l : ℕ) % 64; omega)

/-- A tile's operands hold one sequence's eight heads and its saved row sums. -/
structure Blocks (x0 x1 x2 : Vec Ideal S1x512x512 .bf16) (x5 : Vec Ideal S512x512 .bf16) (x6 x7 : Vec Ideal S512x512 .f32)
    (H : Fin 8 → Head (Fin 512) (Fin 64)) : Prop where
  q : ∀ h i e, x0 (ix3 0 i (col h e)) = (((H h).Q i e : ℝ) : EReal)
  k : ∀ h i e, x1 (ix3 0 i (col h e)) = (((H h).K i e : ℝ) : EReal)
  v : ∀ h i e, x2 (ix3 0 i (col h e)) = (((H h).V i e : ℝ) : EReal)
  o : ∀ h i e, x5 (ix2 i (col h e)) = (((H h).C i e : ℝ) : EReal)
  l : ∀ h i e, x6 (ix2 i (col h e)) = (((H h).M ok i + Real.log ((H h).D ok i) : ℝ) : EReal)
  d : ∀ h i e, x7 (ix2 i (col h e)) = (((H h).del ok i : ℝ) : EReal)

section Run

variable (c : Dev nD) (i : grid0.Coords) (arg1 : Memref sig .tc .vmem S1x512x512 .bf16) (harg1 : arg1.IsWhole) (arg2 : Memref sig .tc .vmem S1x512x512 .bf16) (harg2 : arg2.IsWhole) (arg3 : Memref sig .tc .vmem S1x512x512 .bf16) (harg3 : arg3.IsWhole) (arg4 : Memref sig .tc .vmem S1x128x512 .bf16) (harg4 : arg4.IsWhole) (arg5 : Memref sig .tc .vmem S1x128x512 .bf16) (harg5 : arg5.IsWhole) (arg6 : Memref sig .tc .vmem S512x512 .bf16) (harg6 : arg6.IsWhole) (arg7 : Memref sig .tc .vmem S512x512 .f32) (harg7 : arg7.IsWhole) (arg8 : Memref sig .tc .vmem S512x512 .f32) (harg8 : arg8.IsWhole) (arg9 : Memref sig .tc .vmem S1x128x512 .bf16) (harg9 : arg9.IsWhole) (arg10 : Memref sig .tc .vmem S128x512 .bf16) (harg10 : arg10.IsWhole) (arg11 : Memref sig .tc .vmem S128x512 .f32) (harg11 : arg11.IsWhole) (arg12 : Memref sig .tc .vmem S128x512 .f32) (harg12 : arg12.IsWhole) (arg13 : Memref sig .tc .vmem S3x512x512 .f32) (harg13 : arg13.IsWhole) (arg14 : Memref sig .tc .vmem S5120x128 .bf16) (harg14 : arg14.IsWhole) (arg15 : Memref sig .tc .vmem S5120x128 .bf16) (harg15 : arg15.IsWhole)
  (x0 : Vec Ideal S1x512x512 .bf16) (x1 : Vec Ideal S1x512x512 .bf16) (x2 : Vec Ideal S1x512x512 .bf16) (x3 : Vec Ideal S1x128x512 .bf16) (x4 : Vec Ideal S1x128x512 .bf16) (x5 : Vec Ideal S512x512 .bf16) (x6 : Vec Ideal S512x512 .f32) (x7 : Vec Ideal S512x512 .f32) (x8 : Vec Ideal S1x128x512 .bf16) (x9 : Vec Ideal S128x512 .bf16) (x10 : Vec Ideal S128x512 .f32) (x11 : Vec Ideal S128x512 .f32)
  {H : Fin 8 → Head (Fin 512) (Fin 64)} (B : Blocks x0 x1 x2 x5 x6 x7 H)

include B in
theorem units_full (p n : Fin 4) : Full (units i arg1 harg1 arg2 harg2 arg3 harg3 arg4 harg4 arg5 harg5 arg6 harg6 arg7 harg7 arg8 harg8 arg14 arg15 x0 x1 x2 x3 x4 x5 x6 x7 p n) (fun g => H (hd p g)) n where
  q a l := by refine (big_at _ _ _ _ _ _ _).trans ?_; rw [col_pair]; exact B.q _ _ _
  o a l := by refine (flatB_at _ _ _ _ _ _ _).trans ?_; rw [col_pair]; exact B.o _ _ _
  l a l := by refine (flatF_at _ _ _ _ _ _ _).trans ?_; rw [col_pair]; exact B.l _ _ _
  d a l := by refine (flatF_at _ _ _ _ _ _ _).trans ?_; rw [col_pair]; exact B.d _ _ _
  kc g j k l h := by
    refine (scratch_at _ _ _ _ _ _ _ _ _ _ j l).trans ((slot_tile _ _ p n g k l _ (by unfold base; omega)).trans ?_)
    split
    · rename_i h; rw [col_pair, h]; exact B.k _ _ _
    · rfl
  vc g j k l h := by
    refine (scratch_at _ _ _ _ _ _ _ _ _ _ j l).trans ((slot_tile _ _ p n g k l _ (by unfold base; omega)).trans ?_)
    split
    · rename_i h; rw [col_pair, h]; exact B.v _ _ _
    · rfl
  kp hn g j k l h := by
    have h0 : (n : ℕ) ≠ 0 := fun h => hn (Fin.ext h)
    refine (scratch_at _ _ _ _ _ _ _ _ _ _ j l).trans ((slot_tile _ _ p (before n) g k l _ (by unfold base; simp; omega)).trans ?_)
    split
    · rename_i h; rw [col_pair, h]; exact B.k _ _ _
    · rfl
  vp hn g j k l h := by
    have h0 : (n : ℕ) ≠ 0 := fun h => hn (Fin.ext h)
    refine (scratch_at _ _ _ _ _ _ _ _ _ _ j l).trans ((slot_tile _ _ p (before n) g k l _ (by unfold base; simp; omega)).trans ?_)
    split
    · rename_i h; rw [col_pair, h]; exact B.v _ _ _
    · rfl
  bc g j a k h := by
    have e : kernelRun0_A.sl.v54 (ix2 a j) = IntOp.subi (BitVec.ofNat 32 ↑a) (BitVec.ofNat 32 ↑k) := by
      rw [other_at, if_neg (by omega), show (j : ℕ) % 128 = k by omega]
    have e' : (units i arg1 harg1 arg2 harg2 arg3 harg3 arg4 harg4 arg5 harg5 arg6 harg6 arg7 harg7 arg8 harg8 arg14 arg15 x0 x1 x2 x3 x4 x5 x6 x7 p n).b (ix2 a j) = kernelRun0_A.sl.v54 (ix2 a j) := by
      fin_cases n
      · exact (first_at i a j).trans (if_neg (by omega))
      · rfl
      · rfl
      · rfl
    rw [e', e]; exact sge_sub _ _ a.isLt k.isLt
  bp g j a k h := by
    have e : kernelRun0_A.sl.v54 (ix2 a j) = IntOp.subi (BitVec.ofNat 32 ↑k) (BitVec.ofNat 32 ↑a) := by
      rw [other_at, if_pos (by omega), show (j : ℕ) % 128 = k by omega]
    by_cases hn : n = 0
    · subst hn
      rw [if_neg (fun h => h.1 rfl)]
      have e' : (units i arg1 harg1 arg2 harg2 arg3 harg3 arg4 harg4 arg5 harg5 arg6 harg6 arg7 harg7 arg8 harg8 arg14 arg15 x0 x1 x2 x3 x4 x5 x6 x7 p 0).b (ix2 a j) = IntOp.subi (kernelRun0_A.sl.v54 (ix2 a j)) 512#32 := (first_at i a j).trans (if_pos (by omega))
      rw [e', e]; exact sge_sub_past _ _ k.isLt a.isLt
    · have e' : (units i arg1 harg1 arg2 harg2 arg3 harg3 arg4 harg4 arg5 harg5 arg6 harg6 arg7 harg7 arg8 harg8 arg14 arg15 x0 x1 x2 x3 x4 x5 x6 x7 p n).b (ix2 a j) = kernelRun0_A.sl.v54 (ix2 a j) := by
        fin_cases n
        · exact absurd rfl hn
        · rfl
        · rfl
        · rfl
      rw [e', e, sge_sub _ _ k.isLt a.isLt]
      by_cases hk : (a : ℕ) ≤ k
      · rw [if_pos hk, if_pos ⟨hn, hk⟩]
      · rw [if_neg hk, if_neg (fun h => hk h.2)]

theorem tails_shut (p : Fin 4) : Shut (tails i arg2 harg2 arg3 harg3 arg4 harg4 arg5 harg5 arg9 harg9 arg10 harg10 arg11 harg11 arg12 harg12 arg14 arg15 x1 x2 x3 x4 x8 x9 x10 x11 p) := fun a j => by
  have e : (tails i arg2 harg2 arg3 harg3 arg4 harg4 arg5 harg5 arg9 harg9 arg10 harg10 arg11 harg11 arg12 harg12 arg14 arg15 x1 x2 x3 x4 x8 x9 x10 x11 p).b (ix2 a j) = _ := tail_at i a j
  rw [e, other_at, if_pos (by exact j.isLt)]
  exact sge_sub_past _ _ (Nat.mod_lt _ (by decide)) a.isLt

/-- The gradient at a place of the tile. -/
noncomputable def tile (H : Fin 8 → Head (Fin 512) (Fin 64)) (y : S3x512x512.Idx) : EReal :=
  (((H ⟨(y 2).val / 64, by have := (y 2).isLt; simp at this; omega⟩).grad ok (y 0) (y 1) ⟨(y 2).val % 64, by omega⟩ : ℝ) : EReal)

theorem tile_at (H : Fin 8 → Head (Fin 512) (Fin 64)) (w : Fin 3) (i : Fin 512) (h : Fin 8) (e : Fin 64) :
    tile H (ix3 w i (col h e)) = (((H h).grad ok w i e : ℝ) : EReal) := by
  have a1 : (⟨((col h e : Fin 512) : ℕ) / 64, by omega⟩ : Fin 8) = h := Fin.ext (by show ((h : ℕ) * 64 + e) / 64 = h; omega)
  have a2 : (⟨((col h e : Fin 512) : ℕ) % 64, by omega⟩ : Fin 64) = e := Fin.ext (by show ((h : ℕ) * 64 + e) % 64 = e; omega)
  show (((H ⟨((col h e : Fin 512) : ℕ) / 64, _⟩).grad ok w i ⟨((col h e : Fin 512) : ℕ) % 64, _⟩ : ℝ) : EReal) = _
  rw [a1, a2]

theorem tile_emb (H : Fin 8 → Head (Fin 512) (Fin 64)) (w : Fin 3) (p n : Fin 4) (o0 o1 o2 : ℕ) (h0 : o0 = w) (h1 : o1 = 128 * (n : ℕ)) (h2 : o2 = 128 * (p : ℕ))
    (hb : ∀ a, (![o0, o1, o2] : Fin 3 → ℕ) a + S1x128x128.size a ≤ S3x512x512.size a) (z : Fin 1) (a l : Fin 128) :
    tile H ((Rect.unit (s := S3x512x512) ![o0, o1, o2] S1x128x128.size hb).emb (ix3 z a l)) = (((H (hd p (hi l))).grad ok w (pos n a) (lo l) : ℝ) : EReal) := by
  rw [← tile_at]
  refine congrArg _ (Rect.emb_eq_of_coords _ _ _ fun b => ?_)
  fin_cases b
  · show (w : ℕ) = o0 + 1 * (z : ℕ); omega
  · show 128 * (n : ℕ) + a = o1 + 1 * (a : ℕ); omega
  · show (2 * (p : ℕ) + (l : ℕ) / 64) * 64 + (l : ℕ) % 64 = o2 + 1 * (l : ℕ); omega

section Hits

variable {u : Fin 4 → Fin 4 → Unit4} {t : Fin 4 → Unit2} {H : Fin 8 → Head (Fin 512) (Fin 64)}
  (F : ∀ p n, Full (u p n) (fun g => H (hd p g)) n) (T : ∀ p, Shut (t p))
include F T

theorem dq_hit (p n : Fin 4) (o1 o2 : ℕ) (h1 : o1 = 128 * (n : ℕ)) (h2 : o2 = 128 * (p : ℕ)) (hb) (x : S1x128x128.Idx) :
    dqPiece u t p n x = tile H ((Rect.unit (s := S3x512x512) ![0, o1, o2] S1x128x128.size hb).emb x) := by
  obtain ⟨z, a, l, rfl⟩ : ∃ z a l, x = ix3 z a l := ⟨_, _, _, eq_ix3 x⟩
  exact (dqPiece_at (H := fun p g => H (hd p g)) F T p n z a l).trans (tile_emb H 0 p n 0 o1 o2 rfl h1 h2 hb z a l).symm

theorem dk_hit (p n : Fin 4) (o1 o2 : ℕ) (h1 : o1 = 128 * (n : ℕ)) (h2 : o2 = 128 * (p : ℕ)) (hb) (x : S1x128x128.Idx) :
    dkPiece u t p n x = tile H ((Rect.unit (s := S3x512x512) ![1, o1, o2] S1x128x128.size hb).emb x) := by
  obtain ⟨z, a, l, rfl⟩ : ∃ z a l, x = ix3 z a l := ⟨_, _, _, eq_ix3 x⟩
  exact (dkPiece_at (H := fun p g => H (hd p g)) F T p n z a l).trans (tile_emb H 1 p n 1 o1 o2 rfl h1 h2 hb z a l).symm

theorem dv_hit (p n : Fin 4) (o1 o2 : ℕ) (h1 : o1 = 128 * (n : ℕ)) (h2 : o2 = 128 * (p : ℕ)) (hb) (x : S1x128x128.Idx) :
    dvPiece u t p n x = tile H ((Rect.unit (s := S3x512x512) ![2, o1, o2] S1x128x128.size hb).emb x) := by
  obtain ⟨z, a, l, rfl⟩ : ∃ z a l, x = ix3 z a l := ⟨_, _, _, eq_ix3 x⟩
  exact (dvPiece_at (H := fun p g => H (hd p g)) F T p n z a l).trans (tile_emb H 2 p n 2 o1 o2 rfl h1 h2 hb z a l).symm

theorem stores_tile : ∀ q ∈ stores u t, ∀ x : q.1.shape.Idx, q.2 x = tile H (q.1.emb x) :=
  List.forall_mem_cons.2 ⟨dv_hit F T 3 3 384 384 rfl rfl (by decide),
  List.forall_mem_cons.2 ⟨dk_hit F T 3 3 384 384 rfl rfl (by decide),
  List.forall_mem_cons.2 ⟨dv_hit F T 3 2 256 384 rfl rfl (by decide),
  List.forall_mem_cons.2 ⟨dk_hit F T 3 2 256 384 rfl rfl (by decide),
  List.forall_mem_cons.2 ⟨dq_hit F T 3 3 384 384 rfl rfl (by decide),
  List.forall_mem_cons.2 ⟨dv_hit F T 3 1 128 384 rfl rfl (by decide),
  List.forall_mem_cons.2 ⟨dk_hit F T 3 1 128 384 rfl rfl (by decide),
  List.forall_mem_cons.2 ⟨dq_hit F T 3 2 256 384 rfl rfl (by decide),
  List.forall_mem_cons.2 ⟨dv_hit F T 3 0 0 384 rfl rfl (by decide),
  List.forall_mem_cons.2 ⟨dk_hit F T 3 0 0 384 rfl rfl (by decide),
  List.forall_mem_cons.2 ⟨dq_hit F T 3 1 128 384 rfl rfl (by decide),
  List.forall_mem_cons.2 ⟨dq_hit F T 3 0 0 384 rfl rfl (by decide),
  List.forall_mem_cons.2 ⟨dv_hit F T 2 3 384 256 rfl rfl (by decide),
  List.forall_mem_cons.2 ⟨dk_hit F T 2 3 384 256 rfl rfl (by decide),
  List.forall_mem_cons.2 ⟨dv_hit F T 2 2 256 256 rfl rfl (by decide),
  List.forall_mem_cons.2 ⟨dk_hit F T 2 2 256 256 rfl rfl (by decide),
  List.forall_mem_cons.2 ⟨dq_hit F T 2 3 384 256 rfl rfl (by decide),
  List.forall_mem_cons.2 ⟨dv_hit F T 2 1 128 256 rfl rfl (by decide),
  List.forall_mem_cons.2 ⟨dk_hit F T 2 1 128 256 rfl rfl (by decide),
  List.forall_mem_cons.2 ⟨dq_hit F T 2 2 256 256 rfl rfl (by decide),
  List.forall_mem_cons.2 ⟨dv_hit F T 2 0 0 256 rfl rfl (by decide),
  List.forall_mem_cons.2 ⟨dk_hit F T 2 0 0 256 rfl rfl (by decide),
  List.forall_mem_cons.2 ⟨dq_hit F T 2 1 128 256 rfl rfl (by decide),
  List.forall_mem_cons.2 ⟨dq_hit F T 2 0 0 256 rfl rfl (by decide),
  List.forall_mem_cons.2 ⟨dv_hit F T 1 3 384 128 rfl rfl (by decide),
  List.forall_mem_cons.2 ⟨dk_hit F T 1 3 384 128 rfl rfl (by decide),
  List.forall_mem_cons.2 ⟨dv_hit F T 1 2 256 128 rfl rfl (by decide),
  List.forall_mem_cons.2 ⟨dk_hit F T 1 2 256 128 rfl rfl (by decide),
  List.forall_mem_cons.2 ⟨dq_hit F T 1 3 384 128 rfl rfl (by decide),
  List.forall_mem_cons.2 ⟨dv_hit F T 1 1 128 128 rfl rfl (by decide),
  List.forall_mem_cons.2 ⟨dk_hit F T 1 1 128 128 rfl rfl (by decide),
  List.forall_mem_cons.2 ⟨dq_hit F T 1 2 256 128 rfl rfl (by decide),
  List.forall_mem_cons.2 ⟨dv_hit F T 1 0 0 128 rfl rfl (by decide),
  List.forall_mem_cons.2 ⟨dk_hit F T 1 0 0 128 rfl rfl (by decide),
  List.forall_mem_cons.2 ⟨dq_hit F T 1 1 128 128 rfl rfl (by decide),
  List.forall_mem_cons.2 ⟨dq_hit F T 1 0 0 128 rfl rfl (by decide),
  List.forall_mem_cons.2 ⟨dv_hit F T 0 3 384 0 rfl rfl (by decide),
  List.forall_mem_cons.2 ⟨dk_hit F T 0 3 384 0 rfl rfl (by decide),
  List.forall_mem_cons.2 ⟨dv_hit F T 0 2 256 0 rfl rfl (by decide),
  List.forall_mem_cons.2 ⟨dk_hit F T 0 2 256 0 rfl rfl (by decide),
  List.forall_mem_cons.2 ⟨dq_hit F T 0 3 384 0 rfl rfl (by decide),
  List.forall_mem_cons.2 ⟨dv_hit F T 0 1 128 0 rfl rfl (by decide),
  List.forall_mem_cons.2 ⟨dk_hit F T 0 1 128 0 rfl rfl (by decide),
  List.forall_mem_cons.2 ⟨dq_hit F T 0 2 256 0 rfl rfl (by decide),
  List.forall_mem_cons.2 ⟨dv_hit F T 0 0 0 0 rfl rfl (by decide),
  List.forall_mem_cons.2 ⟨dk_hit F T 0 0 0 0 rfl rfl (by decide),
  List.forall_mem_cons.2 ⟨dq_hit F T 0 1 128 0 rfl rfl (by decide),
  List.forall_mem_cons.2 ⟨dq_hit F T 0 0 0 0 rfl rfl (by decide),
  List.forall_mem_nil _⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩

end Hits

include B in
/-- What one tile's run leaves in the output's block. -/
theorem out_tile : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 = tile H := by
  funext y
  unfold out0_A_12
  have cov := cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 y
  rw [run_stores] at cov ⊢
  exact View.read_writes_apply_of_pieces (Val := Elt Ideal) _ _ (tile H) _ (stores_tile (units_full i arg1 harg1 arg2 harg2 arg3 harg3 arg4 harg4 arg5 harg5 arg6 harg6 arg7 harg7 arg8 harg8 arg14 arg15 x0 x1 x2 x3 x4 x5 x6 x7 B) (tails_shut i arg2 harg2 arg3 harg3 arg4 harg4 arg5 harg5 arg9 harg9 arg10 harg10 arg11 harg11 arg12 harg12 arg14 arg15 x1 x2 x3 x4 x8 x9 x10 x11)) y cov

end Run

end Cert.KernelIdeal.Tile

end
-- ==== Proof.Entry.lean ====
/- What the kernel's host lines compute before the call, read at an index over finite arguments. -/
module

public import proofs.«01_k».proof.Proof.RefRead
public import proofs.«01_k».proof.Proof.Gen.KernelIdeal.Value
public import Idealize.ShloMosaic.Lib.Claim

@[expose] public section

set_option maxRecDepth 16384

noncomputable section

namespace Cert.KernelIdeal.Entry

open Cert.KernelIdeal Cert.KernelIdeal.Gen Idealize.ShloMosaic Idealize.ShloMosaic.TcCoe Idealize.ShloMosaic.StableHlo Attn

variable {X : Fin 3 → Fin 8192 → Fin 512 → ℝ} {Y : Fin 8192 → Fin 512 → ℝ}

section Stages

variable (A : FVec Ideal S16x8x512x512 .f32) (B : FVec Ideal S16x512x8x64 .f32)

/-- The maximum of each row of the scores `A`. -/
def top : FVec Ideal S16x8x512 .f32 :=
  Host.reduce FloatOps.maximumf A (constant S_ .f32 0xFF800000#32) reducesTo_S16x8x512x512_S16x8x512_d3 h_S_

/-- The exponentials of the scores less their row's maximum. -/
def weight : FVec Ideal S16x8x512x512 .f32 :=
  Host.exp (subf A (broadcastInDim S16x8x512x512 ![0, 1, 2, 3] bcast_S16x8x512x1_S16x8x512x512_0_1_2_3
    (broadcastInDim S16x8x512x1 ![0, 1, 2] bcast_S16x8x512_S16x8x512x1_0_1_2 (top A))))

/-- The sum of each row's exponentials. -/
def mass : FVec Ideal S16x8x512 .f32 :=
  Host.reduceAdd (weight A) (constant S_ .f32 0x00000000#32) reducesTo_S16x8x512x512_S16x8x512_d3 h_S_

/-- The exponentials times the values. -/
def pulled : FVec Ideal S16x8x512x64 .f32 :=
  Host.dotGeneral dot_S16x8x512x512_S16x512x8x64_S16x8x512x64_3_1_2_3_01_02 none (weight A) B

/-- The logarithm of the sum of exponentials of a row. -/
def lseHead : FVec Ideal S16x8x512 .f32 := addf (top A) (Host.log (mass A))

/-- The same with the heads last. -/
def lseSeq : FVec Ideal S16x512x8 .f32 := transpose S16x512x8 [0, 2, 1] (lseHead A) transposes_S16x8x512_S16x512x8_0_2_1

/-- The same, token by token. -/
def lseRow : FVec Ideal S8192x8 .f32 := shapeCast S8192x8 (lseSeq A) shapeCasts_S16x512x8_S8192x8

/-- The same, once per column of the head. -/
def lse : FVec Ideal S8192x512 .f32 :=
  shapeCast S8192x512 (broadcastInDim S8192x8x64 ![0, 1] bcast_S8192x8_S8192x8x64_0_1 (lseRow A)) shapeCasts_S8192x8x64_S8192x512

/-- The attention's output. -/
def pooled : FVec Ideal S8192x512 .f32 :=
  shapeCast S8192x512 (transpose S16x512x8x64 [0, 2, 1, 3] (Host.divf (pulled A B)
    (broadcastInDim S16x8x512x64 ![0, 1, 2, 3] bcast_S16x8x512x1_S16x8x512x64_0_1_2_3
      (broadcastInDim S16x8x512x1 ![0, 1, 2] bcast_S16x8x512_S16x8x512x1_0_1_2 (mass A))))
    transposes_S16x8x512x64_S16x512x8x64_0_2_1_3) shapeCasts_S16x512x8x64_S8192x512

/-- The products of the output and its cotangent, summed over each head, once per column of the head. -/
def along (C : FVec Ideal S8192x512 .f32) : FVec Ideal S8192x512 .f32 :=
  shapeCast S8192x512 (broadcastInDim S8192x8x64 ![0, 1] bcast_S8192x8_S8192x8x64_0_1
    (Host.reduceAdd (shapeCast S8192x8x64 (mulf C (pooled A B)) shapeCasts_S8192x512_S8192x8x64)
      (constant S_ .f32 0x00000000#32) reducesTo_S8192x8x64_S8192x8_d2 h_S_)) shapeCasts_S8192x8x64_S8192x512

variable {A B}

/-- `A` and `B` hold the scores and the values of every head. -/
structure Scores (A : FVec Ideal S16x8x512x512 .f32) (B : FVec Ideal S16x512x8x64 .f32) (X : Fin 3 → Fin 8192 → Fin 512 → ℝ) (Y : Fin 8192 → Fin 512 → ℝ) : Prop where
  a : ∀ r h i j, A (ix4 r h i j) = (head X Y r h).S ok i j
  b : ∀ r i h e, B (ix4 r i h e) = (((head X Y r h).V i e : ℝ) : EReal)

theorem top_at (H : Scores A B X Y) (r : Fin 16) (h : Fin 8) (i : Fin 512) : top A (ix3 r h i) = (((head X Y r h).M ok i : ℝ) : EReal) := by
  unfold top
  pointwise
  rw [Cert.ReferenceIdeal.Read.bottom, ← Head.sup_eq _ _ (ok_self i)]
  exact Finset.fold_congr fun j _ => H.a r h i j

theorem weight_at (H : Scores A B X Y) (r : Fin 16) (h : Fin 8) (i j : Fin 512) : weight A (ix4 r h i j) = (((head X Y r h).P ok i j : ℝ) : EReal) := by
  unfold weight
  pointwise
  rw [H.a, top_at H, Head.exp_sub]

theorem mass_at (H : Scores A B X Y) (r : Fin 16) (h : Fin 8) (i : Fin 512) : mass A (ix3 r h i) = (((head X Y r h).D ok i : ℝ) : EReal) := by
  unfold mass
  pointwise
  exact Attn.sum_coe _ fun j _ => weight_at H r h i j

theorem pulled_at (H : Scores A B X Y) (r : Fin 16) (h : Fin 8) (i : Fin 512) (e : Fin 64) :
    pulled A B (ix4 r h i e) = (((head X Y r h).num ok i e : ℝ) : EReal) := by
  unfold pulled
  pointwise
  exact Attn.sum_coe _ fun j _ => by rw [weight_at H, H.b, EReal.coe_mul]

theorem head_of (h : Fin 8) (e : Fin 64) (p : ((h : ℕ) * 64 + (e : ℕ)) / 64 < 8) : (⟨((h : ℕ) * 64 + (e : ℕ)) / 64, p⟩ : Fin 8) = h :=
  Fin.ext (by show ((h : ℕ) * 64 + e) / 64 = h; omega)

theorem lane_of (h : Fin 8) (e : Fin 64) (p : ((h : ℕ) * 64 + (e : ℕ)) % 64 < 64) : (⟨((h : ℕ) * 64 + (e : ℕ)) % 64, p⟩ : Fin 64) = e :=
  Fin.ext (by show ((h : ℕ) * 64 + e) % 64 = e; omega)

theorem seq_of (r : Fin 16) (i : Fin 512) (p : ((r : ℕ) * 512 + (i : ℕ)) / 512 < 16) : (⟨((r : ℕ) * 512 + (i : ℕ)) / 512, p⟩ : Fin 16) = r :=
  Fin.ext (by show ((r : ℕ) * 512 + i) / 512 = r; omega)

theorem place_of (r : Fin 16) (i : Fin 512) (p : ((r : ℕ) * 512 + (i : ℕ)) % 512 < 512) : (⟨((r : ℕ) * 512 + (i : ℕ)) % 512, p⟩ : Fin 512) = i :=
  Fin.ext (by show ((r : ℕ) * 512 + i) % 512 = i; omega)

theorem add_log (T U : FVec Ideal S16x8x512 .f32) (x : S16x8x512.Idx) {a d : ℝ} (hT : T x = (a : EReal)) (hU : U x = (d : EReal)) (hd : 0 < d) :
    addf T (Host.log U) x = ((a + Real.log d : ℝ) : EReal) := by
  show T x + Ideal.log (U x) = _
  rw [hT, hU, log_coe_pos hd, ← EReal.coe_add]

theorem lseHead_at (H : Scores A B X Y) (r : Fin 16) (h : Fin 8) (i : Fin 512) :
    lseHead A (ix3 r h i) = (((head X Y r h).M ok i + Real.log ((head X Y r h).D ok i) : ℝ) : EReal) := by
  unfold lseHead
  exact add_log _ _ _ (top_at H r h i) (mass_at H r h i) (Head.D_pos _ i (ok_self i))

theorem lseSeq_at (r : Fin 16) (i : Fin 512) (h : Fin 8) : lseSeq A (ix3 r i h) = lseHead A (ix3 r h i) := by
  unfold lseSeq
  pointwise

/-- Reading the tokens of one axis by their sequence and their place in it. -/
theorem cast_row {α : Type} (x : S16x512x8.Idx → α) (t : Fin 8192) (h : Fin 8) (r : Fin 16) (i : Fin 512) (ht : (t : ℕ) = r * 512 + i)  :
    shapeCast S8192x8 x shapeCasts_S16x512x8_S8192x8 (ix2 t h) = x (ix3 r i h) := by
  refine Idealize.ShloMosaic.shapeCast_apply (s := S16x512x8) (t := S8192x8) x shapeCasts_S16x512x8_S8192x8 (ix2 t h) (ix3 r i h) ?_
  refine (Shape.rowMajor_val_three (d := ![16, 512, 8]) (ix3 r i h)).trans (Eq.trans ?_ (Shape.rowMajor_val_two (d := ![8192, 8]) (ix2 t h)).symm)
  show ((r : ℕ) * 512 + (i : ℕ)) * 8 + (h : ℕ) = (t : ℕ) * 8 + (h : ℕ)
  rw [ht]

theorem lseRow_at (H : Scores A B X Y) (r : Fin 16) (i : Fin 512) (h : Fin 8) :
    lseRow A (ix2 (row r i) h) = (((head X Y r h).M ok i + Real.log ((head X Y r h).D ok i) : ℝ) : EReal) :=
  (cast_row (lseSeq A) (row r i) h r i rfl).trans ((lseSeq_at r i h).trans (lseHead_at H r h i))

theorem lse_at (H : Scores A B X Y) (r : Fin 16) (i : Fin 512) (h : Fin 8) (e : Fin 64) :
    lse A (ix2 (row r i) (col h e)) = (((head X Y r h).M ok i + Real.log ((head X Y r h).D ok i) : ℝ) : EReal) := by
  unfold lse
  pointwise
  rw [head_of]
  exact lseRow_at H r i h

theorem pooled_at (H : Scores A B X Y) (r : Fin 16) (i : Fin 512) (h : Fin 8) (e : Fin 64) :
    pooled A B (ix2 (row r i) (col h e)) = (((head X Y r h).O ok i e : ℝ) : EReal) := by
  unfold pooled
  pointwise
  rw [seq_of, place_of, head_of, lane_of, pulled_at H, mass_at H, Attn.div_coe_coe _ (Head.D_pos _ i (ok_self i)).ne']
  rfl

theorem along_at (H : Scores A B X Y) (C : FVec Ideal S8192x512 .f32)
    (hC : ∀ t a, C (ix2 t a) = ((Y t a : ℝ) : EReal)) (r : Fin 16) (i : Fin 512) (h : Fin 8) (e : Fin 64) :
    along A B C (ix2 (row r i) (col h e)) = (((head X Y r h).del ok i : ℝ) : EReal) := by
  unfold along
  pointwise
  refine Attn.sum_coe (f := fun x => (head X Y r h).C i x * (head X Y r h).O ok i x) _ fun x _ => ?_
  have hx : ∀ p, (⟨((h : ℕ) * 64 + (e : ℕ)) / 64 * 64 + (x : ℕ), p⟩ : Fin 512) = col h x := fun p =>
    Fin.ext (by show ((h : ℕ) * 64 + (e : ℕ)) / 64 * 64 + (x : ℕ) = h * 64 + x; omega)
  rw [hx, hC, EReal.coe_mul]
  exact congrArg₂ (· * ·) rfl (pooled_at H r i h x)

end Stages

section Lines

variable (σ : Valuation τ sig (Elt Ideal))

theorem tail_lse : (after hostOps0_2 σ (Proc.tc.devRef main_v43) : S8192x512.Idx → EReal) = lse (σ (Proc.tc.devRef main_v27)) := by
  entry_read
  rfl

theorem tail_along : (after hostOps0_2 σ (Proc.tc.devRef main_v50) : S8192x512.Idx → EReal)
    = along (σ (Proc.tc.devRef main_v27)) (σ (Proc.tc.devRef main_v11)) (σ (Proc.tc.devRef main_arg1)) := by
  entry_read
  rfl

theorem mid_scores : (after hostOps0_1 σ (Proc.tc.devRef main_v27) : S16x8x512x512.Idx → EReal)
    = select (broadcastInDim S16x8x512x512 ![2, 3] bcast_S512x512_S16x8x512x512_2_3 (σ (Proc.tc.devRef main_v26)))
        (σ (Proc.tc.devRef main_v14)) (broadcastInDim S16x8x512x512 ![] bcast_S_S16x8x512x512 (σ (Proc.tc.devRef main_cst_1))) := by
  entry_read
  rfl

theorem mid_v : after hostOps0_1 σ (Proc.tc.devRef main_v11) = σ (Proc.tc.devRef main_v11) := by
  entry_read
  rfl

theorem mid_y : after hostOps0_1 σ (Proc.tc.devRef main_arg1) = σ (Proc.tc.devRef main_arg1) := by
  entry_read
  rfl

theorem init_y : after hostOps0 σ (Proc.tc.devRef main_arg1) = σ (Proc.tc.devRef main_arg1) := by
  entry_read
  rfl

/-- The two arguments hold the reals `X` and `Y`. -/
structure Holds (X : Fin 3 → Fin 8192 → Fin 512 → ℝ) (Y : Fin 8192 → Fin 512 → ℝ) : Prop where
  x : ∀ w t a, (σ (Proc.tc.devRef main_arg0) : S3x8192x512.Idx → EReal) (ix3 w t a) = ((X w t a : ℝ) : EReal)
  y : ∀ t a, (σ (Proc.tc.devRef main_arg1) : S8192x512.Idx → EReal) (ix2 t a) = ((Y t a : ℝ) : EReal)

variable {σ}

theorem init_v (H : Holds σ X Y) (r : Fin 16) (i : Fin 512) (h : Fin 8) (e : Fin 64) :
    (after hostOps0 σ (Proc.tc.devRef main_v11) : S16x512x8x64.Idx → EReal) (ix4 r i h e) = (((head X Y r h).V i e : ℝ) : EReal) := by
  entry_read
  pointwise
  exact H.x _ _ _

theorem init_mask (i j : Fin 512) :
    (after hostOps0 σ (Proc.tc.devRef main_v26) : S512x512.Idx → BitVec 1) (ix2 i j) = if ok i j then 1#1 else 0#1 := by
  entry_read
  pointwise
  exact Cert.ReferenceIdeal.Read.band i j

theorem init_bottom (x : S_.Idx) : (after hostOps0 σ (Proc.tc.devRef main_cst_1) : S_.Idx → EReal) x = (⊥ : EReal) := by
  entry_read
  exact Cert.ReferenceIdeal.Read.bottom

theorem init_scores (H : Holds σ X Y) (r : Fin 16) (h : Fin 8) (i j : Fin 512) :
    (after hostOps0 σ (Proc.tc.devRef main_v14) : S16x8x512x512.Idx → EReal) (ix4 r h i j) = ((((head X Y r h).s i j) : ℝ) : EReal) := by
  entry_read
  pointwise
  rw [Attn.sum_coe (f := fun e => (head X Y r h).Q i e * (head X Y r h).K j e) _
    (fun e _ => by rw [EReal.coe_mul]; exact congrArg₂ (· * ·) (H.x _ _ _) (H.x _ _ _)), Cert.ReferenceIdeal.Read.eighth, ← EReal.coe_mul]
  rfl

theorem scores (H : Holds σ X Y) :
    Scores (after hostOps0_1 (after hostOps0 σ) (Proc.tc.devRef main_v27)) (after hostOps0_1 (after hostOps0 σ) (Proc.tc.devRef main_v11)) X Y where
  a r h i j := by
    rw [mid_scores]
    pointwise
    refine (congrArg₂ (fun (p : BitVec 1) (q : EReal × EReal) => Scalar.select p q.1 q.2) (init_mask (σ := σ) i j)
      (congrArg₂ Prod.mk (init_scores H r h i j) (init_bottom (σ := σ) ix0))).trans ?_
    unfold Head.S
    by_cases hij : ok i j
    · rw [if_pos hij, if_pos hij]; exact if_pos rfl
    · rw [if_neg hij, if_neg hij]; exact if_neg (by decide)
  b r i h e := by
    rw [mid_v]
    exact init_v H r i h e

end Lines

end Cert.KernelIdeal.Entry

end
-- ==== Proof.Assemble.lean ====
/- From tiles to arrays: each grid point's blocks are its sequence's heads, so the array the kernel leaves holds the
   gradients of all of them. -/
module

public import proofs.«01_k».proof.Proof.TileRead
public import proofs.«01_k».proof.Proof.Entry
public import Idealize.ShloMosaic.Lib.Pipeline.ValueKit
public import Idealize.ShloMosaic.Lib.Claim

@[expose] public section

set_option maxRecDepth 16384

noncomputable section

namespace Cert.KernelIdeal.Assemble

open Cert.KernelIdeal Cert.KernelIdeal.Gen Idealize.ShloMosaic Idealize.ShloMosaic.TcCoe Idealize.ShloMosaic.StableHlo Attn

variable (m : (ℓ : Loc nD τ sig) → Buf (Elt Ideal) ℓ) (c : Dev nD)
  {X : Fin 3 → Fin 8192 → Fin 512 → ℝ} {Y : Fin 8192 → Fin 512 → ℝ}

/-- The launch contents of one device. -/
abbrev launch : Valuation τ sig (Elt Ideal) := fun b => m (c, b)

theorem entry_eq (b : Ref sig .tc) :
    V m c b = after hostOps0_2 (after hostOps0_1 (after hostOps0 (launch m c))) (Proc.tc.devRef b) := by
  show after (hostOps0 ++ (hostOps0_1 ++ (hostOps0_2 ++ []))) _ _ = _
  rw [List.append_nil, after_append, after_append]

variable {m c} (H : Entry.Holds (launch m c) X Y)
include H

theorem lse_entry (r : Fin 16) (i : Fin 512) (h : Fin 8) (e : Fin 64) :
    (V m c main_v43 : S8192x512.Idx → EReal) (ix2 (row r i) (col h e))
      = (((head X Y r h).M ok i + Real.log ((head X Y r h).D ok i) : ℝ) : EReal) := by
  rw [entry_eq, Entry.tail_lse]
  exact Entry.lse_at (Entry.scores H) r i h e

theorem along_entry (r : Fin 16) (i : Fin 512) (h : Fin 8) (e : Fin 64) :
    (V m c main_v50 : S8192x512.Idx → EReal) (ix2 (row r i) (col h e)) = (((head X Y r h).del ok i : ℝ) : EReal) := by
  rw [entry_eq, Entry.tail_along]
  exact Entry.along_at (Entry.scores H) _ (fun t a => by rw [Entry.mid_y, Entry.init_y]; exact H.y t a) r i h e

theorem cot_entry (t : Fin 8192) (a : Fin 512) : (V m c main_v51 : S8192x512.Idx → EReal) (ix2 t a) = ((Y t a : ℝ) : EReal) := by
  rw [entry_eq]
  have : (after hostOps0_2 (after hostOps0_1 (after hostOps0 (launch m c))) (Proc.tc.devRef main_v51) : S8192x512.Idx → EReal)
      = after hostOps0_1 (after hostOps0 (launch m c)) (Proc.tc.devRef main_arg1) := by
    entry_read
    rfl
  rw [this, Entry.mid_y, Entry.init_y]
  exact H.y t a

omit H

theorem idx0 : ∀ t : Fin cfg0.N, win0_0.index t = ![0, (t : ℕ), 0] := by decide +kernel
theorem idx1 : ∀ t : Fin cfg0.N, win0_1.index t = ![1, (t : ℕ), 0] := by decide +kernel
theorem idx2 : ∀ t : Fin cfg0.N, win0_2.index t = ![2, (t : ℕ), 0] := by decide +kernel
theorem idx5 : ∀ t : Fin cfg0.N, win0_5.index t = ![(t : ℕ), 0] := by decide +kernel
theorem idx6 : ∀ t : Fin cfg0.N, win0_6.index t = ![(t : ℕ), 0] := by decide +kernel
theorem idx7 : ∀ t : Fin cfg0.N, win0_7.index t = ![(t : ℕ), 0] := by decide +kernel
theorem idx12 : ∀ t : Fin cfg0.N, win0_12.index t = ![0, (t : ℕ), 0] := by decide +kernel

/-- The sequence of grid point `t`. -/
def seq (t : Fin cfg0.N) : Fin 16 := ⟨t, lt_of_lt_of_eq t.isLt N_0⟩

theorem seq_val (t : Fin cfg0.N) : (seq t : ℕ) = (t : ℕ) := rfl

theorem blk0 (v : (⟨S3x8192x512, .bf16⟩ : BufTy).Contents (Elt Ideal)) (t : Fin cfg0.N) (i a : Fin 512) :
    (((cfg0.win 0).blk t).view.read (Elt Ideal) v) (ix3 0 i a) = v (ix3 0 (row (seq t) i) a) := by
  blk_ext [idx0 t]
  rfl
theorem blk1 (v : (⟨S3x8192x512, .bf16⟩ : BufTy).Contents (Elt Ideal)) (t : Fin cfg0.N) (i a : Fin 512) :
    (((cfg0.win 1).blk t).view.read (Elt Ideal) v) (ix3 0 i a) = v (ix3 1 (row (seq t) i) a) := by
  blk_ext [idx1 t]
  rfl
theorem blk2 (v : (⟨S3x8192x512, .bf16⟩ : BufTy).Contents (Elt Ideal)) (t : Fin cfg0.N) (i a : Fin 512) :
    (((cfg0.win 2).blk t).view.read (Elt Ideal) v) (ix3 0 i a) = v (ix3 2 (row (seq t) i) a) := by
  blk_ext [idx2 t]
  rfl
theorem blk5 (v : (⟨S8192x512, .bf16⟩ : BufTy).Contents (Elt Ideal)) (t : Fin cfg0.N) (i a : Fin 512) :
    (((cfg0.win 5).blk t).view.read (Elt Ideal) v) (ix2 i a) = v (ix2 (row (seq t) i) a) := by
  blk_ext [idx5 t]
  rfl
theorem blk6 (v : (⟨S8192x512, .f32⟩ : BufTy).Contents (Elt Ideal)) (t : Fin cfg0.N) (i a : Fin 512) :
    (((cfg0.win 6).blk t).view.read (Elt Ideal) v) (ix2 i a) = v (ix2 (row (seq t) i) a) := by
  blk_ext [idx6 t]
  rfl
theorem blk7 (v : (⟨S8192x512, .f32⟩ : BufTy).Contents (Elt Ideal)) (t : Fin cfg0.N) (i a : Fin 512) :
    (((cfg0.win 7).blk t).view.read (Elt Ideal) v) (ix2 i a) = v (ix2 (row (seq t) i) a) := by
  blk_ext [idx7 t]
  rfl

variable (m c)

/-- The blocks of grid point `t` are the heads of its sequence. -/
theorem blocks (H : Entry.Holds (launch m c) X Y) (t : Fin cfg0.N) :
    Tile.Blocks (iblk m c 0 t) (iblk m c 1 t) (iblk m c 2 t) (iblk m c 5 t) (iblk m c 6 t) (iblk m c 7 t) (head X Y (seq t)) where
  q h i e := (blk0 (V m c main_arg0) t i (col h e)).trans ((congrFun (V_main_arg0 m c) _).trans (H.x _ _ _))
  k h i e := (blk1 (V m c main_arg0) t i (col h e)).trans ((congrFun (V_main_arg0 m c) _).trans (H.x _ _ _))
  v h i e := (blk2 (V m c main_arg0) t i (col h e)).trans ((congrFun (V_main_arg0 m c) _).trans (H.x _ _ _))
  o h i e := (blk5 (V m c main_v51) t i (col h e)).trans (cot_entry H _ _)
  l h i e := (blk6 (V m c main_v43) t i (col h e)).trans (lse_entry H _ _ _ _)
  d h i e := (blk7 (V m c main_v50) t i (col h e)).trans (along_entry H _ _ _ _)

/-- The gradients of every head of every sequence, laid out as the arguments are. -/
def grads (X : Fin 3 → Fin 8192 → Fin 512 → ℝ) (Y : Fin 8192 → Fin 512 → ℝ) : (⟨S3x8192x512, .f32⟩ : BufTy).Contents (Elt Ideal) := fun y =>
  Tile.tile (head X Y ⟨(y 1 : ℕ) / 512, by have : (y 1 : ℕ) < 8192 := (y 1).isLt; omega⟩)
    (ix3 (y 0) ⟨(y 1 : ℕ) % 512, by omega⟩ (y 2))

theorem grads_at (w : Fin 3) (r : Fin 16) (i : Fin 512) (h : Fin 8) (e : Fin 64) :
    grads X Y (ix3 w (row r i) (col h e)) = (((head X Y r h).grad ok w i e : ℝ) : EReal) := by
  have a1 : (⟨((row r i : Fin 8192) : ℕ) / 512, by omega⟩ : Fin 16) = r := Fin.ext (by show ((r : ℕ) * 512 + i) / 512 = r; omega)
  have a2 : (⟨((row r i : Fin 8192) : ℕ) % 512, by omega⟩ : Fin 512) = i := Fin.ext (by show ((r : ℕ) * 512 + i) % 512 = i; omega)
  show Tile.tile (head X Y ⟨((row r i : Fin 8192) : ℕ) / 512, _⟩) (ix3 w ⟨((row r i : Fin 8192) : ℕ) % 512, _⟩ (col h e)) = _
  rw [a1, a2]
  exact Tile.tile_at _ w i h e

theorem after12 (H : Entry.Holds (launch m c) X Y) (t : Fin cfg0.N) : (dats m 0 c).after 12 t = Tile.tile (head X Y (seq t)) := by
  rw [after0_12]
  simp only [outsAt0]
  exact Tile.out_tile (B := blocks m c H t) ..

theorem blk12 (t : Fin cfg0.N) (y : S3x512x512.Idx) : grads X Y (((cfg0.win 12).blk t).view.emb y) = Tile.tile (head X Y (seq t)) y := by
  have e : ((cfg0.win 12).blk t).view.emb y = (ix3 (y 0) (row (seq t) (y 1)) (y 2) : S3x8192x512.Idx) := by
    blk_ext [idx12 t]
    rfl
  rw [e]
  have a1 : (⟨((row (seq t) (y 1) : Fin 8192) : ℕ) / 512, by omega⟩ : Fin 16) = seq t :=
    Fin.ext (by have : (y 1 : ℕ) < 512 := (y 1).isLt; show ((seq t : ℕ) * 512 + (y 1 : ℕ)) / 512 = seq t; omega)
  have a2 : (⟨((row (seq t) (y 1) : Fin 8192) : ℕ) % 512, by omega⟩ : Fin 512) = y 1 :=
    Fin.ext (by have : (y 1 : ℕ) < 512 := (y 1).isLt; show ((seq t : ℕ) * 512 + (y 1 : ℕ)) % 512 = y 1; omega)
  show Tile.tile (head X Y ⟨((row (seq t) (y 1) : Fin 8192) : ℕ) / 512, _⟩) (ix3 (y 0) ⟨((row (seq t) (y 1) : Fin 8192) : ℕ) % 512, _⟩ (y 2)) = _
  rw [a1, a2]
  exact congrArg _ (ix3_eta y)

theorem array (H : Entry.Holds (launch m c) X Y) : (dats m 0 c).arrAt 12 cfg0.N = grads X Y := by
  refine (dats m 0 c).arrAt_eq_of_covers 12 _ (by decide +kernel) fun t hf y => ?_
  refine Eq.trans ?_ (blk12 t y).symm
  have e := congrFun (after12 m c H t) ((cfg0.win 12).xinj (cfg0.grid.coords t) y)
  refine (congrArg (cast _) e).trans ?_
  rfl

end Cert.KernelIdeal.Assemble

end
-- ==== Proof.Finite2.lean ====
/- The second precondition read back: arguments of which it holds are real at every index. -/
module

public import proofs.«01_k».proof.Proof.Finite
public import proofs.«01_k».proof.Pre_finite2
public import proofs.«01_k».proof.Proof.Gen.Pre_finite2

@[expose] public section

noncomputable section

namespace Cert.Pre_finite2.Read

open Cert.Pre_finite2 Cert.Pre_finite2.Gen Idealize.ShloMosaic Cert.Pre_finite.Read

/-- Every entry is a real. -/
abbrev Real {S : Shape} (x : S.Idx → EReal) : Prop := ∀ i, x i = (((x i).toReal : ℝ) : EReal)

theorem all (p : FVec Ideal S8192x10240 .bf16) (w : FVec Ideal S1024x10240 .bf16) (x r : FVec Ideal S8192x1024 .f32)
    (s : FVec Ideal S3x1024 .f32) (g : FVec Ideal S1x1024 .f32) (h : fn (F := Ideal) p w x r s g = fun _ => 1#1) :
    Real p ∧ Real w ∧ Real x ∧ Real r ∧ Real s ∧ Real g := by
  have h0 := congrFun h ix0
  unfold fn fn_part1 at h0
  obtain ⟨h0, hg⟩ := andi_one _ _ h0
  obtain ⟨h0, hs⟩ := andi_one _ _ h0
  obtain ⟨h0, hr⟩ := andi_one _ _ h0
  obtain ⟨h0, hx⟩ := andi_one _ _ h0
  obtain ⟨hp, hw⟩ := andi_one _ _ h0
  haveI : Subsingleton S_.Idx := ⟨fun a b => funext fun i => i.elim0⟩
  refine ⟨fun i => real_of _ ?_, fun i => real_of _ ?_, fun i => real_of _ ?_, fun i => real_of _ ?_, fun i => real_of _ ?_, fun i => real_of _ ?_⟩
  all_goals rw [← top_word]
  · exact Host.reduce_andi_all _ _ _ _ ix0 hp i
  · exact Host.reduce_andi_all _ _ _ _ ix0 hw i
  · exact Host.reduce_andi_all _ _ _ _ ix0 hx i
  · exact Host.reduce_andi_all _ _ _ _ ix0 hr i
  · exact Host.reduce_andi_all _ _ _ _ ix0 hs i
  · exact Host.reduce_andi_all _ _ _ _ ix0 hg i

end Cert.Pre_finite2.Read

end
-- ==== Proof.Norm.lean ====
/- The real mathematics of the gradient of a modulated norm followed by a projection: tokens indexed by `τ`, features by
   `δ`, columns by `γ`. Nothing here names a program. -/
module

public import proofs.«01_k».proof.Proof.Rows

@[expose] public section

noncomputable section

namespace Norm

open Finset Idealize.ShloMosaic

/-- The number added to the mean of squares: the value of the word 0x358637BD. -/
def eps : ℝ := 8796093 / 8796093022208

theorem eps_word : Ideal.ofBits .f32 0x358637BD#32 = ((eps : ℝ) : EReal) := by
  unfold eps
  simp [Ideal.ofBits, Ideal.ieee, -EReal.coe_mul]; norm_num

theorem width_word : Ideal.ofBits .f32 0x44800000#32 = ((1024 : ℝ) : EReal) := by
  simp [Ideal.ofBits, Ideal.ieee, -EReal.coe_mul]; norm_num

theorem one_word : Ideal.ofBits .f32 0x3F800000#32 = ((1 : ℝ) : EReal) := by
  simp [Ideal.ofBits, Ideal.ieee, -EReal.coe_mul]; norm_num

theorem half_word : Ideal.ofBits .f32 0xBF000000#32 = ((-(1 / 2) : ℝ) : EReal) := by
  simp [Ideal.ofBits, Ideal.ieee, -EReal.coe_mul]; norm_num

theorem zero_word : Ideal.ofBits .f32 0x00000000#32 = ((0 : ℝ) : EReal) := by
  simp [Ideal.ofBits, Ideal.ieee, -EReal.coe_mul]

/-- The rows, the gradient `R` that reaches them past the projection, the projection's cotangent `P` and weights `W`, the
    modulation's scale and the norm's gain. -/
structure Rows (τ δ γ : Type) where
  P : τ → γ → ℝ
  W : δ → γ → ℝ
  X : τ → δ → ℝ
  R : τ → δ → ℝ
  sc : δ → ℝ
  g : δ → ℝ

namespace Rows

variable {τ δ γ : Type} [Fintype τ] [Fintype δ] [Fintype γ] (x : Rows τ δ γ)

/-- The gradient of the projection's input. -/
def dh (t : τ) (d : δ) : ℝ := ∑ c, x.P t c * x.W d c

/-- The mean of squares of a row, moved off zero. -/
def var (t : τ) : ℝ := (∑ d, x.X t d * x.X t d) / 1024 + eps

/-- Its reciprocal root. -/
def inv (t : τ) : ℝ := (√(x.var t))⁻¹

/-- The normalised row. -/
def xr (t : τ) (d : δ) : ℝ := x.X t d * x.inv t

/-- The gradient of the norm's output, before and after its gain. -/
def dn (t : τ) (d : δ) : ℝ := x.dh t d * (1 + x.sc d)
def dx (t : τ) (d : δ) : ℝ := x.dn t d * x.g d

/-- The gradient of the rows. -/
def gx (t : τ) (d : δ) : ℝ :=
  x.R t d + x.inv t * x.dx t d - x.xr t d * (x.inv t * ((∑ e, x.dx t e * x.xr t e) / 1024))

/-- One token's share of the sums over the tokens: of the shift, of the scale and of the gain; nothing else. -/
def share (i : Fin 8) (t : τ) (d : δ) : ℝ :=
  if (i : ℕ) = 0 then x.dh t d else if (i : ℕ) = 1 then x.dh t d * (x.xr t d * x.g d)
  else if (i : ℕ) = 2 then x.dn t d * x.xr t d else 0

/-- The sums over the tokens. -/
def sums (i : Fin 8) (d : δ) : ℝ := ∑ t, x.share i t d

theorem share_rest (i : Fin 8) (t : τ) (d : δ) (h : 2 < (i : ℕ)) : x.share i t d = 0 := by
  unfold share
  rw [if_neg (by omega), if_neg (by omega), if_neg (by omega)]

theorem sums_rest (i : Fin 8) (d : δ) (h : 2 < (i : ℕ)) : x.sums i d = 0 :=
  Finset.sum_eq_zero fun t _ => x.share_rest i t d h

theorem var_pos (t : τ) : 0 < x.var t := by
  have : (0 : ℝ) ≤ ∑ d, x.X t d * x.X t d := Finset.sum_nonneg fun d _ => mul_self_nonneg _
  unfold var eps
  positivity

theorem rsqrt_var (t : τ) : Ideal.rsqrt ((x.var t : ℝ) : EReal) = ((x.inv t : ℝ) : EReal) := by
  rw [Ideal.rsqrt_coe, if_neg (not_lt.mpr (x.var_pos t).le), if_neg (x.var_pos t).ne']
  rfl

/-- The weight that the chain rule gives the square of a row: a half of the derivative of the reciprocal root. -/
def pull (t : τ) : ℝ := (∑ d, x.X t d * x.dx t d) * (-(1 / 2) * (x.inv t / x.var t)) / 1024

/-- The chain rule's gradient of a row is the kernel's. -/
theorem gx_eq (t : τ) (d : δ) : x.R t d + x.dx t d * x.inv t + x.X t d * x.pull t + x.pull t * x.X t d = x.gx t d := by
  have h : x.inv t * x.inv t = 1 / x.var t := by
    unfold inv
    rw [← mul_inv, Real.mul_self_sqrt (x.var_pos t).le, one_div]
  have hs : ∑ e, x.dx t e * x.xr t e = x.inv t * ∑ e, x.X t e * x.dx t e := by
    rw [Finset.mul_sum]
    exact Finset.sum_congr rfl fun e _ => by unfold xr; ring
  unfold gx
  rw [hs]
  unfold pull xr
  have : x.inv t / x.var t = x.inv t * (x.inv t * x.inv t) := by rw [h]; ring
  rw [this]
  ring

end Rows

end Norm

end
-- ==== Proof.InputTile.lean ====
/- One grid point of the input-gradient kernel over reals: what it stores is the gradient of its rows and its rows' share
   of the sums over the tokens. -/
module

public import proofs.«01_k».proof.Proof.Norm
public import proofs.«01_k».proof.Proof.Gen.Kernel2Ideal.Value
public import Idealize.ShloMosaic.Lib.Pointwise
public import Idealize.ShloMosaic.Lib.WholeRead

@[expose] public section

set_option maxRecDepth 16384

noncomputable section

namespace Cert.Kernel2Ideal.Tile

open Cert.Kernel2Ideal Cert.Kernel2Ideal.Gen Idealize.ShloMosaic

/-- One grid point's rows. -/
abbrev Data := Norm.Rows (Fin 256) (Fin 1024) (Fin 10240)

/-- Column `c` of chunk `k`. -/
abbrev chunk (k : Fin 4) (c : Fin 2560) : Fin 10240 := ⟨2560 * (k : ℕ) + (c : ℕ), by omega⟩

theorem sum_chunks (f : Fin 10240 → ℝ) : ∑ c, f c = ∑ k : Fin 4, ∑ c : Fin 2560, f (chunk k c) := by
  rw [← Fintype.sum_prod_type' (f := fun (k : Fin 4) (c : Fin 2560) => f (chunk k c))]
  refine (Fintype.sum_equiv (finProdFinEquiv (m := 4) (n := 2560)) _ _ fun x => ?_).symm
  refine congrArg f (Fin.ext ?_)
  show 2560 * (x.1 : ℕ) + (x.2 : ℕ) = (x.2 : ℕ) + 2560 * (x.1 : ℕ)
  omega

/-! ## The payloads over reals -/

section Payloads

variable {D : Data} {v17 v28 v60 v61 v63 : FVec Ideal S256x1024 .f32} {v26 : FVec Ideal S256x1 .f32}
  {v45 v58 v : FVec Ideal S1x1024 .f32}

theorem pay3_at {a0 a1 a2 a3 : FVec Ideal S256x2560 .bf16} {b0 b1 b2 b3 : FVec Ideal S1024x2560 .bf16}
    (h0 : ∀ t c, a0 (ix2 t c) = ((D.P t (chunk 0 c) : ℝ) : EReal)) (k0 : ∀ d c, b0 (ix2 d c) = ((D.W d (chunk 0 c) : ℝ) : EReal))
    (h1 : ∀ t c, a1 (ix2 t c) = ((D.P t (chunk 1 c) : ℝ) : EReal)) (k1 : ∀ d c, b1 (ix2 d c) = ((D.W d (chunk 1 c) : ℝ) : EReal))
    (h2 : ∀ t c, a2 (ix2 t c) = ((D.P t (chunk 2 c) : ℝ) : EReal)) (k2 : ∀ d c, b2 (ix2 d c) = ((D.W d (chunk 2 c) : ℝ) : EReal))
    (h3 : ∀ t c, a3 (ix2 t c) = ((D.P t (chunk 3 c) : ℝ) : EReal)) (k3 : ∀ d c, b3 (ix2 d c) = ((D.W d (chunk 3 c) : ℝ) : EReal))
    (t : Fin 256) (d : Fin 1024) : k0_pay3 (F := Ideal) a0 b0 a1 b1 a2 b2 a3 b3 (ix2 t d) = ((D.dh t d : ℝ) : EReal) := by
  unfold k0_pay3
  pointwise
  rw [Attn.sum_coe (f := fun c => D.P t (chunk 0 c) * D.W d (chunk 0 c)) _ (fun c _ => by rw [h0, k0, EReal.coe_mul]),
    Attn.sum_coe (f := fun c => D.P t (chunk 1 c) * D.W d (chunk 1 c)) _ (fun c _ => by rw [h1, k1, EReal.coe_mul]),
    Attn.sum_coe (f := fun c => D.P t (chunk 2 c) * D.W d (chunk 2 c)) _ (fun c _ => by rw [h2, k2, EReal.coe_mul]),
    Attn.sum_coe (f := fun c => D.P t (chunk 3 c) * D.W d (chunk 3 c)) _ (fun c _ => by rw [h3, k3, EReal.coe_mul]),
    ← EReal.coe_add, ← EReal.coe_add, ← EReal.coe_add]
  unfold Norm.Rows.dh
  rw [sum_chunks, Fin.sum_univ_four]

variable {x : FVec Ideal S256x1024 .f32} (hx : ∀ t d, x (ix2 t d) = ((D.X t d : ℝ) : EReal))
include hx

theorem pay4_at (t : Fin 256) (z : Fin 1) : k0_pay4 (F := Ideal) x (ix2 t z) = ((D.inv t : ℝ) : EReal) := by
  unfold k0_pay4
  pointwise
  rw [Attn.sum_coe (f := fun d => D.X t d * D.X t d) _ (fun d _ => by rw [hx, EReal.coe_mul]), Norm.width_word, Norm.eps_word,
    Attn.div_coe_coe _ (by norm_num), ← EReal.coe_add]
  exact D.rsqrt_var t

theorem pay5_at (t : Fin 256) (d : Fin 1024) : k0_pay5 (F := Ideal) x (ix2 t d) = ((D.xr t d : ℝ) : EReal) := by
  unfold k0_pay5
  pointwise
  rw [pay4_at hx, hx, ← EReal.coe_mul]
  rfl

omit hx

variable (h17 : ∀ t d, v17 (ix2 t d) = ((D.dh t d : ℝ) : EReal)) (h26 : ∀ t, v26 (ix2 t 0) = ((D.inv t : ℝ) : EReal))
  (h28 : ∀ t d, v28 (ix2 t d) = ((D.xr t d : ℝ) : EReal)) (h45 : ∀ d, v45 (ix2 0 d) = ((D.sc d : ℝ) : EReal))
  (h58 : ∀ d, v58 (ix2 0 d) = ((D.g d : ℝ) : EReal)) {a : Fin 1024 → ℝ} (ha : ∀ d, v (ix2 0 d) = ((a d : ℝ) : EReal))

include h17 ha in
theorem pay6_at (z : Fin 1) (d : Fin 1024) : k0_pay6 (F := Ideal) v17 v (ix2 z d) = ((a d + D.sums 0 d : ℝ) : EReal) := by
  obtain rfl : z = 0 := Subsingleton.elim _ _
  unfold k0_pay6
  pointwise
  rw [ha, EReal.coe_add]
  exact congrArg _ (Attn.sum_coe _ fun t _ => h17 t d)

include h17 h28 h58 ha in
theorem pay7_at (z : Fin 1) (d : Fin 1024) : k0_pay7 (F := Ideal) v17 v28 v v58 (ix2 z d) = ((a d + D.sums 1 d : ℝ) : EReal) := by
  obtain rfl : z = 0 := Subsingleton.elim _ _
  unfold k0_pay7
  pointwise
  rw [ha, EReal.coe_add]
  exact congrArg _ (Attn.sum_coe _ fun t _ => by rw [h17, h28, h58, ← EReal.coe_mul, ← EReal.coe_mul]; rfl)

include h17 h45 in
theorem pay8_at (t : Fin 256) (d : Fin 1024) : k0_pay8 (F := Ideal) v17 v45 (ix2 t d) = ((D.dn t d : ℝ) : EReal) := by
  unfold k0_pay8
  pointwise
  rw [h17, h45, ← EReal.coe_one, ← EReal.coe_add, ← EReal.coe_mul]
  rfl

include h17 h28 h45 ha in
theorem pay9_at (z : Fin 1) (d : Fin 1024) : k0_pay9 (F := Ideal) v17 v28 v45 v (ix2 z d) = ((a d + D.sums 2 d : ℝ) : EReal) := by
  obtain rfl : z = 0 := Subsingleton.elim _ _
  unfold k0_pay9
  pointwise
  rw [ha, EReal.coe_add]
  exact congrArg _ (Attn.sum_coe _ fun t _ => by rw [pay8_at h17 h45, h28, ← EReal.coe_mul]; rfl)

include h17 h45 h58 in
theorem pay10_at (t : Fin 256) (d : Fin 1024) : k0_pay10 (F := Ideal) v17 v45 v58 (ix2 t d) = ((D.dx t d : ℝ) : EReal) := by
  unfold k0_pay10
  pointwise
  rw [pay8_at h17 h45, h58, ← EReal.coe_mul]
  rfl

include h17 h26 h45 h58 in
theorem pay11_at (t : Fin 256) (d : Fin 1024) : k0_pay11 (F := Ideal) v17 v26 v45 v58 (ix2 t d) = ((D.inv t * D.dx t d : ℝ) : EReal) := by
  unfold k0_pay11
  pointwise
  rw [pay10_at h17 h45 h58, h26, ← EReal.coe_mul]

include h26 h28 in
theorem pay1_at (h60 : ∀ t d, v60 (ix2 t d) = ((D.dx t d : ℝ) : EReal)) (h61 : ∀ t d, v61 (ix2 t d) = ((D.R t d : ℝ) : EReal))
    (h63 : ∀ t d, v63 (ix2 t d) = ((D.inv t * D.dx t d : ℝ) : EReal)) (t : Fin 256) (d : Fin 1024) :
    k0_pay1 (F := Ideal) v26 v28 v60 v61 v63 (ix2 t d) = ((D.gx t d : ℝ) : EReal) := by
  unfold k0_pay1
  pointwise
  rw [Attn.sum_coe (f := fun d => D.dx t d * D.xr t d) _ (fun d _ => by rw [h60, h28, EReal.coe_mul]), Norm.width_word,
    Attn.div_coe_coe _ (by norm_num), h61, h63, h26, h28, ← EReal.coe_add, ← EReal.coe_mul, ← EReal.coe_mul, ← EReal.coe_sub]
  rfl

end Payloads

/-! ## The loads -/

theorem load_p (m : Memref sig .tc .vmem S256x10240 .bf16) (h : m.IsWhole) (x : Vec Ideal S256x10240 .bf16) (o : ℕ) (k : Fin 4)
    (ho : o = 2560 * (k : ℕ)) (hb) (t : Fin 256) (c : Fin 2560) :
    View.readAt (Elt Ideal) m.view (Rect.unit (s := S256x10240) ![0, o] S256x2560.size hb).toLoadRect (h.unread x) (ix2 t c)
      = x (ix2 t (chunk k c)) := by
  refine (h.readAt_unread x _ _).trans (congrArg x ?_)
  funext b
  fin_cases b
  · exact Fin.ext (by show 0 + 1 * (t : ℕ) = t; omega)
  · exact Fin.ext (by show o + 1 * (c : ℕ) = 2560 * (k : ℕ) + c; omega)

theorem load_w (m : Memref sig .tc .vmem S1024x10240 .bf16) (h : m.IsWhole) (x : Vec Ideal S1024x10240 .bf16) (o : ℕ) (k : Fin 4)
    (ho : o = 2560 * (k : ℕ)) (hb) (t : Fin 1024) (c : Fin 2560) :
    View.readAt (Elt Ideal) m.view (Rect.unit (s := S1024x10240) ![0, o] S1024x2560.size hb).toLoadRect (h.unread x) (ix2 t c)
      = x (ix2 t (chunk k c)) := by
  refine (h.readAt_unread x _ _).trans (congrArg x ?_)
  funext b
  fin_cases b
  · exact Fin.ext (by show 0 + 1 * (t : ℕ) = t; omega)
  · exact Fin.ext (by show o + 1 * (c : ℕ) = 2560 * (k : ℕ) + c; omega)

theorem load_x (m : Memref sig .tc .vmem S256x1024 .f32) (h : m.IsWhole) (x : Vec Ideal S256x1024 .f32) (hb) (t : Fin 256) (d : Fin 1024) :
    View.readAt (Elt Ideal) m.view (Rect.unit (s := S256x1024) ![0, 0] S256x1024.size hb).toLoadRect (h.unread x) (ix2 t d)
      = x (ix2 t d) := by
  refine (h.readAt_unread x _ _).trans (congrArg x ?_)
  funext b
  fin_cases b
  · exact Fin.ext (by show 0 + 1 * (t : ℕ) = t; omega)
  · exact Fin.ext (by show 0 + 1 * (d : ℕ) = d; omega)

/-- Row `o` of an array of eight rows. -/
theorem row_idx (o : Fin 8) (o' : ℕ) (ho : o' = o) (hb) (z : Fin 1) (d : Fin 1024) :
    (Rect.unit (s := S8x1024) ![o', 0] S1x1024.size hb).toLoadRect.idx (ix2 z d) = (ix2 o d : S8x1024.Idx) := by
  funext b
  fin_cases b
  · exact Fin.ext (by show o' + 1 * (z : ℕ) = o; omega)
  · exact Fin.ext (by show 0 + 1 * (d : ℕ) = d; omega)

theorem load_s (m : Memref sig .tc .vmem S8x1024 .f32) (h : m.IsWhole) (x : Vec Ideal S8x1024 .f32) (o : Fin 8) (o' : ℕ) (ho : o' = o) (hb)
    (z : Fin 1) (d : Fin 1024) :
    View.readAt (Elt Ideal) m.view (Rect.unit (s := S8x1024) ![o', 0] S1x1024.size hb).toLoadRect (h.unread x) (ix2 z d) = x (ix2 o d) :=
  (h.readAt_unread x _ _).trans (congrArg x (row_idx o o' ho hb z d))

theorem load_g (m : Memref sig .tc .vmem S1x1024 .f32) (h : m.IsWhole) (x : Vec Ideal S1x1024 .f32) (hb) (z : Fin 1) (d : Fin 1024) :
    View.readAt (Elt Ideal) m.view (Rect.unit (s := S1x1024) ![0, 0] S1x1024.size hb).toLoadRect (h.unread x) (ix2 z d) = x (ix2 z d) := by
  refine (h.readAt_unread x _ _).trans (congrArg x ?_)
  funext b
  fin_cases b
  · exact Fin.ext (by show 0 + 1 * (z : ℕ) = z; omega)
  · exact Fin.ext (by show 0 + 1 * (d : ℕ) = d; omega)

/-! ## One grid point -/

/-- The blocks of one grid point hold the reals of `D`. -/
structure Blocks (x0 : S256x10240.Idx → EReal) (x1 : S1024x10240.Idx → EReal) (x2 x3 : S256x1024.Idx → EReal)
    (x4 : S8x1024.Idx → EReal) (x5 : S1x1024.Idx → EReal) (D : Data) : Prop where
  p : ∀ t c, x0 (ix2 t c) = ((D.P t c : ℝ) : EReal)
  w : ∀ d c, x1 (ix2 d c) = ((D.W d c : ℝ) : EReal)
  x : ∀ t d, x2 (ix2 t d) = ((D.X t d : ℝ) : EReal)
  r : ∀ t d, x3 (ix2 t d) = ((D.R t d : ℝ) : EReal)
  s : ∀ d, x4 (ix2 1 d) = ((D.sc d : ℝ) : EReal)
  g : ∀ d, x5 (ix2 0 d) = ((D.g d : ℝ) : EReal)

section Point

variable (c : Dev nD) (i : grid0.Coords) (arg1 : Memref sig .tc .vmem S256x10240 .bf16) (harg1 : arg1.IsWhole)
  (arg2 : Memref sig .tc .vmem S1024x10240 .bf16) (harg2 : arg2.IsWhole) (arg3 : Memref sig .tc .vmem S256x1024 .f32) (harg3 : arg3.IsWhole)
  (arg4 : Memref sig .tc .vmem S256x1024 .f32) (harg4 : arg4.IsWhole) (arg5 : Memref sig .tc .vmem S8x1024 .f32) (harg5 : arg5.IsWhole)
  (arg6 : Memref sig .tc .vmem S1x1024 .f32) (harg6 : arg6.IsWhole) (arg7 : Memref sig .tc .vmem S256x1024 .f32) (harg7 : arg7.IsWhole)
  (arg8 : Memref sig .tc .vmem S8x1024 .f32) (harg8 : arg8.IsWhole)
  (x0 : Vec Ideal S256x10240 .bf16) (x1 : Vec Ideal S1024x10240 .bf16) (x2 : Vec Ideal S256x1024 .f32) (x3 : Vec Ideal S256x1024 .f32)
  (x4 : Vec Ideal S8x1024 .f32) (x5 : Vec Ideal S1x1024 .f32)

/-- The gradient of the projection's input, from the blocks. -/
def dh : FVec Ideal S256x1024 .f32 :=
  k0_pay3 (F := Ideal) (View.readAt (Elt Ideal) arg1.view (Rect.unit (s := S256x10240) ![0, 0] S256x2560.size inb_S256x10240_S256x2560_0_0).toLoadRect (harg1.unread x0))
    (View.readAt (Elt Ideal) arg2.view (Rect.unit (s := S1024x10240) ![0, 0] S1024x2560.size inb_S1024x10240_S1024x2560_0_0).toLoadRect (harg2.unread x1))
    (View.readAt (Elt Ideal) arg1.view (Rect.unit (s := S256x10240) ![0, 2560] S256x2560.size inb_S256x10240_S256x2560_0_2560).toLoadRect (harg1.unread x0))
    (View.readAt (Elt Ideal) arg2.view (Rect.unit (s := S1024x10240) ![0, 2560] S1024x2560.size inb_S1024x10240_S1024x2560_0_2560).toLoadRect (harg2.unread x1))
    (View.readAt (Elt Ideal) arg1.view (Rect.unit (s := S256x10240) ![0, 5120] S256x2560.size inb_S256x10240_S256x2560_0_5120).toLoadRect (harg1.unread x0))
    (View.readAt (Elt Ideal) arg2.view (Rect.unit (s := S1024x10240) ![0, 5120] S1024x2560.size inb_S1024x10240_S1024x2560_0_5120).toLoadRect (harg2.unread x1))
    (View.readAt (Elt Ideal) arg1.view (Rect.unit (s := S256x10240) ![0, 7680] S256x2560.size inb_S256x10240_S256x2560_0_7680).toLoadRect (harg1.unread x0))
    (View.readAt (Elt Ideal) arg2.view (Rect.unit (s := S1024x10240) ![0, 7680] S1024x2560.size inb_S1024x10240_S1024x2560_0_7680).toLoadRect (harg2.unread x1))

/-- The rows, the gradient that reaches them past the projection, the scale and the gain, as the body loads them. -/
def xs : FVec Ideal S256x1024 .f32 :=
  View.readAt (Elt Ideal) arg3.view (Rect.unit (s := S256x1024) ![0, 0] S256x1024.size inb_S256x1024_S256x1024_0_0).toLoadRect (harg3.unread x2)

def sc : FVec Ideal S1x1024 .f32 :=
  View.readAt (Elt Ideal) arg5.view (Rect.unit (s := S8x1024) ![1, 0] S1x1024.size inb_S8x1024_S1x1024_1_0).toLoadRect (harg5.unread x4)

def ga : FVec Ideal S1x1024 .f32 :=
  View.readAt (Elt Ideal) arg6.view (Rect.unit (s := S1x1024) ![0, 0] S1x1024.size inb_S1x1024_S1x1024_0_0).toLoadRect (harg6.unread x5)

/-- What the body stores in its rows' gradient. -/
def rows : FVec Ideal S256x1024 .f32 :=
  k0_pay1 (F := Ideal) (k0_pay4 (F := Ideal) (xs arg3 harg3 x2)) (k0_pay5 (F := Ideal) (xs arg3 harg3 x2))
    (k0_pay10 (F := Ideal) (dh arg1 harg1 arg2 harg2 x0 x1) (sc arg5 harg5 x4) (ga arg6 harg6 x5)) (xs arg4 harg4 x3)
    (k0_pay11 (F := Ideal) (dh arg1 harg1 arg2 harg2 x0 x1) (k0_pay4 (F := Ideal) (xs arg3 harg3 x2)) (sc arg5 harg5 x4) (ga arg6 harg6 x5))

/-- The body's three stores of sums over what the rows `u0`, `u1`, `u2` held, over the earlier stores `L`. -/
def stores (u0 u1 u2 : FVec Ideal S1x1024 .f32) (L : List (View.Piece (Elt Ideal) S8x1024 .f32)) : List (View.Piece (Elt Ideal) S8x1024 .f32) :=
  ⟨Rect.unit (s := S8x1024) ![2, 0] S1x1024.size inb_S8x1024_S1x1024_2_0,
    k0_pay9 (F := Ideal) (dh arg1 harg1 arg2 harg2 x0 x1) (k0_pay5 (F := Ideal) (xs arg3 harg3 x2)) (sc arg5 harg5 x4) u2⟩
  :: ⟨Rect.unit (s := S8x1024) ![1, 0] S1x1024.size inb_S8x1024_S1x1024_1_0,
    k0_pay7 (F := Ideal) (dh arg1 harg1 arg2 harg2 x0 x1) (k0_pay5 (F := Ideal) (xs arg3 harg3 x2)) u1 (ga arg6 harg6 x5)⟩
  :: ⟨Rect.unit (s := S8x1024) ![0, 0] S1x1024.size inb_S8x1024_S1x1024_0_0, k0_pay6 (F := Ideal) (dh arg1 harg1 arg2 harg2 x0 x1) u0⟩ :: L

theorem runA (hc0 : cond0_0 i) :
    (kernelRun0_A c i arg1 harg1 arg2 harg2 arg3 harg3 arg4 harg4 arg5 harg5 arg6 harg6 arg7 harg7 arg8 harg8 hc0 x0 x1 x2 x3 x4 x5).1
      = [⟨Rect.unit (s := S256x1024) ![0, 0] S256x1024.size inb_S256x1024_S256x1024_0_0,
          rows arg1 harg1 arg2 harg2 arg3 harg3 arg4 harg4 arg5 harg5 arg6 harg6 x0 x1 x2 x3 x4 x5⟩] := rfl

theorem runB (hc0 : ¬ cond0_0 i) (xo7 : Vec Ideal S8x1024 .f32) :
    (kernelRun0_B c i arg1 harg1 arg2 harg2 arg3 harg3 arg4 harg4 arg5 harg5 arg6 harg6 arg7 harg7 arg8 harg8 hc0 x0 x1 x2 x3 x4 x5 xo7).1
      = [⟨Rect.unit (s := S256x1024) ![0, 0] S256x1024.size inb_S256x1024_S256x1024_0_0,
          rows arg1 harg1 arg2 harg2 arg3 harg3 arg4 harg4 arg5 harg5 arg6 harg6 x0 x1 x2 x3 x4 x5⟩] := rfl

theorem runB7 (hc0 : ¬ cond0_0 i) (xo7 : Vec Ideal S8x1024 .f32) :
    (kernelRun0_B c i arg1 harg1 arg2 harg2 arg3 harg3 arg4 harg4 arg5 harg5 arg6 harg6 arg7 harg7 arg8 harg8 hc0 x0 x1 x2 x3 x4 x5 xo7).2.1
      = stores arg1 harg1 arg2 harg2 arg3 harg3 arg5 harg5 arg6 harg6 x0 x1 x2 x4 x5
          (View.readAt (Elt Ideal) arg8.view (Rect.unit (s := S8x1024) ![0, 0] S1x1024.size inb_S8x1024_S1x1024_0_0).toLoadRect (harg8.unread xo7))
          (View.readAt (Elt Ideal) arg8.view (Rect.unit (s := S8x1024) ![1, 0] S1x1024.size inb_S8x1024_S1x1024_1_0).toLoadRect (harg8.unread xo7))
          (View.readAt (Elt Ideal) arg8.view (Rect.unit (s := S8x1024) ![2, 0] S1x1024.size inb_S8x1024_S1x1024_2_0).toLoadRect (harg8.unread xo7))
          [] := rfl

/-- The eight rows of zeros that the first point stores before its sums. -/
abbrev clear : List (View.Piece (Elt Ideal) S8x1024 .f32) :=
  [⟨Rect.unit (s := S8x1024) ![0, 0] S8x1024.size inb_S8x1024_S8x1024_0_0, k0_pay2 (F := Ideal)⟩]

/-- The stores before each of the three sums, at the first point. -/
abbrev after0 : List (View.Piece (Elt Ideal) S8x1024 .f32) :=
  ⟨Rect.unit (s := S8x1024) ![0, 0] S1x1024.size inb_S8x1024_S1x1024_0_0, k0_pay6 (F := Ideal) (dh arg1 harg1 arg2 harg2 x0 x1)
    (arg8.view.readCov clear (Rect.unit (s := S8x1024) ![0, 0] S1x1024.size inb_S8x1024_S1x1024_0_0).toLoadRect)⟩ :: clear

abbrev after1 : List (View.Piece (Elt Ideal) S8x1024 .f32) :=
  ⟨Rect.unit (s := S8x1024) ![1, 0] S1x1024.size inb_S8x1024_S1x1024_1_0,
    k0_pay7 (F := Ideal) (dh arg1 harg1 arg2 harg2 x0 x1) (k0_pay5 (F := Ideal) (xs arg3 harg3 x2))
      (arg8.view.readCov (after0 arg1 harg1 arg2 harg2 arg8 x0 x1) (Rect.unit (s := S8x1024) ![1, 0] S1x1024.size inb_S8x1024_S1x1024_1_0).toLoadRect)
      (ga arg6 harg6 x5)⟩ :: after0 arg1 harg1 arg2 harg2 arg8 x0 x1

theorem runA7 (hc0 : cond0_0 i) :
    (kernelRun0_A c i arg1 harg1 arg2 harg2 arg3 harg3 arg4 harg4 arg5 harg5 arg6 harg6 arg7 harg7 arg8 harg8 hc0 x0 x1 x2 x3 x4 x5).2.1
      = stores arg1 harg1 arg2 harg2 arg3 harg3 arg5 harg5 arg6 harg6 x0 x1 x2 x4 x5
          (arg8.view.readCov clear (Rect.unit (s := S8x1024) ![0, 0] S1x1024.size inb_S8x1024_S1x1024_0_0).toLoadRect)
          (arg8.view.readCov (after0 arg1 harg1 arg2 harg2 arg8 x0 x1) (Rect.unit (s := S8x1024) ![1, 0] S1x1024.size inb_S8x1024_S1x1024_1_0).toLoadRect)
          (arg8.view.readCov (after1 arg1 harg1 arg2 harg2 arg3 harg3 arg6 harg6 arg8 x0 x1 x2 x5) (Rect.unit (s := S8x1024) ![2, 0] S1x1024.size inb_S8x1024_S1x1024_2_0).toLoadRect)
          clear := rfl

variable {x0 x1 x2 x3 x4 x5} {D : Data} (B : Blocks x0 x1 x2 x3 x4 x5 D)
include B

theorem dh_at (t : Fin 256) (d : Fin 1024) : dh arg1 harg1 arg2 harg2 x0 x1 (ix2 t d) = ((D.dh t d : ℝ) : EReal) :=
  pay3_at
    (fun t c => (load_p arg1 harg1 x0 0 0 rfl _ t c).trans (B.p _ _)) (fun t c => (load_w arg2 harg2 x1 0 0 rfl _ t c).trans (B.w _ _))
    (fun t c => (load_p arg1 harg1 x0 2560 1 rfl _ t c).trans (B.p _ _)) (fun t c => (load_w arg2 harg2 x1 2560 1 rfl _ t c).trans (B.w _ _))
    (fun t c => (load_p arg1 harg1 x0 5120 2 rfl _ t c).trans (B.p _ _)) (fun t c => (load_w arg2 harg2 x1 5120 2 rfl _ t c).trans (B.w _ _))
    (fun t c => (load_p arg1 harg1 x0 7680 3 rfl _ t c).trans (B.p _ _)) (fun t c => (load_w arg2 harg2 x1 7680 3 rfl _ t c).trans (B.w _ _))
    t d

theorem xs_at (t : Fin 256) (d : Fin 1024) : xs arg3 harg3 x2 (ix2 t d) = ((D.X t d : ℝ) : EReal) :=
  (load_x arg3 harg3 x2 _ t d).trans (B.x t d)

theorem res_at (t : Fin 256) (d : Fin 1024) : xs arg4 harg4 x3 (ix2 t d) = ((D.R t d : ℝ) : EReal) :=
  (load_x arg4 harg4 x3 _ t d).trans (B.r t d)

theorem sc_at (d : Fin 1024) : sc arg5 harg5 x4 (ix2 0 d) = ((D.sc d : ℝ) : EReal) :=
  (load_s arg5 harg5 x4 1 1 rfl _ 0 d).trans (B.s d)

theorem ga_at (d : Fin 1024) : ga arg6 harg6 x5 (ix2 0 d) = ((D.g d : ℝ) : EReal) :=
  (load_g arg6 harg6 x5 _ 0 d).trans (B.g d)

theorem rows_at (t : Fin 256) (d : Fin 1024) :
    rows arg1 harg1 arg2 harg2 arg3 harg3 arg4 harg4 arg5 harg5 arg6 harg6 x0 x1 x2 x3 x4 x5 (ix2 t d) = ((D.gx t d : ℝ) : EReal) :=
  pay1_at (fun t => pay4_at (xs_at arg3 harg3 B) t 0) (pay5_at (xs_at arg3 harg3 B))
    (pay10_at (dh_at arg1 harg1 arg2 harg2 B) (sc_at arg5 harg5 B) (ga_at arg6 harg6 B)) (res_at arg4 harg4 B)
    (pay11_at (dh_at arg1 harg1 arg2 harg2 B) (fun t => pay4_at (xs_at arg3 harg3 B) t 0) (sc_at arg5 harg5 B) (ga_at arg6 harg6 B)) t d

/-- The three stores add each row's sums to what the row held. -/
theorem stores_at {sp : Space} (v : View sig .tc sp S8x1024 .f32) (f : v.ty.Contents (Elt Ideal)) (a : Fin 8 → Fin 1024 → ℝ) {u0 u1 u2 : FVec Ideal S1x1024 .f32}
    (h0 : ∀ d, u0 (ix2 0 d) = ((a 0 d : ℝ) : EReal)) (h1 : ∀ d, u1 (ix2 0 d) = ((a 1 d : ℝ) : EReal))
    (h2 : ∀ d, u2 (ix2 0 d) = ((a 2 d : ℝ) : EReal)) (L : List (View.Piece (Elt Ideal) S8x1024 .f32))
    (hL : ∀ i d, v.read (Elt Ideal) (v.writes (Elt Ideal) f L) (ix2 i d) = ((a i d : ℝ) : EReal)) (i : Fin 8) (d : Fin 1024) :
    v.read (Elt Ideal) (v.writes (Elt Ideal) f (stores arg1 harg1 arg2 harg2 arg3 harg3 arg5 harg5 arg6 harg6 x0 x1 x2 x4 x5 u0 u1 u2 L)) (ix2 i d)
      = ((a i d + D.sums i d : ℝ) : EReal) := by
  have hit (o : ℕ) (hb) (w) (L' : List (View.Piece (Elt Ideal) S8x1024 .f32)) (hi : (i : ℕ) = o) :
      v.read (Elt Ideal) (v.writes (Elt Ideal) f (⟨Rect.unit (s := S8x1024) ![o, 0] S1x1024.size hb, w⟩ :: L')) (ix2 i d) = w (ix2 0 d) :=
    View.read_writes_cons_hit_of_coords v f _ w L' (ix2 0 d) (ix2 i d) fun b => by
      fin_cases b
      · show (i : ℕ) = o + 1 * 0; omega
      · show (d : ℕ) = 0 + 1 * (d : ℕ); omega
  have miss (o : ℕ) (hb) (w) (L' : List (View.Piece (Elt Ideal) S8x1024 .f32)) (hi : (i : ℕ) ≠ o) :
      v.read (Elt Ideal) (v.writes (Elt Ideal) f (⟨Rect.unit (s := S8x1024) ![o, 0] S1x1024.size hb, w⟩ :: L')) (ix2 i d)
        = v.read (Elt Ideal) (v.writes (Elt Ideal) f L') (ix2 i d) :=
    View.read_writes_cons_miss_of_axis v f _ L' (ix2 i d) 0 o 1 rfl rfl rfl (by show (i : ℕ) < o ∨ o + 1 ≤ (i : ℕ); omega)
  have hd := dh_at arg1 harg1 arg2 harg2 B
  have hr := pay5_at (xs_at arg3 harg3 B)
  unfold stores
  by_cases e2 : (i : ℕ) = 2
  · obtain rfl : i = 2 := Fin.ext e2
    exact (hit 2 _ _ _ e2).trans (pay9_at hd hr (sc_at arg5 harg5 B) h2 0 d)
  refine (miss 2 _ _ _ e2).trans ?_
  by_cases e1 : (i : ℕ) = 1
  · obtain rfl : i = 1 := Fin.ext e1
    exact (hit 1 _ _ _ e1).trans (pay7_at hd hr (ga_at arg6 harg6 B) h1 0 d)
  refine (miss 1 _ _ _ e1).trans ?_
  by_cases e0 : (i : ℕ) = 0
  · obtain rfl : i = 0 := Fin.ext e0
    exact (hit 0 _ _ _ e0).trans (pay6_at hd h0 0 d)
  refine (miss 0 _ _ _ e0).trans ?_
  rw [hL, D.sums_rest i d (by omega), add_zero]

omit B

theorem clear_at {sp : Space} (v : View sig .tc sp S8x1024 .f32) (f : v.ty.Contents (Elt Ideal)) (i : Fin 8) (d : Fin 1024) :
    v.read (Elt Ideal) (v.writes (Elt Ideal) f clear) (ix2 i d) = ((0 : ℝ) : EReal) := by
  refine (View.read_writes_cons_hit_of_coords v f (Rect.unit (s := S8x1024) ![0, 0] S8x1024.size inb_S8x1024_S8x1024_0_0) (k0_pay2 (F := Ideal)) [] (ix2 i d) (ix2 i d) fun b => ?_).trans ?_
  · fin_cases b
    · show (i : ℕ) = 0 + 1 * (i : ℕ); omega
    · show (d : ℕ) = 0 + 1 * (d : ℕ); omega
  · unfold k0_pay2
    pointwise
    exact EReal.coe_zero.symm

/-- One store over a whole block leaves its value. -/
theorem whole_at {sp : Space} (v : View sig .tc sp S256x1024 .f32) (f : v.ty.Contents (Elt Ideal)) (w : FVec Ideal S256x1024 .f32) (hb) (t : Fin 256) (d : Fin 1024) :
    v.read (Elt Ideal) (v.writes (Elt Ideal) f [⟨Rect.unit (s := S256x1024) ![0, 0] S256x1024.size hb, w⟩]) (ix2 t d) = w (ix2 t d) :=
  View.read_writes_cons_hit_of_coords v f (Rect.unit (s := S256x1024) ![0, 0] S256x1024.size hb) w [] (ix2 t d) (ix2 t d) fun b => by
    fin_cases b
    · show (t : ℕ) = 0 + 1 * (t : ℕ); omega
    · show (d : ℕ) = 0 + 1 * (d : ℕ); omega

/-- A row read after stores to earlier rows alone is still zero. -/
theorem blank (v : View sig .tc .vmem S8x1024 .f32) (o : Fin 8) (o' : ℕ) (ho : o' = o) (hb) (L : List (View.Piece (Elt Ideal) S8x1024 .f32))
    (hL : ∀ d, v.read (Elt Ideal) (v.writes (Elt Ideal) v.junk L) (ix2 o d) = ((0 : ℝ) : EReal)) (d : Fin 1024) :
    v.readCov L (Rect.unit (s := S8x1024) ![o', 0] S1x1024.size hb).toLoadRect (ix2 0 d) = ((0 : ℝ) : EReal) := by
  show v.read (Elt Ideal) (v.writes (Elt Ideal) v.junk L) ((Rect.unit (s := S8x1024) ![o', 0] S1x1024.size hb).toLoadRect.idx (ix2 0 d)) = _
  rw [row_idx o o' ho]
  exact hL d

include B

theorem out_A_6 (hc0 : cond0_0 i) (t : Fin 256) (d : Fin 1024) :
    out0_A_6 c i arg1 harg1 arg2 harg2 arg3 harg3 arg4 harg4 arg5 harg5 arg6 harg6 arg7 harg7 arg8 harg8 hc0 x0 x1 x2 x3 x4 x5 (ix2 t d)
      = ((D.gx t d : ℝ) : EReal) := by
  unfold out0_A_6
  rw [runA]
  exact (whole_at _ _ _ _ t d).trans (rows_at arg1 harg1 arg2 harg2 arg3 harg3 arg4 harg4 arg5 harg5 arg6 harg6 B t d)

theorem out_B_6 (hc0 : ¬ cond0_0 i) (xo7 : Vec Ideal S8x1024 .f32) (t : Fin 256) (d : Fin 1024) :
    out0_B_6 c i arg1 harg1 arg2 harg2 arg3 harg3 arg4 harg4 arg5 harg5 arg6 harg6 arg7 harg7 arg8 harg8 hc0 x0 x1 x2 x3 x4 x5 xo7 (ix2 t d)
      = ((D.gx t d : ℝ) : EReal) := by
  unfold out0_B_6
  rw [runB]
  exact (whole_at _ _ _ _ t d).trans (rows_at arg1 harg1 arg2 harg2 arg3 harg3 arg4 harg4 arg5 harg5 arg6 harg6 B t d)

theorem out_B_7 (hc0 : ¬ cond0_0 i) (xo7 : Vec Ideal S8x1024 .f32) (a : Fin 8 → Fin 1024 → ℝ) (ha : ∀ j d, xo7 (ix2 j d) = ((a j d : ℝ) : EReal))
    (j : Fin 8) (d : Fin 1024) :
    out0_B_7 c i arg1 harg1 arg2 harg2 arg3 harg3 arg4 harg4 arg5 harg5 arg6 harg6 arg7 harg7 arg8 harg8 hc0 x0 x1 x2 x3 x4 x5 xo7 (ix2 j d)
      = ((a j d + D.sums j d : ℝ) : EReal) := by
  unfold out0_B_7
  rw [runB7]
  exact stores_at arg1 harg1 arg2 harg2 arg3 harg3 arg5 harg5 arg6 harg6 B arg8.view _ a
    (fun d => (load_s arg8 harg8 xo7 0 0 rfl _ 0 d).trans (ha 0 d)) (fun d => (load_s arg8 harg8 xo7 1 1 rfl _ 0 d).trans (ha 1 d))
    (fun d => (load_s arg8 harg8 xo7 2 2 rfl _ 0 d).trans (ha 2 d)) []
    (fun i d => (congrFun (harg8.read_unread xo7) (ix2 i d)).trans (ha i d)) j d

theorem out_A_7 (hc0 : cond0_0 i) (j : Fin 8) (d : Fin 1024) :
    out0_A_7 c i arg1 harg1 arg2 harg2 arg3 harg3 arg4 harg4 arg5 harg5 arg6 harg6 arg7 harg7 arg8 harg8 hc0 x0 x1 x2 x3 x4 x5 (ix2 j d)
      = ((D.sums j d : ℝ) : EReal) := by
  unfold out0_A_7
  rw [runA7]
  have miss (f) (k : Fin 8) (o : ℕ) (hb) (w) (L' : List (View.Piece (Elt Ideal) S8x1024 .f32)) (hi : (k : ℕ) ≠ o) (d : Fin 1024) :
      arg8.view.read (Elt Ideal) (arg8.view.writes (Elt Ideal) f (⟨Rect.unit (s := S8x1024) ![o, 0] S1x1024.size hb, w⟩ :: L')) (ix2 k d)
        = arg8.view.read (Elt Ideal) (arg8.view.writes (Elt Ideal) f L') (ix2 k d) :=
    View.read_writes_cons_miss_of_axis arg8.view f _ L' (ix2 k d) 0 o 1 rfl rfl rfl (by show (k : ℕ) < o ∨ o + 1 ≤ (k : ℕ); omega)
  refine (stores_at arg1 harg1 arg2 harg2 arg3 harg3 arg5 harg5 arg6 harg6 B _ _ (fun _ _ => 0)
    (blank arg8.view 0 0 rfl _ _ fun d => clear_at _ _ 0 d)
    (blank arg8.view 1 1 rfl _ _ fun d => (miss _ 1 0 _ _ _ (by decide) d).trans (clear_at _ _ 1 d))
    (blank arg8.view 2 2 rfl _ _ fun d => (miss _ 2 1 _ _ _ (by decide) d).trans ((miss _ 2 0 _ _ _ (by decide) d).trans (clear_at _ _ 2 d)))
    clear (fun i d => clear_at _ _ i d) j d).trans ?_
  rw [zero_add]

end Point

end Cert.Kernel2Ideal.Tile

end
-- ==== Proof.Ref2Read.lean ====
/- The second reference's two results read at an index, over finite arguments, as the real quantities of Norm. -/
module

public import proofs.«01_k».proof.Proof.Norm
public import proofs.«01_k».proof.Proof.Gen.Reference2Ideal.Run
public import Idealize.ShloMosaic.Lib.Pointwise

@[expose] public section

set_option maxRecDepth 16384

noncomputable section

namespace Cert.Reference2Ideal.Read

open Cert.Reference2Ideal Cert.Reference2Ideal.Gen Cert.Reference2Ideal.Value Idealize.ShloMosaic Idealize.ShloMosaic.TcCoe

/-- One sequence's rows. -/
abbrev Data := Norm.Rows (Fin 8192) (Fin 1024) (Fin 10240)

section Stages

variable (p : FVec Ideal S8192x10240 .bf16) (w : FVec Ideal S1024x10240 .bf16) (x r : FVec Ideal S8192x1024 .f32)
  (s : FVec Ideal S3x1024 .f32) (g : FVec Ideal S1x1024 .f32)

def dh : FVec Ideal S8192x1024 .f32 :=
  Host.dotGeneral dot_S8192x10240_S1024x10240_S8192x1024_1_1_0_0_n_n none (extf .f32 p bitsLt_bf16_f32) (extf .f32 w bitsLt_bf16_f32)

def var : FVec Ideal S8192x1 .f32 :=
  addf (Host.divf (broadcastInDim S8192x1 ![0] bcast_S8192_S8192x1_0
      (Host.reduceAdd (mulf x x) (constant S_ .f32 0x00000000#32) reducesTo_S8192x1024_S8192_d1 h_S_))
    (broadcastInDim S8192x1 ![] bcast_S_S8192x1 (constant S_ .f32 0x44800000#32)))
    (broadcastInDim S8192x1 ![] bcast_S_S8192x1 (constant S_ .f32 0x358637BD#32))

def inv : FVec Ideal S8192x1 .f32 := Host.rsqrt (var x)

def xr : FVec Ideal S8192x1024 .f32 := mulf x (broadcastInDim S8192x1024 ![0, 1] bcast_S8192x1_S8192x1024_0_1 (inv x))

def gain : FVec Ideal S8192x1024 .f32 :=
  broadcastInDim S8192x1024 ![0, 1] bcast_S1x1024_S8192x1024_0_1
    (broadcastInDim S1x1024 ![1] bcast_S1024_S1x1024_1 (shapeCast _ g shapeCasts_S1x1024_S1024))

def dn : FVec Ideal S8192x1024 .f32 :=
  mulf (dh p w) (broadcastInDim S8192x1024 ![0, 1] bcast_S1x1024_S8192x1024_0_1
    (addf (broadcastInDim S1x1024 ![] bcast_S_S1x1024 (constant S_ .f32 0x3F800000#32))
      (extractStridedSlice S1x1024 ![1, 0] s slices_S3x1024_S1x1024_1_0)))

def dx : FVec Ideal S8192x1024 .f32 := mulf (dn p w s) (gain g)

def pull : FVec Ideal S8192x1024 .f32 :=
  broadcastInDim S8192x1024 ![0] bcast_S8192_S8192x1024_0 (Host.reduceAdd (Host.divf
    (mulf (shapeCast _ (Host.reduceAdd (mulf x (dx p w s g)) (constant S_ .f32 0x00000000#32) reducesTo_S8192x1024_S8192_d1 h_S_)
        shapeCasts_S8192_S8192x1)
      (mulf (broadcastInDim S8192x1 ![] bcast_S_S8192x1 (constant S_ .f32 0xBF000000#32)) (Host.divf (inv x) (var x))))
    (broadcastInDim S8192x1 ![] bcast_S_S8192x1 (constant S_ .f32 0x44800000#32)))
    (constant S_ .f32 0x00000000#32) reducesTo_S8192x1_S8192_d1 h_S_)

def gx : FVec Ideal S8192x1024 .f32 :=
  addf (addf (addf r (mulf (dx p w s g) (broadcastInDim S8192x1024 ![0, 1] bcast_S8192x1_S8192x1024_0_1 (inv x))))
    (mulf x (pull p w x s g))) (mulf (pull p w x s g) x)

def row0 : FVec Ideal S1x1024 .f32 :=
  shapeCast _ (Host.reduceAdd (dh p w) (constant S_ .f32 0x00000000#32) reducesTo_S8192x1024_S1024_d0 h_S_) shapeCasts_S1024_S1x1024

def row1 : FVec Ideal S1x1024 .f32 :=
  shapeCast _ (Host.reduceAdd (mulf (mulf (xr x) (gain g)) (dh p w)) (constant S_ .f32 0x00000000#32) reducesTo_S8192x1024_S1024_d0 h_S_)
    shapeCasts_S1024_S1x1024

def row2 : FVec Ideal S1x1024 .f32 :=
  broadcastInDim S1x1024 ![1] bcast_S1024_S1x1024_1 (Host.reduceAdd (shapeCast _ (Host.reduceAdd (mulf (xr x) (dn p w s))
    (constant S_ .f32 0x00000000#32) reducesTo_S8192x1024_S1024_d0 h_S_) shapeCasts_S1024_S1x1024)
    (constant S_ .f32 0x00000000#32) reducesTo_S1x1024_S1024_d0 h_S_)

def sums : FVec Ideal S8x1024 .f32 :=
  concatenate S8x1024 0 [⟨S1x1024, row0 p w⟩, ⟨S1x1024, row1 p w x g⟩, ⟨S1x1024, row2 p w x s⟩,
    ⟨S5x1024, broadcastInDim S5x1024 ![] bcast_S_S5x1024 (constant S_ .f32 0x00000000#32)⟩]
    concatenates_S1x1024_S1x1024_S1x1024_S5x1024_S8x1024_d0

variable {p w x r s g}

/-- The arguments hold the reals of `D`. -/
structure Holds (p : S8192x10240.Idx → EReal) (w : S1024x10240.Idx → EReal) (x r : S8192x1024.Idx → EReal)
    (s : S3x1024.Idx → EReal) (g : S1x1024.Idx → EReal) (D : Data) : Prop where
  p : ∀ t c, p (ix2 t c) = ((D.P t c : ℝ) : EReal)
  w : ∀ d c, w (ix2 d c) = ((D.W d c : ℝ) : EReal)
  x : ∀ t d, x (ix2 t d) = ((D.X t d : ℝ) : EReal)
  r : ∀ t d, r (ix2 t d) = ((D.R t d : ℝ) : EReal)
  s : ∀ d, s (ix2 1 d) = ((D.sc d : ℝ) : EReal)
  g : ∀ d, g (ix2 0 d) = ((D.g d : ℝ) : EReal)

variable {D : Data} (H : Holds p w x r s g D)
include H

theorem dh_at (t : Fin 8192) (d : Fin 1024) : dh p w (ix2 t d) = ((D.dh t d : ℝ) : EReal) := by
  unfold dh
  pointwise
  exact Attn.sum_coe _ fun c _ => by rw [H.p, H.w, EReal.coe_mul]

theorem var_at (t : Fin 8192) (z : Fin 1) : var x (ix2 t z) = ((D.var t : ℝ) : EReal) := by
  unfold var
  pointwise
  rw [Attn.sum_coe (f := fun d => D.X t d * D.X t d) _ (fun d _ => by rw [H.x, EReal.coe_mul]), Norm.width_word, Norm.eps_word,
    Attn.div_coe_coe _ (by norm_num), ← EReal.coe_add]
  rfl

theorem inv_at (t : Fin 8192) (z : Fin 1) : inv x (ix2 t z) = ((D.inv t : ℝ) : EReal) := by
  unfold inv
  pointwise
  rw [var_at H]
  exact D.rsqrt_var t

theorem xr_at (t : Fin 8192) (d : Fin 1024) : xr x (ix2 t d) = ((D.xr t d : ℝ) : EReal) := by
  unfold xr
  pointwise
  rw [inv_at H, H.x, ← EReal.coe_mul]
  rfl

theorem gain_at (t : Fin 8192) (d : Fin 1024) : gain g (ix2 t d) = ((D.g d : ℝ) : EReal) := by
  unfold gain
  pointwise
  exact H.g d

theorem dn_at (t : Fin 8192) (d : Fin 1024) : dn p w s (ix2 t d) = ((D.dn t d : ℝ) : EReal) := by
  unfold dn
  pointwise
  rw [dh_at H, H.s, ← EReal.coe_one, ← EReal.coe_add, ← EReal.coe_mul]
  rfl

theorem dx_at (t : Fin 8192) (d : Fin 1024) : dx p w s g (ix2 t d) = ((D.dx t d : ℝ) : EReal) := by
  unfold dx
  pointwise
  rw [dn_at H, gain_at H, ← EReal.coe_mul]
  rfl

theorem pull_at (t : Fin 8192) (d : Fin 1024) : pull p w x s g (ix2 t d) = ((D.pull t : ℝ) : EReal) := by
  unfold pull
  pointwise
  refine (Fin.sum_univ_one _).trans ?_
  rw [Attn.sum_coe (f := fun d => D.X t d * D.dx t d) _ (fun d _ => by rw [H.x, dx_at H, EReal.coe_mul]), var_at H, inv_at H,
    Norm.width_word, Norm.half_word, Attn.div_coe_coe _ (D.var_pos t).ne', ← EReal.coe_mul, ← EReal.coe_mul,
    Attn.div_coe_coe _ (by norm_num)]
  rfl

theorem gx_at (t : Fin 8192) (d : Fin 1024) : gx p w x r s g (ix2 t d) = ((D.gx t d : ℝ) : EReal) := by
  unfold gx
  pointwise
  rw [dx_at H, inv_at H, pull_at H, H.x, H.r, ← D.gx_eq]
  norm_cast

theorem row0_at (d : Fin 1024) : row0 p w (ix2 0 d) = ((D.sums 0 d : ℝ) : EReal) := by
  unfold row0
  pointwise
  exact Attn.sum_coe _ fun t _ => dh_at H t d

theorem row1_at (d : Fin 1024) : row1 p w x g (ix2 0 d) = ((D.sums 1 d : ℝ) : EReal) := by
  unfold row1
  pointwise
  exact Attn.sum_coe _ fun t _ => by
    rw [xr_at H, gain_at H, dh_at H, ← EReal.coe_mul, ← EReal.coe_mul, mul_comm]
    rfl

theorem row2_at (d : Fin 1024) : row2 p w x s (ix2 0 d) = ((D.sums 2 d : ℝ) : EReal) := by
  unfold row2
  pointwise
  refine (Fin.sum_univ_one _).trans ?_
  exact Attn.sum_coe _ fun t _ => by
    rw [xr_at H, dn_at H, ← EReal.coe_mul, mul_comm]
    rfl

theorem sums_at (i : Fin 8) (d : Fin 1024) : sums p w x s g (ix2 i d) = ((D.sums i d : ℝ) : EReal) := by
  unfold sums
  pointwise
  by_cases h0 : (i : ℕ) = 0
  · obtain rfl : i = 0 := Fin.ext h0
    exact row0_at H d
  by_cases h1 : (i : ℕ) = 1
  · obtain rfl : i = 1 := Fin.ext h1
    exact row1_at H d
  by_cases h2 : (i : ℕ) = 2
  · obtain rfl : i = 2 := Fin.ext h2
    exact row2_at H d
  rw [dif_neg (by omega), dif_neg (by omega), dif_neg (by omega), D.sums_rest i d (by omega)]
  rfl

end Stages

variable (m : (ℓ : Loc nD τ sig) → Buf (Elt Ideal) ℓ) (c : Dev nD)

theorem out0_eq : res_out0 m c = gx (m (c.tc.loc main_arg0)) (m (c.tc.loc main_arg1)) (m (c.tc.loc main_arg2))
    (m (c.tc.loc main_arg3)) (m (c.tc.loc main_arg4)) (m (c.tc.loc main_arg5)) := by
  unfold res_out0 res_main_v57
  rfl

end Cert.Reference2Ideal.Read

end
-- ==== Proof.InputArray.lean ====
/- From grid points to arrays: the rows' gradients land block by block, and the sums over the tokens gather point by
   point. -/
module

public import proofs.«01_k».proof.Proof.InputTile
public import proofs.«01_k».proof.Proof.Ref2Read
public import Idealize.ShloMosaic.Lib.Pipeline.ValueKit
public import Idealize.ShloMosaic.Lib.Claim

@[expose] public section

set_option maxRecDepth 16384

noncomputable section

namespace Cert.Kernel2Ideal.Array

open Cert.Kernel2Ideal Cert.Kernel2Ideal.Gen Idealize.ShloMosaic Idealize.ShloMosaic.TcCoe Idealize.ShloMosaic.StableHlo

/-- Token `a` of block `k`. -/
abbrev tok (k : Fin 32) (a : Fin 256) : Fin 8192 := ⟨(k : ℕ) * 256 + (a : ℕ), by omega⟩

abbrev All := Norm.Rows (Fin 8192) (Fin 1024) (Fin 10240)

/-- The rows of block `k`. -/
def part (D : All) (k : Fin 32) : Tile.Data where
  P a := D.P (tok k a)
  W := D.W
  X a := D.X (tok k a)
  R a := D.R (tok k a)
  sc := D.sc
  g := D.g

theorem part_gx (D : All) (k : Fin 32) (a : Fin 256) (d : Fin 1024) : (part D k).gx a d = D.gx (tok k a) d := rfl

theorem part_share (D : All) (k : Fin 32) (i : Fin 8) (a : Fin 256) (d : Fin 1024) : (part D k).share i a d = D.share i (tok k a) d := rfl

/-- The sums of the blocks up to block `n`. -/
def upto (D : All) (n : ℕ) (i : Fin 8) (d : Fin 1024) : ℝ :=
  ∑ k ∈ Finset.range (n + 1), if h : k < 32 then (part D ⟨k, h⟩).sums i d else 0

theorem upto_last (D : All) (i : Fin 8) (d : Fin 1024) : upto D 31 i d = D.sums i d := by
  unfold upto
  rw [Finset.sum_range]
  have e : ∀ k : Fin 32, (if h : (k : ℕ) < 32 then (part D ⟨(k : ℕ), h⟩).sums i d else 0) = ∑ a, D.share i (tok k a) d :=
    fun k => dif_pos k.isLt
  refine (Finset.sum_congr rfl fun k _ => e k).trans ?_
  unfold Norm.Rows.sums
  rw [← Fintype.sum_prod_type' (f := fun (k : Fin 32) (a : Fin 256) => D.share i (tok k a) d)]
  refine Fintype.sum_equiv (finProdFinEquiv (m := 32) (n := 256)) _ _ fun x => ?_
  refine congrArg (D.share i · d) (Fin.ext ?_)
  show (x.1 : ℕ) * 256 + (x.2 : ℕ) = (x.2 : ℕ) + 256 * (x.1 : ℕ)
  omega

theorem upto_succ (D : All) (n : ℕ) (k : Fin 32) (hk : (k : ℕ) = n + 1) (i : Fin 8) (d : Fin 1024) :
    upto D (n + 1) i d = upto D n i d + (part D k).sums i d := by
  obtain ⟨_, hn⟩ := k
  subst hk
  unfold upto
  rw [Finset.sum_range_succ _ (n + 1), dif_pos hn]

theorem upto_zero (D : All) (k : Fin 32) (hk : (k : ℕ) = 0) (i : Fin 8) (d : Fin 1024) : upto D 0 i d = (part D k).sums i d := by
  obtain rfl : k = 0 := Fin.ext hk
  unfold upto
  rw [Finset.sum_range_one]
  rfl

variable (m : (ℓ : Loc nD τ sig) → Buf (Elt Ideal) ℓ) (c : Dev nD) {D : All}

/-- The launch contents of the arguments hold the reals of `D`. -/
abbrev Holds (D : All) : Prop :=
  Cert.Reference2Ideal.Read.Holds (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) D

/-- The array of the shift, the scale and the gate, padded to eight rows. -/
theorem pad (f : S3x1024.Idx → EReal) (g : S5x1024.Idx → EReal) (d : Fin 1024) :
    concatenate S8x1024 0 [⟨S3x1024, f⟩, ⟨S5x1024, g⟩] concatenates_S3x1024_S5x1024_S8x1024_d0 (ix2 1 d) = f (ix2 1 d) := by
  pointwise

theorem padded : ∃ g : S5x1024.Idx → EReal, (V m c main_v1 : S8x1024.Idx → EReal)
    = concatenate S8x1024 0 [⟨S3x1024, (m ((c.tc : Thread nD τ).loc main_arg4) : S3x1024.Idx → EReal)⟩, ⟨S5x1024, g⟩] concatenates_S3x1024_S5x1024_S8x1024_d0 := by
  refine ⟨broadcastInDim S5x1024 ![] bcast_S_S5x1024 (constant (F := Ideal) S_ .f32 0x00000000#32), ?_⟩
  entry_read
  rfl

theorem scale_entry (d : Fin 1024) : (V m c main_v1 : S8x1024.Idx → EReal) (ix2 1 d) = (m ((c.tc : Thread nD τ).loc main_arg4) : S3x1024.Idx → EReal) (ix2 1 d) := by
  obtain ⟨g, e⟩ := padded m c
  exact (congrFun e _).trans (pad _ g d)

theorem idx0 : ∀ t : Fin cfg0.N, win0_0.index t = ![(t : ℕ), 0] := by decide +kernel
theorem idx1 : ∀ t : Fin cfg0.N, win0_1.index t = ![0, 0] := by decide +kernel
theorem idx2 : ∀ t : Fin cfg0.N, win0_2.index t = ![(t : ℕ), 0] := by decide +kernel
theorem idx3 : ∀ t : Fin cfg0.N, win0_3.index t = ![(t : ℕ), 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![(t : ℕ), 0] := by decide +kernel
theorem idx7 : ∀ t : Fin cfg0.N, win0_7.index t = ![0, 0] := by decide +kernel

/-- The block of grid point `t`. -/
def num (t : Fin cfg0.N) : Fin 32 := ⟨t, lt_of_lt_of_eq t.isLt N_0⟩

theorem num_val (t : Fin cfg0.N) : (num t : ℕ) = (t : ℕ) := rfl

theorem blk0 (v : (⟨S8192x10240, .bf16⟩ : BufTy).Contents (Elt Ideal)) (t : Fin cfg0.N) (a : Fin 256) (d : Fin 10240) :
    (((cfg0.win 0).blk t).view.read (Elt Ideal) v) (ix2 a d) = v (ix2 (tok (num t) a) d) := by
  blk_ext [idx0 t]
  rfl
theorem blk1 (v : (⟨S1024x10240, .bf16⟩ : BufTy).Contents (Elt Ideal)) (t : Fin cfg0.N) (a : Fin 1024) (d : Fin 10240) :
    (((cfg0.win 1).blk t).view.read (Elt Ideal) v) (ix2 a d) = v (ix2 a d) := by
  blk_ext [idx1 t]
theorem blk2 (v : (⟨S8192x1024, .f32⟩ : BufTy).Contents (Elt Ideal)) (t : Fin cfg0.N) (a : Fin 256) (d : Fin 1024) :
    (((cfg0.win 2).blk t).view.read (Elt Ideal) v) (ix2 a d) = v (ix2 (tok (num t) a) d) := by
  blk_ext [idx2 t]
  rfl
theorem blk3 (v : (⟨S8192x1024, .f32⟩ : BufTy).Contents (Elt Ideal)) (t : Fin cfg0.N) (a : Fin 256) (d : Fin 1024) :
    (((cfg0.win 3).blk t).view.read (Elt Ideal) v) (ix2 a d) = v (ix2 (tok (num t) a) d) := by
  blk_ext [idx3 t]
  rfl
theorem blk4 (v : (⟨S8x1024, .f32⟩ : BufTy).Contents (Elt Ideal)) (t : Fin cfg0.N) (a : Fin 8) (d : Fin 1024) :
    (((cfg0.win 4).blk t).view.read (Elt Ideal) v) (ix2 a d) = v (ix2 a d) := by
  blk_ext [idx4 t]
theorem blk5 (v : (⟨S1x1024, .f32⟩ : BufTy).Contents (Elt Ideal)) (t : Fin cfg0.N) (a : Fin 1) (d : Fin 1024) :
    (((cfg0.win 5).blk t).view.read (Elt Ideal) v) (ix2 a d) = v (ix2 a d) := by
  blk_ext [idx5 t]

variable {m c} (H : Holds m c D)
include H

/-- The blocks of grid point `t` are the rows of its block. -/
theorem blocks (t : Fin cfg0.N) :
    Tile.Blocks (iblk m c 0 t) (iblk m c 1 t) (iblk m c 2 t) (iblk m c 3 t) (iblk m c 4 t) (iblk m c 5 t) (part D (num t)) where
  p a d := (blk0 (V m c main_arg0) t a d).trans ((congrFun (V_main_arg0 m c) _).trans (H.p _ _))
  w a d := (blk1 (V m c main_arg1) t a d).trans ((congrFun (V_main_arg1 m c) _).trans (H.w _ _))
  x a d := (blk2 (V m c main_arg2) t a d).trans ((congrFun (V_main_arg2 m c) _).trans (H.x _ _))
  r a d := (blk3 (V m c main_arg3) t a d).trans ((congrFun (V_main_arg3 m c) _).trans (H.r _ _))
  s d := (blk4 (V m c main_v1) t 1 d).trans ((scale_entry m c d).trans (H.s d))
  g d := (blk5 (V m c main_arg5) t 0 d).trans ((congrFun (V_main_arg5 m c) _).trans (H.g d))

/-- After grid point `t` the rows' block holds the rows' gradients. -/
theorem rows_after (t : Fin cfg0.N) (a : Fin 256) (d : Fin 1024) :
    (outsAt0 m c t.val t.isLt).1 (ix2 a d) = ((D.gx (tok (num t) a) d : ℝ) : EReal) := by
  rw [← part_gx]
  by_cases h0 : t.val % 32 = 0
  · rw [outsAt0_A m c t h0]
    have step := Tile.out_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (B := blocks H t) ((hcond0_0 t).mpr h0) a d
    dsimp only
    exact step
  · rw [outsAt0_B m c t h0]
    have step := Tile.out_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (B := blocks H t) (fun h => h0 ((hcond0_0 t).mp h)) (outsAt0 m c (t.val - 1) (Nat.lt_of_le_of_lt (Nat.sub_le _ _) t.isLt)).2 a d
    dsimp only
    exact step

/-- After grid point `n` the sums' block holds the sums of the blocks so far. -/
theorem sums_after : ∀ (n : ℕ) (hn : n < cfg0.N) (i : Fin 8) (d : Fin 1024), (outsAt0 m c n hn).2 (ix2 i d) = ((upto D n i d : ℝ) : EReal)
  | 0, hn, i, d => by
    have e := outsAt0_A m c ⟨0, hn⟩ rfl
    refine (congrFun (congrArg Prod.snd e) _).trans ?_
    rw [upto_zero D (num ⟨0, hn⟩) rfl]
    have step := Tile.out_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (blocks H ⟨0, hn⟩) ((hcond0_0 ⟨0, hn⟩).mpr rfl) i d
    dsimp only
    exact step
  | n + 1, hn, i, d => by
    have hN : n + 1 < 32 := lt_of_lt_of_eq hn N_0
    have hne : ¬ (n + 1) % 32 = 0 := by omega
    have e := outsAt0_B m c ⟨n + 1, hn⟩ hne
    refine (congrFun (congrArg Prod.snd e) _).trans ?_
    rw [upto_succ D n (num ⟨n + 1, hn⟩) rfl]
    have step := Tile.out_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (blocks H ⟨n + 1, hn⟩)
      (fun h => hne ((hcond0_0 ⟨n + 1, hn⟩).mp h)) (outsAt0 m c n (Nat.lt_of_succ_lt hn)).2 (upto D n)
      (sums_after n (Nat.lt_of_succ_lt hn)) i d
    dsimp only
    exact step

omit H

/-- The gradients of all the rows. -/
def gx (D : All) : (⟨S8192x1024, .f32⟩ : BufTy).Contents (Elt Ideal) := fun y => ((D.gx (y 0) (y 1) : ℝ) : EReal)

/-- The sums over all the tokens. -/
def sums (D : All) : (⟨S8x1024, .f32⟩ : BufTy).Contents (Elt Ideal) := fun y => ((D.sums (y 0) (y 1) : ℝ) : EReal)

theorem emb6 (t : Fin cfg0.N) (y : S256x1024.Idx) : ((cfg0.win 6).blk t).view.emb y = (ix2 (tok (num t) (y 0)) (y 1) : S8192x1024.Idx) := by
  blk_ext [idx6 t]
  rfl

theorem emb7 (t : Fin cfg0.N) (y : S8x1024.Idx) : ((cfg0.win 7).blk t).view.emb y = (ix2 (y 0) (y 1) : S8x1024.Idx) := by
  blk_ext [idx7 t]

include H

theorem array6 : (dats m 0 c).arrAt 6 cfg0.N = gx D := by
  refine (dats m 0 c).arrAt_eq_of_covers 6 _ (by decide +kernel) fun t hf y => ?_
  refine Eq.trans ?_ (congrArg (gx D) (emb6 t y)).symm
  refine (congrArg (cast _) (congrFun (after0_6 m c t) ((cfg0.win 6).xinj (cfg0.grid.coords t) y))).trans ?_
  exact (congrArg (outsAt0 m c t.val t.isLt).1 (ix2_eta y).symm).trans (rows_after H t (y 0) (y 1))

theorem array7 : (dats m 0 c).arrAt 7 cfg0.N = sums D := by
  refine (dats m 0 c).arrAt_eq_of_covers 7 _ (by decide +kernel) fun t hf y => ?_
  have hlast : t.val = 31 := by
    revert t
    decide +kernel
  refine Eq.trans ?_ (congrArg (sums D) (emb7 t y)).symm
  refine (congrArg (cast _) (congrFun (after0_7 m c t) ((cfg0.win 7).xinj (cfg0.grid.coords t) y))).trans ?_
  refine (congrArg (outsAt0 m c t.val t.isLt).2 (ix2_eta y).symm).trans ((sums_after H t.val t.isLt (y 0) (y 1)).trans ?_)
  rw [hlast]
  exact congrArg _ (upto_last D (y 0) (y 1))

end Cert.Kernel2Ideal.Array

end
-- ==== Proof.WeightMath.lean ====
/- The gradient of a projection's weight over extended reals: the modulated norm of the rows against the projection's
   cotangent, summed over the tokens, whole or block by block. Nothing here names a program. -/
module

public import Idealize.ShloMosaic.Lib.Pointwise

@[expose] public section

noncomputable section

namespace Weight

open Finset Idealize.ShloMosaic

/-- The rows, the modulation's shift and scale, the norm's gain and the projection's cotangent. -/
structure Rows (τ δ γ : Type) where
  X : τ → δ → EReal
  sh : δ → EReal
  sc : δ → EReal
  g : δ → EReal
  P : τ → γ → EReal

namespace Rows

variable {τ δ γ : Type} [Fintype τ] [Fintype δ] (x : Rows τ δ γ)

/-- The projection's input: the norm of a row, with its gain, modulated. -/
def act (t : τ) (d : δ) : EReal :=
  x.X t d * Ideal.rsqrt (Ideal.div (∑ e, x.X t e * x.X t e) (Ideal.ofBits .f32 0x44800000#32) + Ideal.ofBits .f32 0x358637BD#32) * x.g d
      * (1 + x.sc d) + x.sh d

/-- The gradient of the weight. -/
def grad (d : δ) (c : γ) : EReal := ∑ t, x.act t d * x.P t c

end Rows

/-- Token `a` of block `k`. -/
abbrev tok (k : Fin 4) (a : Fin 2048) : Fin 8192 := ⟨(k : ℕ) * 2048 + (a : ℕ), by omega⟩

/-- The sum over the tokens of the blocks up to block `n`. -/
def upto (f : Fin 8192 → EReal) (n : ℕ) : EReal :=
  ∑ k ∈ range (n + 1), if h : k < 4 then ∑ a, f (tok ⟨k, h⟩ a) else 0

theorem upto_zero (f : Fin 8192 → EReal) (k : Fin 4) (hk : (k : ℕ) = 0) : upto f 0 = ∑ a, f (tok k a) := by
  obtain rfl : k = 0 := Fin.ext hk
  unfold upto
  rw [sum_range_one]
  rfl

theorem upto_succ (f : Fin 8192 → EReal) (n : ℕ) (k : Fin 4) (hk : (k : ℕ) = n + 1) :
    upto f (n + 1) = upto f n + ∑ a, f (tok k a) := by
  obtain ⟨_, hn⟩ := k
  subst hk
  unfold upto
  rw [sum_range_succ _ (n + 1), dif_pos hn]

theorem upto_last (f : Fin 8192 → EReal) : upto f 3 = ∑ t, f t := by
  unfold upto
  rw [sum_range]
  have e : ∀ k : Fin 4, (if h : (k : ℕ) < 4 then ∑ a, f (tok ⟨(k : ℕ), h⟩ a) else 0) = ∑ a, f (tok k a) := fun k => dif_pos k.isLt
  refine (sum_congr rfl fun k _ => e k).trans ?_
  rw [← Fintype.sum_prod_type' (f := fun (k : Fin 4) (a : Fin 2048) => f (tok k a))]
  refine Fintype.sum_equiv (finProdFinEquiv (m := 4) (n := 2048)) _ _ fun x => ?_
  refine congrArg f (Fin.ext ?_)
  show (x.1 : ℕ) * 2048 + (x.2 : ℕ) = (x.2 : ℕ) + 2048 * (x.1 : ℕ)
  omega

end Weight

end
-- ==== Proof.WeightTile.lean ====
/- One grid point of the kernels behind the weight's gradient: a block of modulated norms, and a block of tokens added to
   the gradient of a tile of columns. -/
module

public import proofs.«01_k».proof.Proof.WeightMath
public import proofs.«01_k».proof.Proof.Gen.Kernel3Ideal.Frame
public import Idealize.ShloMosaic.Lib.Pointwise
public import Idealize.ShloMosaic.Lib.WholeRead
public import Idealize.ShloMosaic.Lib.Pipeline.ValueKit

@[expose] public section

set_option maxRecDepth 16384

noncomputable section

namespace Cert.Kernel3Ideal.Tile

open Cert.Kernel3Ideal Cert.Kernel3Ideal.Gen Idealize.ShloMosaic

theorem pay1_at (x : FVec Ideal S1024x1024 .f32) (g s1 s0 : FVec Ideal S1x1024 .f32) (t d : Fin 1024) :
    k0_pay1 (F := Ideal) x g s1 s0 (ix2 t d)
      = (Weight.Rows.mk (γ := Fin 0) (fun (t d : Fin 1024) => x (ix2 t d)) (fun d => s0 (ix2 0 d)) (fun d => s1 (ix2 0 d)) (fun d => g (ix2 0 d)) (fun _ _ => 0)).act t d := by
  unfold k0_pay1
  pointwise
  rfl

theorem step_at (v : FVec Ideal S1024x2560 .f32) (h : FVec Ideal S1024x2048 .bf16) (p : FVec Ideal S2048x2560 .bf16) (d : Fin 1024) (c : Fin 2560) :
    k1_pay2 (F := Ideal) v h p (ix2 d c) = v (ix2 d c) + ∑ a : Fin 2048, h (ix2 d a) * p (ix2 a c) := by
  unfold k1_pay2
  pointwise

/-- The block of transposed norms that one grid point stores. -/
theorem norms_at (x : Vec Ideal S1024x1024 .f32) (s : Vec Ideal S8x1024 .f32) (g : Vec Ideal S1x1024 .f32) (d t : Fin 1024) :
    out0_4 x s g (ix2 d t)
      = (Weight.Rows.mk (γ := Fin 0) (fun (t d : Fin 1024) => x (ix2 t d)) (fun d => s (ix2 0 d)) (fun d => s (ix2 1 d)) (fun d => g (ix2 0 d)) (fun _ _ => 0)).act t d := by
  unfold out0_4
  rw [View.canon_cons_unit_lit _ _ _ (by decide)]
  have flip (y : FVec Ideal S1024x1024 .f32) : truncf .bf16 (transpose S1024x1024 [1, 0] y transposes_S1024x1024_p1_0_S1024x1024) bitsLt_bf16_f32 (ix2 d t)
      = y (ix2 t d) := by pointwise
  refine (flip _).trans ((pay1_at _ _ _ _ t d).trans ?_)
  have e0 (t d : Fin 1024) : View.ld x r0_0 (ix2 t d) = x (ix2 t d) := congrFun (View.ld_unit_lit _ _ (by decide)) _
  have e1 (d : Fin 1024) : View.ld g r0_1 (ix2 0 d) = g (ix2 0 d) := congrFun (View.ld_unit_lit _ _ (by decide)) _
  have e2 (d : Fin 1024) : View.ld s r0_2 (ix2 0 d) = s (ix2 1 d) := View.ld_unit_apply_of s _ _ _ _ _ fun a => by
    fin_cases a
    · rfl
    · show (d : ℕ) = 0 + (d : ℕ); omega
  have e3 (d : Fin 1024) : View.ld s r0_3 (ix2 0 d) = s (ix2 0 d) := View.ld_unit_apply_of s _ _ _ _ _ fun a => by
    fin_cases a
    · rfl
    · show (d : ℕ) = 0 + (d : ℕ); omega
  simp only [e0, e1, e2, e3]

/-- The contents of a whole block, loaded. -/
theorem load_h (m : Memref sig .tc .vmem S1024x2048 .bf16) (h : m.IsWhole) (x : Vec Ideal S1024x2048 .bf16) (hb) :
    View.readAt (Elt Ideal) m.view (Rect.unit (s := S1024x2048) ![0, 0] S1024x2048.size hb).toLoadRect (h.unread x) = x :=
  (View.readAt_eq_ld m.view (h.unread x) _).trans ((View.ld_unit_lit hb _ (by decide)).trans (h.read_unread x))

theorem load_p (m : Memref sig .tc .vmem S2048x2560 .bf16) (h : m.IsWhole) (x : Vec Ideal S2048x2560 .bf16) (hb) :
    View.readAt (Elt Ideal) m.view (Rect.unit (s := S2048x2560) ![0, 0] S2048x2560.size hb).toLoadRect (h.unread x) = x :=
  (View.readAt_eq_ld m.view (h.unread x) _).trans ((View.ld_unit_lit hb _ (by decide)).trans (h.read_unread x))

theorem load_o (m : Memref sig .tc .vmem S1024x2560 .f32) (h : m.IsWhole) (x : Vec Ideal S1024x2560 .f32) (hb) :
    View.readAt (Elt Ideal) m.view (Rect.unit (s := S1024x2560) ![0, 0] S1024x2560.size hb).toLoadRect (h.unread x) = x :=
  (View.readAt_eq_ld m.view (h.unread x) _).trans ((View.ld_unit_lit hb _ (by decide)).trans (h.read_unread x))

/-- A store over the whole block leaves its value, whatever came before. -/
theorem stored (v : View sig .tc .vmem S1024x2560 .f32) (f : v.ty.Contents (Elt Ideal)) (w : FVec Ideal S1024x2560 .f32) (L) (hb) (d : Fin 1024) (c : Fin 2560) :
    v.read (Elt Ideal) (v.writes (Elt Ideal) f (⟨Rect.unit (s := S1024x2560) ![0, 0] S1024x2560.size hb, w⟩ :: L)) (ix2 d c) = w (ix2 d c) :=
  View.read_writes_cons_hit_of_coords v f (Rect.unit (s := S1024x2560) ![0, 0] S1024x2560.size hb) w L (ix2 d c) (ix2 d c) fun b => by
    fin_cases b
    · show (d : ℕ) = 0 + 1 * (d : ℕ); omega
    · show (c : ℕ) = 0 + 1 * (c : ℕ); omega

/-- … and a load after it reads that value. -/
theorem reloaded (v : View sig .tc .vmem S1024x2560 .f32) (w : FVec Ideal S1024x2560 .f32) (L : List (View.Piece (Elt Ideal) S1024x2560 .f32)) (hb hb') (d : Fin 1024) (c : Fin 2560) :
    v.readCov (Val := Elt Ideal) (⟨Rect.unit (s := S1024x2560) ![0, 0] S1024x2560.size hb, w⟩ :: L) (Rect.unit (s := S1024x2560) ![0, 0] S1024x2560.size hb').toLoadRect (ix2 d c)
      = w (ix2 d c) := by
  have e : (Rect.unit (s := S1024x2560) ![0, 0] S1024x2560.size hb').toLoadRect.idx (ix2 d c) = ix2 d c := by
    funext b
    fin_cases b
    · exact Fin.ext (by show 0 + 1 * (d : ℕ) = d; omega)
    · exact Fin.ext (by show 0 + 1 * (c : ℕ) = c; omega)
  show v.read (Elt Ideal) (v.writes (Elt Ideal) v.junk _) ((Rect.unit (s := S1024x2560) ![0, 0] S1024x2560.size hb').toLoadRect.idx (ix2 d c)) = _
  rw [e]
  exact stored v _ w L hb d c

theorem clear_at (d : Fin 1024) (c : Fin 2560) : k1_pay1 (F := Ideal) (ix2 d c) = 0 := by
  unfold k1_pay1
  pointwise

section First

variable (c : Dev nD) (i : grid1.Coords) (arg2 : Memref sig .tc .vmem S1024x2048 .bf16) (harg2 : arg2.IsWhole)
  (arg3 : Memref sig .tc .vmem S2048x2560 .bf16) (harg3 : arg3.IsWhole) (arg4 : Memref sig .tc .vmem S1024x2560 .f32) (harg4 : arg4.IsWhole)
  (x0 : Vec Ideal S1024x2048 .bf16) (x1 : Vec Ideal S2048x2560 .bf16)

theorem run1A (hc0 : cond1_0 i) :
    (kernelRun1_A (F := Ideal) c i arg2 harg2 arg3 harg3 arg4 harg4 hc0 x0 x1).1
      = [⟨Rect.unit (s := S1024x2560) ![0, 0] S1024x2560.size inb_S1024x2560_S1024x2560_0_0,
          k1_pay2 (F := Ideal) (arg4.view.readCov [⟨Rect.unit (s := S1024x2560) ![0, 0] S1024x2560.size inb_S1024x2560_S1024x2560_0_0, k1_pay1 (F := Ideal)⟩]
              (Rect.unit (s := S1024x2560) ![0, 0] S1024x2560.size inb_S1024x2560_S1024x2560_0_0).toLoadRect)
            (View.readAt (Elt Ideal) arg2.view (Rect.unit (s := S1024x2048) ![0, 0] S1024x2048.size inb_S1024x2048_S1024x2048_0_0).toLoadRect (harg2.unread x0))
            (View.readAt (Elt Ideal) arg3.view (Rect.unit (s := S2048x2560) ![0, 0] S2048x2560.size inb_S2048x2560_S2048x2560_0_0).toLoadRect (harg3.unread x1))⟩,
        ⟨Rect.unit (s := S1024x2560) ![0, 0] S1024x2560.size inb_S1024x2560_S1024x2560_0_0, k1_pay1 (F := Ideal)⟩] := rfl

theorem run1B (hc0 : ¬ cond1_0 i) (xo : Vec Ideal S1024x2560 .f32) :
    (kernelRun1_B (F := Ideal) c i arg2 harg2 arg3 harg3 arg4 harg4 hc0 x0 x1 xo).1
      = [⟨Rect.unit (s := S1024x2560) ![0, 0] S1024x2560.size inb_S1024x2560_S1024x2560_0_0,
          k1_pay2 (F := Ideal) (View.readAt (Elt Ideal) arg4.view (Rect.unit (s := S1024x2560) ![0, 0] S1024x2560.size inb_S1024x2560_S1024x2560_0_0).toLoadRect (harg4.unread xo))
            (View.readAt (Elt Ideal) arg2.view (Rect.unit (s := S1024x2048) ![0, 0] S1024x2048.size inb_S1024x2048_S1024x2048_0_0).toLoadRect (harg2.unread x0))
            (View.readAt (Elt Ideal) arg3.view (Rect.unit (s := S2048x2560) ![0, 0] S2048x2560.size inb_S2048x2560_S2048x2560_0_0).toLoadRect (harg3.unread x1))⟩] := rfl

theorem first_A (hc0 : cond1_0 i) (d : Fin 1024) (k : Fin 2560) :
    out1_A_2 (F := Ideal) c i arg2 harg2 arg3 harg3 arg4 harg4 hc0 x0 x1 (ix2 d k) = ∑ a : Fin 2048, x0 (ix2 d a) * x1 (ix2 a k) := by
  unfold out1_A_2
  rw [run1A, load_h, load_p]
  refine (stored _ _ _ _ _ d k).trans ((step_at _ _ _ d k).trans ?_)
  rw [reloaded, clear_at]
  exact zero_add _

theorem first_B (hc0 : ¬ cond1_0 i) (xo : Vec Ideal S1024x2560 .f32) (d : Fin 1024) (k : Fin 2560) :
    out1_B_2 (F := Ideal) c i arg2 harg2 arg3 harg3 arg4 harg4 hc0 x0 x1 xo (ix2 d k) = xo (ix2 d k) + ∑ a : Fin 2048, x0 (ix2 d a) * x1 (ix2 a k) := by
  unfold out1_B_2
  rw [run1B, load_h, load_p, load_o]
  exact (stored _ _ _ _ _ d k).trans (step_at _ _ _ d k)

end First

section Second

variable (c : Dev nD) (i : grid2.Coords) (arg2 : Memref sig .tc .vmem S1024x2048 .bf16) (harg2 : arg2.IsWhole)
  (arg3 : Memref sig .tc .vmem S2048x2560 .bf16) (harg3 : arg3.IsWhole) (arg5 : Memref sig .tc .vmem S1024x2560 .f32) (harg5 : arg5.IsWhole)
  (x0 : Vec Ideal S1024x2048 .bf16) (x1 : Vec Ideal S2048x2560 .bf16)

theorem run2A (hc0 : cond2_0 i) :
    (kernelRun2_A (F := Ideal) c i arg2 harg2 arg3 harg3 arg5 harg5 hc0 x0 x1).1
      = [⟨Rect.unit (s := S1024x2560) ![0, 0] S1024x2560.size inb_S1024x2560_S1024x2560_0_0,
          k2_pay2 (F := Ideal) (arg5.view.readCov [⟨Rect.unit (s := S1024x2560) ![0, 0] S1024x2560.size inb_S1024x2560_S1024x2560_0_0, k2_pay1 (F := Ideal)⟩]
              (Rect.unit (s := S1024x2560) ![0, 0] S1024x2560.size inb_S1024x2560_S1024x2560_0_0).toLoadRect)
            (View.readAt (Elt Ideal) arg2.view (Rect.unit (s := S1024x2048) ![0, 0] S1024x2048.size inb_S1024x2048_S1024x2048_0_0).toLoadRect (harg2.unread x0))
            (View.readAt (Elt Ideal) arg3.view (Rect.unit (s := S2048x2560) ![0, 0] S2048x2560.size inb_S2048x2560_S2048x2560_0_0).toLoadRect (harg3.unread x1))⟩,
        ⟨Rect.unit (s := S1024x2560) ![0, 0] S1024x2560.size inb_S1024x2560_S1024x2560_0_0, k2_pay1 (F := Ideal)⟩] := rfl

theorem run2B (hc0 : ¬ cond2_0 i) (xo : Vec Ideal S1024x2560 .f32) :
    (kernelRun2_B (F := Ideal) c i arg2 harg2 arg3 harg3 arg5 harg5 hc0 x0 x1 xo).1
      = [⟨Rect.unit (s := S1024x2560) ![0, 0] S1024x2560.size inb_S1024x2560_S1024x2560_0_0,
          k2_pay2 (F := Ideal) (View.readAt (Elt Ideal) arg5.view (Rect.unit (s := S1024x2560) ![0, 0] S1024x2560.size inb_S1024x2560_S1024x2560_0_0).toLoadRect (harg5.unread xo))
            (View.readAt (Elt Ideal) arg2.view (Rect.unit (s := S1024x2048) ![0, 0] S1024x2048.size inb_S1024x2048_S1024x2048_0_0).toLoadRect (harg2.unread x0))
            (View.readAt (Elt Ideal) arg3.view (Rect.unit (s := S2048x2560) ![0, 0] S2048x2560.size inb_S2048x2560_S2048x2560_0_0).toLoadRect (harg3.unread x1))⟩] := rfl

theorem second_A (hc0 : cond2_0 i) (d : Fin 1024) (k : Fin 2560) :
    out2_A_2 (F := Ideal) c i arg2 harg2 arg3 harg3 arg5 harg5 hc0 x0 x1 (ix2 d k) = ∑ a : Fin 2048, x0 (ix2 d a) * x1 (ix2 a k) := by
  unfold out2_A_2
  rw [run2A, load_h, load_p]
  refine (stored _ _ _ _ _ d k).trans ((step_at _ _ _ d k).trans ?_)
  rw [reloaded, show k2_pay1 (F := Ideal) (ix2 d k) = 0 from clear_at d k]
  exact zero_add _

theorem second_B (hc0 : ¬ cond2_0 i) (xo : Vec Ideal S1024x2560 .f32) (d : Fin 1024) (k : Fin 2560) :
    out2_B_2 (F := Ideal) c i arg2 harg2 arg3 harg3 arg5 harg5 hc0 x0 x1 xo (ix2 d k) = xo (ix2 d k) + ∑ a : Fin 2048, x0 (ix2 d a) * x1 (ix2 a k) := by
  unfold out2_B_2
  rw [run2B, load_h, load_p, load_o]
  exact (stored _ _ _ _ _ d k).trans (step_at _ _ _ d k)

end Second

end Cert.Kernel3Ideal.Tile

end
-- ==== Proof.WeightArray.lean ====
/- From grid points to arrays: the norms land block by block, and the weight's gradient gathers over the blocks of tokens,
   tile of columns by tile of columns, in two calls. -/
module

public import proofs.«01_k».proof.Proof.WeightTile
public import Idealize.ShloMosaic.Lib.Claim

@[expose] public section

set_option maxRecDepth 16384

noncomputable section

namespace Cert.Kernel3Ideal.Array

open Cert.Kernel3Ideal Cert.Kernel3Ideal.Gen Idealize.ShloMosaic Idealize.ShloMosaic.TcCoe Idealize.ShloMosaic.StableHlo Weight

abbrev All := Weight.Rows (Fin 8192) (Fin 1024) (Fin 10240)

/-- The array of the norms, tokens along its columns. -/
def norms (D : All) : (⟨S1024x8192, .bf16⟩ : BufTy).Contents (Elt Ideal) := fun y => D.act (y 1) (y 0)

/-- The array of the weight's gradient. -/
def grad (D : All) : (⟨S1024x10240, .f32⟩ : BufTy).Contents (Elt Ideal) := fun y => D.grad (y 0) (y 1)

/-- Token `a` of a block of rows. -/
abbrev row (k : Fin 8) (a : Fin 1024) : Fin 8192 := ⟨(k : ℕ) * 1024 + (a : ℕ), by omega⟩

/-- Column `a` of a tile of columns. -/
abbrev col (k : Fin 4) (a : Fin 2560) : Fin 10240 := ⟨(k : ℕ) * 2560 + (a : ℕ), by omega⟩

/-- The gradient of one weight over the blocks of tokens up to block `n`. -/
def partGrad (D : All) (n : ℕ) (d : Fin 1024) (k : Fin 10240) : EReal := upto (fun t => D.act t d * D.P t k) n

section Norms

variable (V : (c : Dev nD) → (b : Ref sig .tc) → Buf (Elt Ideal) ((c : Thread nD τ).loc b)) (c : Dev nD)

theorem idx00 : ∀ t : Fin cfg0.N, win0_0.index t = ![(t : ℕ), 0] := by decide +kernel
theorem idx01 : ∀ t : Fin cfg0.N, win0_1.index t = ![0, 0] := by decide +kernel
theorem idx02 : ∀ t : Fin cfg0.N, win0_2.index t = ![0, 0] := by decide +kernel
theorem idx04 : ∀ t : Fin cfg0.N, win0_4.index t = ![0, (t : ℕ)] := by decide +kernel

/-- The block of rows of grid point `t`. -/
def num (t : Fin cfg0.N) : Fin 8 := ⟨t, lt_of_lt_of_eq t.isLt N_0⟩

theorem blk00 (v : (⟨S8192x1024, .f32⟩ : BufTy).Contents (Elt Ideal)) (t : Fin cfg0.N) (a d : Fin 1024) :
    (((cfg0.win 0).blk t).view.read (Elt Ideal) v) (ix2 a d) = v (ix2 (row (num t) a) d) := by
  blk_ext [idx00 t]
  rfl
theorem blk01 (v : (⟨S8x1024, .f32⟩ : BufTy).Contents (Elt Ideal)) (t : Fin cfg0.N) (a : Fin 8) (d : Fin 1024) :
    (((cfg0.win 1).blk t).view.read (Elt Ideal) v) (ix2 a d) = v (ix2 a d) := by
  blk_ext [idx01 t]
theorem blk02 (v : (⟨S1x1024, .f32⟩ : BufTy).Contents (Elt Ideal)) (t : Fin cfg0.N) (a : Fin 1) (d : Fin 1024) :
    (((cfg0.win 2).blk t).view.read (Elt Ideal) v) (ix2 a d) = v (ix2 a d) := by
  blk_ext [idx02 t]
theorem emb04 (t : Fin cfg0.N) (y : S1024x1024.Idx) : ((cfg0.win 4).blk t).view.emb y = (ix2 (y 0) (row (num t) (y 1)) : S1024x8192.Idx) := by
  blk_ext [idx04 t]
  rfl

/-- What grid point `t` is handed: its rows, the modulation, the gain. -/
def rows0 (t : Fin cfg0.N) : Vec Ideal S1024x1024 .f32 := iblk0 V c 0 t
def mods0 (t : Fin cfg0.N) : Vec Ideal S8x1024 .f32 := iblk0 V c 1 t
def gain0 (t : Fin cfg0.N) : Vec Ideal S1x1024 .f32 := iblk0 V c 2 t

/-- The norms of a block of rows are those rows' norms. -/
theorem act_row (D : All) (k : Fin 8) (x : Vec Ideal S1024x1024 .f32) (s : Vec Ideal S8x1024 .f32) (g : Vec Ideal S1x1024 .f32)
    (ex : ∀ a d, x (ix2 a d) = D.X (row k a) d) (e0 : ∀ d, s (ix2 0 d) = D.sh d) (e1 : ∀ d, s (ix2 1 d) = D.sc d)
    (eg : ∀ d, g (ix2 0 d) = D.g d) (a d : Fin 1024) :
    (Weight.Rows.mk (γ := Fin 0) (fun (t d : Fin 1024) => x (ix2 t d)) (fun d => s (ix2 0 d)) (fun d => s (ix2 1 d)) (fun d => g (ix2 0 d)) (fun _ _ => 0)).act a d
      = D.act (row k a) d := by
  unfold Weight.Rows.act
  simp only [ex, e0, e1, eg]

variable {V c} {D : All} (hx : ∀ t d, (V c main_arg0 : S8192x1024.Idx → EReal) (ix2 t d) = D.X t d)
  (h0 : ∀ d, (V c main_v1 : S8x1024.Idx → EReal) (ix2 0 d) = D.sh d) (h1 : ∀ d, (V c main_v1 : S8x1024.Idx → EReal) (ix2 1 d) = D.sc d)
  (hg : ∀ d, (V c main_arg2 : S1x1024.Idx → EReal) (ix2 0 d) = D.g d)
include hx h0 h1 hg

theorem norms_after (t : Fin cfg0.N) (d a : Fin 1024) :
    out0_4 (rows0 V c t) (mods0 V c t) (gain0 V c t) (ix2 d a) = D.act (row (num t) a) d :=
  (Tile.norms_at _ _ _ d a).trans (act_row D _ _ _ _ (fun a d => (blk00 (V c main_arg0) t a d).trans (hx _ _))
    (fun d => (blk01 (V c main_v1) t 0 d).trans (h0 d)) (fun d => (blk01 (V c main_v1) t 1 d).trans (h1 d))
    (fun d => (blk02 (V c main_arg2) t 0 d).trans (hg d)) a d)

/-- What grid point `t` leaves in the norms' block. -/
def left (D : All) (t : Fin cfg0.N) : Vec Ideal S1024x1024 .bf16 := fun y => D.act (row (num t) (y 1)) (y 0)

theorem norms_left (t : Fin cfg0.N) : (dat0 V c).after 4 t = left D t :=
  (after0_4 V c t).trans (funext fun y : S1024x1024.Idx =>
    (congrArg (out0_4 (rows0 V c t) (mods0 V c t) (gain0 V c t)) (ix2_eta y).symm).trans (norms_after hx h0 h1 hg t (y 0) (y 1)))

theorem norms_array : (dat0 V c).arrAt 4 cfg0.N = norms D := by
  refine (dat0 V c).arrAt_eq_of_covers 4 _ (by decide +kernel) fun t hf y => ?_
  refine Eq.trans ?_ (congrArg (norms D) (emb04 t y)).symm
  exact congrArg (cast _) (congrFun (norms_left hx h0 h1 hg t) ((cfg0.win 4).xinj (cfg0.grid.coords t) y))

end Norms

section First

variable (V : (c : Dev nD) → (b : Ref sig .tc) → Buf (Elt Ideal) ((c : Thread nD τ).loc b)) (c : Dev nD)

theorem idx10 : ∀ t : Fin cfg1.N, win1_0.index t = ![0, (t : ℕ) % 4] := by decide +kernel
theorem idx11 : ∀ t : Fin cfg1.N, win1_1.index t = ![(t : ℕ) % 4, (t : ℕ) / 4] := by decide +kernel
theorem idx12 : ∀ t : Fin cfg1.N, win1_2.index t = ![0, (t : ℕ) / 4] := by decide +kernel

/-- The block of tokens of grid point `t`. -/
def tb1 (t : Fin cfg1.N) : Fin 4 := ⟨(t : ℕ) % 4, Nat.mod_lt _ (by decide)⟩
/-- The tile of columns of grid point `t`. -/
def ct1 (t : Fin cfg1.N) : Fin 4 := ⟨(t : ℕ) / 4, by have := lt_of_lt_of_eq t.isLt N_1; omega⟩

theorem blk10 (v : (⟨S1024x8192, .bf16⟩ : BufTy).Contents (Elt Ideal)) (t : Fin cfg1.N) (d : Fin 1024) (a : Fin 2048) :
    (((cfg1.win 0).blk t).view.read (Elt Ideal) v) (ix2 d a) = v (ix2 d (tok (tb1 t) a)) := by
  blk_ext [idx10 t]
  rfl
theorem blk11 (v : (⟨S8192x10240, .bf16⟩ : BufTy).Contents (Elt Ideal)) (t : Fin cfg1.N) (a : Fin 2048) (k : Fin 2560) :
    (((cfg1.win 1).blk t).view.read (Elt Ideal) v) (ix2 a k) = v (ix2 (tok (tb1 t) a) (col (ct1 t) k)) := by
  blk_ext [idx11 t]
  · rfl
  · rfl
theorem emb12 (t : Fin cfg1.N) (y : S1024x2560.Idx) : ((cfg1.win 2).blk t).view.emb y = (ix2 (y 0) (col (ct1 t) (y 1)) : S1024x10240.Idx) := by
  blk_ext [idx12 t]
  rfl

/-- What grid point `t` is handed: its block of norms and its block of the cotangent. -/
def norm1 (t : Fin cfg1.N) : Vec Ideal S1024x2048 .bf16 := iblk1 V c 0 t
def cot1 (t : Fin cfg1.N) : Vec Ideal S2048x2560 .bf16 := iblk1 V c 1 t

variable {V c} {D : All} (hh : (V c main_v2_1 : S1024x8192.Idx → EReal) = norms D)
  (hp : ∀ t k, (V c main_arg3 : S8192x10240.Idx → EReal) (ix2 t k) = D.P t k)
include hh hp

theorem share1 (t : Fin cfg1.N) (d : Fin 1024) (k : Fin 2560) :
    (∑ a : Fin 2048, norm1 V c t (ix2 d a) * cot1 V c t (ix2 a k) : EReal)
      = ∑ a : Fin 2048, D.act (tok (tb1 t) a) d * D.P (tok (tb1 t) a) (col (ct1 t) k) :=
  Finset.sum_congr rfl fun a _ => congrArg₂ _ ((blk10 (V c main_v2_1) t d a).trans (congrFun hh _)) ((blk11 (V c main_arg3) t a k).trans (hp _ _))

/-- After grid point `n` the tile holds the gradient over the blocks of tokens so far. -/
theorem first_after : ∀ (n : ℕ) (hn : n < cfg1.N) (d : Fin 1024) (k : Fin 2560),
    outsAt1 V c n hn (ix2 d k) = partGrad D (n % 4) d (col (ct1 ⟨n, hn⟩) k)
  | n, hn, d, k => by
    by_cases h0 : n % 4 = 0
    · have step := Tile.first_A c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (norm1 V c ⟨n, hn⟩) (cot1 V c ⟨n, hn⟩)
        ((hcond1_0 ⟨n, hn⟩).mpr h0) d k
      refine (congrFun (outsAt1_A V c ⟨n, hn⟩ h0) _).trans (step.trans ((share1 hh hp ⟨n, hn⟩ d k).trans ?_))
      unfold partGrad
      rw [h0, upto_zero _ (tb1 ⟨n, hn⟩) h0]
    · obtain ⟨n, rfl⟩ : ∃ l, n = l + 1 := ⟨n - 1, by omega⟩
      have step := Tile.first_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (norm1 V c ⟨n + 1, hn⟩) (cot1 V c ⟨n + 1, hn⟩)
        (fun h => h0 ((hcond1_0 ⟨n + 1, hn⟩).mp h)) (outsAt1 V c n (Nat.lt_of_succ_lt hn)) d k
      refine (congrFun (outsAt1_B V c ⟨n + 1, hn⟩ h0) _).trans (step.trans ?_)
      have hc : ct1 ⟨n, Nat.lt_of_succ_lt hn⟩ = ct1 ⟨n + 1, hn⟩ := Fin.ext (by show n / 4 = (n + 1) / 4; omega)
      rw [first_after n (Nat.lt_of_succ_lt hn) d k, share1 hh hp ⟨n + 1, hn⟩ d k, hc]
      unfold partGrad
      rw [show (n + 1) % 4 = n % 4 + 1 by omega, upto_succ _ _ (tb1 ⟨n + 1, hn⟩) (by show (n + 1) % 4 = n % 4 + 1; omega)]

/-- The first call leaves the gradient in the columns of its tiles. -/
theorem first_array (d : Fin 1024) (k : Fin 10240) (hk : (k : ℕ) < 7680) :
    ((dat1 V c).arrAt 2 cfg1.N : S1024x10240.Idx → EReal) (ix2 d k) = D.grad d k := by
  have key : (dat1 V c).arrAt 2 cfg1.N = fun i : S1024x10240.Idx => if (i 1 : ℕ) / 2560 < 3 then grad D i else (dat1 V c).A 2 i := by
    refine (dat1 V c).arrAt_eq_of_coversWhere 2 (grad D) (fun β => β (1 : Fin 2) < 3) (by decide +kernel) (fun t hf y => ?_) (fun j => Iff.rfl)
    have hlast : t.val % 4 = 3 := (flush1_2 t).mp hf
    refine Eq.trans ?_ (congrArg (grad D) (emb12 t y)).symm
    refine (congrArg (cast _) (congrFun (after1_2 V c t) ((cfg1.win 2).xinj (cfg1.grid.coords t) y))).trans ?_
    refine (congrArg (outsAt1 V c t.val t.isLt) (ix2_eta y).symm).trans ((first_after hh hp t.val t.isLt (y 0) (y 1)).trans ?_)
    rw [hlast]
    exact upto_last _
  refine (congrFun key _).trans ?_
  refine if_pos ?_
  show (k : ℕ) / 2560 < 3
  omega

end First

section Second

variable (V : (c : Dev nD) → (b : Ref sig .tc) → Buf (Elt Ideal) ((c : Thread nD τ).loc b)) (c : Dev nD)

theorem idx20 : ∀ t : Fin cfg2.N, win2_0.index t = ![0, (t : ℕ)] := by decide +kernel
theorem idx21 : ∀ t : Fin cfg2.N, win2_1.index t = ![(t : ℕ), 3] := by decide +kernel
theorem idx22 : ∀ t : Fin cfg2.N, win2_2.index t = ![0, 3] := by decide +kernel

/-- The block of tokens of grid point `t`. -/
def tb2 (t : Fin cfg2.N) : Fin 4 := ⟨t, lt_of_lt_of_eq t.isLt N_2⟩

theorem blk20 (v : (⟨S1024x8192, .bf16⟩ : BufTy).Contents (Elt Ideal)) (t : Fin cfg2.N) (d : Fin 1024) (a : Fin 2048) :
    (((cfg2.win 0).blk t).view.read (Elt Ideal) v) (ix2 d a) = v (ix2 d (tok (tb2 t) a)) := by
  blk_ext [idx20 t]
  rfl
theorem blk21 (v : (⟨S8192x10240, .bf16⟩ : BufTy).Contents (Elt Ideal)) (t : Fin cfg2.N) (a : Fin 2048) (k : Fin 2560) :
    (((cfg2.win 1).blk t).view.read (Elt Ideal) v) (ix2 a k) = v (ix2 (tok (tb2 t) a) (col 3 k)) := by
  blk_ext [idx21 t]
  · rfl
theorem emb22 (t : Fin cfg2.N) (y : S1024x2560.Idx) : ((cfg2.win 2).blk t).view.emb y = (ix2 (y 0) (col 3 (y 1)) : S1024x10240.Idx) := by
  blk_ext [idx22 t]

/-- What grid point `t` is handed: its block of norms and its block of the cotangent. -/
def norm2 (t : Fin cfg2.N) : Vec Ideal S1024x2048 .bf16 := iblk2 V c 0 t
def cot2 (t : Fin cfg2.N) : Vec Ideal S2048x2560 .bf16 := iblk2 V c 1 t

variable {V c} {D : All} (hh : (V c main_v2_1 : S1024x8192.Idx → EReal) = norms D)
  (hp : ∀ t k, (V c main_arg3 : S8192x10240.Idx → EReal) (ix2 t k) = D.P t k)
include hh hp

theorem share2 (t : Fin cfg2.N) (d : Fin 1024) (k : Fin 2560) :
    (∑ a : Fin 2048, norm2 V c t (ix2 d a) * cot2 V c t (ix2 a k) : EReal)
      = ∑ a : Fin 2048, D.act (tok (tb2 t) a) d * D.P (tok (tb2 t) a) (col 3 k) :=
  Finset.sum_congr rfl fun a _ => congrArg₂ _ ((blk20 (V c main_v2_1) t d a).trans (congrFun hh _)) ((blk21 (V c main_arg3) t a k).trans (hp _ _))

/-- After grid point `n` the last tile holds the gradient over the blocks of tokens so far. -/
theorem second_after : ∀ (n : ℕ) (hn : n < cfg2.N) (d : Fin 1024) (k : Fin 2560), outsAt2 V c n hn (ix2 d k) = partGrad D n d (col 3 k)
  | 0, hn, d, k => by
    have step := Tile.second_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (norm2 V c ⟨0, hn⟩) (cot2 V c ⟨0, hn⟩)
      ((hcond2_0 ⟨0, hn⟩).mpr rfl) d k
    refine (congrFun (outsAt2_A V c ⟨0, hn⟩ rfl) _).trans (step.trans ((share2 hh hp ⟨0, hn⟩ d k).trans ?_))
    unfold partGrad
    rw [upto_zero _ (tb2 ⟨0, hn⟩) rfl]
  | n + 1, hn, d, k => by
    have hN : n + 1 < 4 := lt_of_lt_of_eq hn N_2
    have h0 : ¬ (n + 1) % 4 = 0 := by omega
    have step := Tile.second_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (norm2 V c ⟨n + 1, hn⟩) (cot2 V c ⟨n + 1, hn⟩)
      (fun h => h0 ((hcond2_0 ⟨n + 1, hn⟩).mp h)) (outsAt2 V c n (Nat.lt_of_succ_lt hn)) d k
    refine (congrFun (outsAt2_B V c ⟨n + 1, hn⟩ h0) _).trans (step.trans ?_)
    rw [second_after n (Nat.lt_of_succ_lt hn) d k, share2 hh hp ⟨n + 1, hn⟩ d k]
    unfold partGrad
    rw [upto_succ _ _ (tb2 ⟨n + 1, hn⟩) rfl]

/-- The second call fills in the last tile: with the first tiles in place, the array is the whole gradient. -/
theorem second_array (ho : ∀ (d : Fin 1024) (k : Fin 10240), (k : ℕ) < 7680 → (V c main_v4 : S1024x10240.Idx → EReal) (ix2 d k) = D.grad d k) :
    (dat2 V c).arrAt 2 cfg2.N = grad D := by
  refine (dat2 V c).arrAt_eq_of_coversWhere_of_agree 2 (grad D) (fun β => β (1 : Fin 2) = 3) (by decide +kernel) (fun t hf y => ?_) (fun j hj => ?_)
  · have hlast : t.val = 3 := by
      have := (flush2_2 t).mp hf
      have := lt_of_lt_of_eq t.isLt N_2
      omega
    refine Eq.trans ?_ (congrArg (grad D) (emb22 t y)).symm
    refine (congrArg (cast _) (congrFun (after2_2 V c t) ((cfg2.win 2).xinj (cfg2.grid.coords t) y))).trans ?_
    refine (congrArg (outsAt2 V c t.val t.isLt) (ix2_eta y).symm).trans ((second_after hh hp t.val t.isLt (y 0) (y 1)).trans ?_)
    rw [hlast]
    exact upto_last _
  · have hj' : ¬ ((j (1 : Fin 2) : ℕ) / 2560 = 3) := hj
    have hlt : (j (1 : Fin 2) : ℕ) < 10240 := (j (1 : Fin 2)).isLt
    exact (congrArg (V c main_v4 : S1024x10240.Idx → EReal) (ix2_eta (j : S1024x10240.Idx)).symm).trans (ho (j (0 : Fin 2)) (j (1 : Fin 2)) (by omega))

end Second

variable (m : (ℓ : Loc nD τ sig) → Buf (Elt Ideal) ℓ) (ρ : Dev nD → PrngReg) (c : Dev nD)

/-- The launch contents of the arguments. -/
def data : All where
  X t d := (m ((c.tc : Thread nD τ).loc main_arg0) : S8192x1024.Idx → EReal) (ix2 t d)
  sh d := (m ((c.tc : Thread nD τ).loc main_arg1) : S3x1024.Idx → EReal) (ix2 0 d)
  sc d := (m ((c.tc : Thread nD τ).loc main_arg1) : S3x1024.Idx → EReal) (ix2 1 d)
  g d := (m ((c.tc : Thread nD τ).loc main_arg2) : S1x1024.Idx → EReal) (ix2 0 d)
  P t k := (m ((c.tc : Thread nD τ).loc main_arg3) : S8192x10240.Idx → EReal) (ix2 t k)

/-- The array of the shift, the scale and the gate, padded to eight rows. -/
theorem pad (f : S3x1024.Idx → EReal) (g : S5x1024.Idx → EReal) (i : Fin 2) (d : Fin 1024) :
    concatenate S8x1024 0 [⟨S3x1024, f⟩, ⟨S5x1024, g⟩] concatenates_S3x1024_S5x1024_S8x1024_d0 (ix2 ⟨(i : ℕ), by omega⟩ d) = f (ix2 ⟨(i : ℕ), by omega⟩ d) := by
  fin_cases i
  · pointwise
  · pointwise

theorem padded : ∃ g : S5x1024.Idx → EReal, (V1 m ρ c main_v1 : S8x1024.Idx → EReal)
    = concatenate S8x1024 0 [⟨S3x1024, (m ((c.tc : Thread nD τ).loc main_arg1) : S3x1024.Idx → EReal)⟩, ⟨S5x1024, g⟩] concatenates_S3x1024_S5x1024_S8x1024_d0 := by
  refine ⟨broadcastInDim S5x1024 ![] bcast_S_S5x1024 (constant (F := Ideal) S_ .f32 0x00000000#32), ?_⟩
  show StableHlo.after hostOps0 (W0 m ρ c) (Proc.devRef .tc main_v1) = _
  after_results

theorem pad_entry (i : Fin 2) (d : Fin 1024) : (V1 m ρ c main_v1 : S8x1024.Idx → EReal) (ix2 ⟨(i : ℕ), by omega⟩ d)
    = (m ((c.tc : Thread nD τ).loc main_arg1) : S3x1024.Idx → EReal) (ix2 ⟨(i : ℕ), by omega⟩ d) := by
  obtain ⟨g, e⟩ := padded m ρ c
  exact (congrFun e _).trans (pad _ g i d)

theorem norms_exit : W2 m ρ c (Proc.devRef .tc main_v2_1) = norms (data m c) :=
  (W2_arr m ρ c 4).trans (norms_array (V := V1 m ρ) (c := c)
    (fun _ _ => congrFun (W1_args m ρ c main_arg0 (by decide)) _) (pad_entry m ρ c 0) (pad_entry m ρ c 1)
    (fun _ => congrFun (W1_args m ρ c main_arg2 (by decide)) _))

theorem first_exit (d : Fin 1024) (k : Fin 10240) (hk : (k : ℕ) < 7680) :
    (W3 m ρ c (Proc.devRef .tc main_v3) : S1024x10240.Idx → EReal) (ix2 d k) = (data m c).grad d k :=
  (congrFun (W3_arr m ρ c 2) _).trans (first_array (V := V2 m ρ) (c := c) (norms_exit m ρ c)
    (fun _ _ => congrFun (W2_args m ρ c main_arg3 (by decide)) _) d k hk)

/-- The second call starts from a copy of what the first one left. -/
theorem copied : W4 m ρ c (Proc.devRef .tc main_v4) = W3 m ρ c (Proc.devRef .tc main_v3) := by
  after_results
  rfl

theorem norms_kept : W4 m ρ c (Proc.devRef .tc main_v2_1) = norms (data m c) :=
  (W4_of m ρ c main_v2_1 (by decide)).trans ((W3_of m ρ c main_v2_1 (by decide)).trans (norms_exit m ρ c))

/-- What the program leaves in its result. -/
theorem result : W5 m ρ c (Proc.devRef .tc main_v4) = grad (data m c) :=
  (W5_arr m ρ c 2).trans (second_array (V := V4 m ρ) (c := c) (norms_kept m ρ c)
    (fun _ _ => congrFun (W4_args m ρ c main_arg3 (by decide)) _)
    (fun d k hk => (congrFun (copied m ρ c) _).trans (first_exit m ρ c d k hk)))

end Cert.Kernel3Ideal.Array

end
-- ==== Proof.WeightRun.lean ====
/- The run of the third kernel: it ends with the weight's gradient in its result and its arguments as launched. -/
module

public import proofs.«01_k».proof.Proof.WeightArray

@[expose] public section

set_option maxRecDepth 16384

noncomputable section

namespace Cert.Kernel3Ideal.Whole

open Cert.Kernel3Ideal Cert.Kernel3Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
theorem run : θ_run defs (onTc (τ := τ) (main (F := Ideal))) ⟨m, fun _ => 0, ρ⟩ (fun r => ∀ c : Dev nD,
      r.2.mem ((c.tc : Thread nD τ).loc main_v4) = Array.grad (Array.data m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz c =>
      ⟨(h c _ (mem_uc main_v4 (by decide))).trans (Array.result m ρ c),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.Kernel3Ideal.Whole

end
-- ==== Proof.Ref3Read.lean ====
/- The third reference's result read at an index: the gradient of the projection's weight. -/
module

public import proofs.«01_k».proof.Proof.WeightMath
public import proofs.«01_k».proof.Proof.Gen.Reference3Ideal.Run
public import Idealize.ShloMosaic.Lib.Pointwise

@[expose] public section

set_option maxRecDepth 16384

noncomputable section

namespace Cert.Reference3Ideal.Read

open Cert.Reference3Ideal Cert.Reference3Ideal.Gen Cert.Reference3Ideal.Value Idealize.ShloMosaic Idealize.ShloMosaic.TcCoe

variable (x : FVec Ideal S8192x1024 .f32) (s : FVec Ideal S3x1024 .f32) (g : FVec Ideal S1x1024 .f32) (p : FVec Ideal S8192x10240 .bf16)

/-- What the arguments hold. -/
def data : Weight.Rows (Fin 8192) (Fin 1024) (Fin 10240) where
  X t d := x (ix2 t d)
  sh d := s (ix2 0 d)
  sc d := s (ix2 1 d)
  g d := g (ix2 0 d)
  P t k := p (ix2 t k)

def act : FVec Ideal S8192x1024 .f32 :=
  addf (mulf (mulf (mulf x (broadcastInDim S8192x1024 ![0, 1] bcast_S8192x1_S8192x1024_0_1
      (Host.rsqrt (addf (Host.divf (broadcastInDim S8192x1 ![0] bcast_S8192_S8192x1_0
          (Host.reduceAdd (mulf x x) (constant S_ .f32 0x00000000#32) reducesTo_S8192x1024_S8192_d1 h_S_))
        (broadcastInDim S8192x1 ![] bcast_S_S8192x1 (constant S_ .f32 0x44800000#32)))
        (broadcastInDim S8192x1 ![] bcast_S_S8192x1 (constant S_ .f32 0x358637BD#32))))))
      (broadcastInDim S8192x1024 ![0, 1] bcast_S1x1024_S8192x1024_0_1
        (broadcastInDim S1x1024 ![1] bcast_S1024_S1x1024_1 (shapeCast _ g shapeCasts_S1x1024_S1024))))
      (broadcastInDim S8192x1024 ![0, 1] bcast_S1x1024_S8192x1024_0_1
        (addf (broadcastInDim S1x1024 ![] bcast_S_S1x1024 (constant S_ .f32 0x3F800000#32))
          (extractStridedSlice S1x1024 ![1, 0] s slices_S3x1024_S1x1024_1_0))))
    (broadcastInDim S8192x1024 ![0, 1] bcast_S1x1024_S8192x1024_0_1 (extractStridedSlice S1x1024 ![0, 0] s slices_S3x1024_S1x1024_0_0))

def grad : FVec Ideal S1024x10240 .f32 :=
  transpose S1024x10240 [1, 0] (Host.dotGeneral dot_S8192x10240_S8192x1024_S10240x1024_0_0_1_1_n_n none (extf .f32 p bitsLt_bf16_f32) (act x s g))
    transposes_S10240x1024_S1024x10240_1_0

theorem act_at (t : Fin 8192) (d : Fin 1024) : act x s g (ix2 t d) = (data x s g p).act t d := by
  unfold act
  pointwise
  rfl

theorem grad_at (d : Fin 1024) (k : Fin 10240) : grad x s g p (ix2 d k) = (data x s g p).grad d k := by
  unfold grad
  pointwise
  exact Finset.sum_congr rfl fun t _ => (mul_comm _ _).trans (congrArg (· * _) (act_at x s g p t d))

theorem grad_eq : grad x s g p = fun y : S1024x10240.Idx => (data x s g p).grad (y 0) (y 1) :=
  funext fun y => (congrArg (grad x s g p) (ix2_eta y).symm).trans (grad_at x s g p (y 0) (y 1))

end Cert.Reference3Ideal.Read

end
-- ==== Proof.ConvArray.lean ====
/- The projection onto the convolution's columns: what a grid point stores is the product of its rows with those columns of the
   weight, and the points' blocks make up the array. -/
module

public import proofs.«01_k».proof.Proof.Gen.Kernel4Ideal.Value
public import Idealize.ShloMosaic.Lib.Pointwise
public import Idealize.ShloMosaic.Lib.WholeRead
public import Idealize.ShloMosaic.Lib.Pipeline.ValueKit
public import Idealize.ShloMosaic.Lib.Claim

@[expose] public section

set_option maxRecDepth 16384

noncomputable section

namespace Cert.Kernel4Ideal.Array

open Cert.Kernel4Ideal Cert.Kernel4Ideal.Gen Idealize.ShloMosaic Idealize.ShloMosaic.TcCoe Idealize.ShloMosaic.StableHlo

theorem product_at (h : FVec Ideal S1024x1024 .bf16) (w : FVec Ideal S1024x512 .bf16) (t : Fin 1024) (c : Fin 512) :
    matmul dot_S1024x1024_S1024x512_S1024x512_1_0_0_1_n_n none h w (constant (F := Ideal) S1024x512 .f32 0x00000000#32) (ix2 t c)
      = ∑ d : Fin 1024, h (ix2 t d) * w (ix2 d c) := by
  pointwise

/-- A tile of the product: the columns from `off` on. -/
theorem tile_at (h : Vec Ideal S1024x1024 .bf16) (w : Vec Ideal S1024x3072 .bf16) (off : ℕ) (hb) (x : S1024x512.Idx) (y : S1024x3072.Idx)
    (h0 : (y 0 : ℕ) = (x 0 : ℕ)) (h1 : (y 1 : ℕ) = off + (x 1 : ℕ)) :
    matmul (φ₁ := .bf16) (φ₂ := .bf16) dot_S1024x1024_S1024x512_S1024x512_1_0_0_1_n_n none h (View.ld w (Rect.unit (s := S1024x3072) ![0, off] S1024x512.size hb))
        (constant (F := Ideal) S1024x512 .f32 0x00000000#32) x
      = ∑ d : Fin 1024, h (ix2 (y 0) d) * w (ix2 d (y 1)) := by
  have e : x = ix2 (y 0) (x 1) := (ix2_eta x).symm.trans (congrArg (ix2 · (x 1)) (Fin.ext h0.symm))
  refine (congrArg _ e).trans ((product_at _ _ (y 0) (x 1)).trans ?_)
  refine Finset.sum_congr rfl fun d _ => congrArg (h (ix2 (y 0) d) * ·) ?_
  refine View.ld_unit_apply_of w _ _ _ _ _ fun a => ?_
  fin_cases a
  · show (d : ℕ) = 0 + (d : ℕ); omega
  · exact h1

section Block

variable (c : Dev nD) (i : grid0.Coords) (arg1 : Memref sig .tc .vmem S1024x1024 .bf16) (harg1 : arg1.IsWhole)
  (arg2 : Memref sig .tc .vmem S1024x3072 .bf16) (harg2 : arg2.IsWhole) (arg3 : Memref sig .tc .vmem S1024x3072 .f32) (harg3 : arg3.IsWhole)
  (h : Vec Ideal S1024x1024 .bf16) (w : Vec Ideal S1024x3072 .bf16)

/-- The rows, loaded whole, and a tile of the columns. -/
theorem load_rows (hb) : View.readAt (Elt Ideal) arg1.view (Rect.unit (s := S1024x1024) ![0, 0] S1024x1024.size hb).toLoadRect (harg1.unread h) = h :=
  (View.readAt_eq_ld arg1.view (harg1.unread h) _).trans ((View.ld_unit_lit hb _ (by decide)).trans (harg1.read_unread h))

theorem load_cols (off : ℕ) (hb) : View.readAt (Elt Ideal) arg2.view (Rect.unit (s := S1024x3072) ![0, off] S1024x512.size hb).toLoadRect (harg2.unread w)
    = View.ld w (Rect.unit (s := S1024x3072) ![0, off] S1024x512.size hb) :=
  (View.readAt_eq_ld arg2.view (harg2.unread w) _).trans (congrArg (View.ld · _) (harg2.read_unread w))

theorem pieces : (kernelRun0_A (F := Ideal) c i arg1 harg1 arg2 harg2 arg3 harg3 h w).1
    = [⟨Rect.unit (s := S1024x3072) ![0, 2560] S1024x512.size inb_S1024x3072_S1024x512_0_2560, k0_pay1 (View.readAt (Elt Ideal) arg1.view (Rect.unit (s := S1024x1024) ![0, 0] S1024x1024.size inb_S1024x1024_S1024x1024_0_0).toLoadRect (harg1.unread h))
          (View.readAt (Elt Ideal) arg2.view (Rect.unit (s := S1024x3072) ![0, 2560] S1024x512.size inb_S1024x3072_S1024x512_0_2560).toLoadRect (harg2.unread w))⟩,
        ⟨Rect.unit (s := S1024x3072) ![0, 2048] S1024x512.size inb_S1024x3072_S1024x512_0_2048, k0_pay6 (View.readAt (Elt Ideal) arg1.view (Rect.unit (s := S1024x1024) ![0, 0] S1024x1024.size inb_S1024x1024_S1024x1024_0_0).toLoadRect (harg1.unread h))
          (View.readAt (Elt Ideal) arg2.view (Rect.unit (s := S1024x3072) ![0, 2048] S1024x512.size inb_S1024x3072_S1024x512_0_2048).toLoadRect (harg2.unread w))⟩,
        ⟨Rect.unit (s := S1024x3072) ![0, 1536] S1024x512.size inb_S1024x3072_S1024x512_0_1536, k0_pay5 (View.readAt (Elt Ideal) arg1.view (Rect.unit (s := S1024x1024) ![0, 0] S1024x1024.size inb_S1024x1024_S1024x1024_0_0).toLoadRect (harg1.unread h))
          (View.readAt (Elt Ideal) arg2.view (Rect.unit (s := S1024x3072) ![0, 1536] S1024x512.size inb_S1024x3072_S1024x512_0_1536).toLoadRect (harg2.unread w))⟩,
        ⟨Rect.unit (s := S1024x3072) ![0, 1024] S1024x512.size inb_S1024x3072_S1024x512_0_1024, k0_pay4 (View.readAt (Elt Ideal) arg1.view (Rect.unit (s := S1024x1024) ![0, 0] S1024x1024.size inb_S1024x1024_S1024x1024_0_0).toLoadRect (harg1.unread h))
          (View.readAt (Elt Ideal) arg2.view (Rect.unit (s := S1024x3072) ![0, 1024] S1024x512.size inb_S1024x3072_S1024x512_0_1024).toLoadRect (harg2.unread w))⟩,
        ⟨Rect.unit (s := S1024x3072) ![0, 512] S1024x512.size inb_S1024x3072_S1024x512_0_512, k0_pay3 (View.readAt (Elt Ideal) arg1.view (Rect.unit (s := S1024x1024) ![0, 0] S1024x1024.size inb_S1024x1024_S1024x1024_0_0).toLoadRect (harg1.unread h))
          (View.readAt (Elt Ideal) arg2.view (Rect.unit (s := S1024x3072) ![0, 512] S1024x512.size inb_S1024x3072_S1024x512_0_512).toLoadRect (harg2.unread w))⟩,
        ⟨Rect.unit (s := S1024x3072) ![0, 0] S1024x512.size inb_S1024x3072_S1024x512_0_0, k0_pay2 (View.readAt (Elt Ideal) arg1.view (Rect.unit (s := S1024x1024) ![0, 0] S1024x1024.size inb_S1024x1024_S1024x1024_0_0).toLoadRect (harg1.unread h))
          (View.readAt (Elt Ideal) arg2.view (Rect.unit (s := S1024x3072) ![0, 0] S1024x512.size inb_S1024x3072_S1024x512_0_0).toLoadRect (harg2.unread w))⟩] := rfl

/-- The tiles that a grid point stores, last first. -/
def tiles : List (View.Piece (Elt Ideal) S1024x3072 .f32) :=
    [⟨Rect.unit (s := S1024x3072) ![0, 2560] S1024x512.size inb_S1024x3072_S1024x512_0_2560, k0_pay1 (F := Ideal) h (View.ld w (Rect.unit (s := S1024x3072) ![0, 2560] S1024x512.size inb_S1024x3072_S1024x512_0_2560))⟩,
        ⟨Rect.unit (s := S1024x3072) ![0, 2048] S1024x512.size inb_S1024x3072_S1024x512_0_2048, k0_pay6 (F := Ideal) h (View.ld w (Rect.unit (s := S1024x3072) ![0, 2048] S1024x512.size inb_S1024x3072_S1024x512_0_2048))⟩,
        ⟨Rect.unit (s := S1024x3072) ![0, 1536] S1024x512.size inb_S1024x3072_S1024x512_0_1536, k0_pay5 (F := Ideal) h (View.ld w (Rect.unit (s := S1024x3072) ![0, 1536] S1024x512.size inb_S1024x3072_S1024x512_0_1536))⟩,
        ⟨Rect.unit (s := S1024x3072) ![0, 1024] S1024x512.size inb_S1024x3072_S1024x512_0_1024, k0_pay4 (F := Ideal) h (View.ld w (Rect.unit (s := S1024x3072) ![0, 1024] S1024x512.size inb_S1024x3072_S1024x512_0_1024))⟩,
        ⟨Rect.unit (s := S1024x3072) ![0, 512] S1024x512.size inb_S1024x3072_S1024x512_0_512, k0_pay3 (F := Ideal) h (View.ld w (Rect.unit (s := S1024x3072) ![0, 512] S1024x512.size inb_S1024x3072_S1024x512_0_512))⟩,
        ⟨Rect.unit (s := S1024x3072) ![0, 0] S1024x512.size inb_S1024x3072_S1024x512_0_0, k0_pay2 (F := Ideal) h (View.ld w (Rect.unit (s := S1024x3072) ![0, 0] S1024x512.size inb_S1024x3072_S1024x512_0_0))⟩]

theorem stores : (kernelRun0_A (F := Ideal) c i arg1 harg1 arg2 harg2 arg3 harg3 h w).1 = tiles h w := by
  rw [pieces, load_rows, load_cols, load_cols, load_cols, load_cols, load_cols, load_cols]
  rfl

omit c i arg1 arg2 arg3 in
theorem tiles_at (y : S1024x3072.Idx) : View.canon (tiles h w) y = ∑ d : Fin 1024, h (ix2 (y 0) d) * w (ix2 d (y 1)) := by
  unfold tiles
  canon_tiles x h
  · exact tile_at h w 2560 _ x y h0 h1
  · exact tile_at h w 2048 _ x y h0 h1
  · exact tile_at h w 1536 _ x y h0 h1
  · exact tile_at h w 1024 _ x y h0 h1
  · exact tile_at h w 512 _ x y h0 h1
  · exact tile_at h w 0 _ x y h0 (h1.trans (Nat.zero_add _).symm)

theorem block_at (y : S1024x3072.Idx) :
    out0_A_2 (F := Ideal) c i arg1 harg1 arg2 harg2 arg3 harg3 h w y = ∑ d : Fin 1024, h (ix2 (y 0) d) * w (ix2 d (y 1)) := by
  unfold out0_A_2
  rw [View.read_writes_eq_canon _ _ _ (cover0_A_2 c i arg1 harg1 arg2 harg2 arg3 harg3 h w), stores]
  exact tiles_at h w y

end Block

theorem idx0 : ∀ t : Fin cfg0.N, win0_0.index t = ![(t : ℕ), 0] := by decide +kernel
theorem idx1 : ∀ t : Fin cfg0.N, win0_1.index t = ![0, 0] := by decide +kernel
theorem idx2 : ∀ t : Fin cfg0.N, win0_2.index t = ![(t : ℕ), 0] := by decide +kernel

/-- Row `a` of the rows of grid point `t`. -/
def row (t : Fin cfg0.N) (a : Fin 1024) : Fin 8192 := ⟨(t : ℕ) * 1024 + (a : ℕ), by have := lt_of_lt_of_eq t.isLt N_0; omega⟩

/-- Column `c` of the convolution's columns. -/
def col (c : Fin 3072) : Fin 10240 := ⟨(c : ℕ), by omega⟩

theorem blk0 (v : (⟨S8192x1024, .bf16⟩ : BufTy).Contents (Elt Ideal)) (t : Fin cfg0.N) (a : Fin 1024) (d : Fin 1024) :
    (((cfg0.win 0).blk t).view.read (Elt Ideal) v) (ix2 a d) = v (ix2 (row t a) d) := by
  blk_ext [idx0 t]
  rfl

theorem blk1 (v : (⟨S1024x10240, .bf16⟩ : BufTy).Contents (Elt Ideal)) (t : Fin cfg0.N) (j : ((cfg0.win 1).xblock (cfg0.grid.coords t)).Idx)
    (d : Fin 1024) (c : Fin 3072) (h0 : (j 0 : ℕ) = d) (h1 : (j 1 : ℕ) = c) :
    (((cfg0.win 1).blk t).view.read (Elt Ideal) v) j = v (ix2 d (col c)) := by
  blk_ext [idx1 t]
  exact h1

theorem emb2 (t : Fin cfg0.N) (y : S1024x3072.Idx) : ((cfg0.win 2).blk t).view.emb y = (ix2 (row t (y 0)) (y 1) : S8192x3072.Idx) := by
  blk_ext [idx2 t]
  rfl

/-- The product with the convolution's columns. -/
def product (h : S8192x1024.Idx → EReal) (w : S1024x10240.Idx → EReal) : (⟨S8192x3072, .f32⟩ : BufTy).Contents (Elt Ideal) :=
  fun y => ∑ d : Fin 1024, h (ix2 (y 0) d) * w (ix2 d (col (y 1)))

variable (m : (ℓ : Loc nD τ sig) → Buf (Elt Ideal) ℓ) (c : Dev nD)

/-- The rows and the columns of grid point `t`. -/
def rows (t : Fin cfg0.N) : Vec Ideal S1024x1024 .bf16 := iblk m c 0 t
def cols (t : Fin cfg0.N) : Vec Ideal S1024x3072 .bf16 := X0_1 m c t

/-- The whole product, from the launch contents. -/
def whole : (⟨S8192x3072, .f32⟩ : BufTy).Contents (Elt Ideal) :=
  product (m ((c.tc : Thread nD τ).loc main_arg0)) (m ((c.tc : Thread nD τ).loc main_arg1))

theorem rows_at (t : Fin cfg0.N) (a d : Fin 1024) : rows m c t (ix2 a d) = m ((c.tc : Thread nD τ).loc main_arg0) (ix2 (row t a) d) :=
  blk0 (V m c main_arg0) t a d

theorem cols_at (t : Fin cfg0.N) (d : Fin 1024) (k : Fin 3072) : cols m c t (ix2 d k) = m ((c.tc : Thread nD τ).loc main_arg1) (ix2 d (col k)) := by
  unfold cols X0_1 Pipeline.Window.fill
  rw [dif_pos (moved0_1 t _)]
  exact blk1 (V m c main_arg1) t _ d k rfl rfl

/-- What grid point `t` leaves. -/
def left (t : Fin cfg0.N) : Vec Ideal S1024x3072 .f32 := fun y => whole m c (ix2 (row t (y 0)) (y 1))

theorem after_eq (t : Fin cfg0.N) : (dats m 0 c).after 2 t = left m c t :=
  (after0_2 m c t).trans (funext fun y : S1024x3072.Idx => (block_at c (grid0.coords t) (ms0_0 t) (hs0_0 t) (ms0_1 t) (hs0_1 t) (ms0_2 t) (hs0_2 t) (rows m c t) (cols m c t) y).trans
    (Finset.sum_congr rfl fun d _ => congrArg₂ (· * ·) (rows_at m c t (y 0) d) (cols_at m c t d (y 1))))

theorem array : (dats m 0 c).arrAt 2 cfg0.N = whole m c := by
  refine (dats m 0 c).arrAt_eq_of_covers 2 _ (by decide +kernel) fun t hf y => ?_
  refine Eq.trans ?_ (congrArg (whole m c) (emb2 t y)).symm
  exact congrArg (cast _) (congrFun (after_eq m c t) ((cfg0.win 2).xinj (cfg0.grid.coords t) y))

end Cert.Kernel4Ideal.Array

end
-- ==== Proof.GateArray.lean ====
/- The projection onto the gate's columns: what a grid point stores is the product of its rows with those columns of the
   weight, and the points' blocks make up the array. -/
module

public import proofs.«01_k».proof.Proof.Gen.Kernel5Ideal.Value
public import Idealize.ShloMosaic.Lib.Pointwise
public import Idealize.ShloMosaic.Lib.WholeRead
public import Idealize.ShloMosaic.Lib.Pipeline.ValueKit
public import Idealize.ShloMosaic.Lib.Claim

@[expose] public section

set_option maxRecDepth 16384

noncomputable section

namespace Cert.Kernel5Ideal.Array

open Cert.Kernel5Ideal Cert.Kernel5Ideal.Gen Idealize.ShloMosaic Idealize.ShloMosaic.TcCoe Idealize.ShloMosaic.StableHlo

theorem product_at (h : FVec Ideal S1024x1024 .bf16) (w : FVec Ideal S1024x512 .bf16) (t : Fin 1024) (c : Fin 512) :
    matmul dot_S1024x1024_S1024x512_S1024x512_1_0_0_1_n_n none h w (constant (F := Ideal) S1024x512 .f32 0x00000000#32) (ix2 t c)
      = ∑ d : Fin 1024, h (ix2 t d) * w (ix2 d c) := by
  pointwise

/-- A tile of the product: the columns from `off` on. -/
theorem tile_at (h : Vec Ideal S1024x1024 .bf16) (w : Vec Ideal S1024x2560 .bf16) (off : ℕ) (hb) (x : S1024x512.Idx) (y : S1024x2560.Idx)
    (h0 : (y 0 : ℕ) = (x 0 : ℕ)) (h1 : (y 1 : ℕ) = off + (x 1 : ℕ)) :
    matmul (φ₁ := .bf16) (φ₂ := .bf16) dot_S1024x1024_S1024x512_S1024x512_1_0_0_1_n_n none h (View.ld w (Rect.unit (s := S1024x2560) ![0, off] S1024x512.size hb))
        (constant (F := Ideal) S1024x512 .f32 0x00000000#32) x
      = ∑ d : Fin 1024, h (ix2 (y 0) d) * w (ix2 d (y 1)) := by
  have e : x = ix2 (y 0) (x 1) := (ix2_eta x).symm.trans (congrArg (ix2 · (x 1)) (Fin.ext h0.symm))
  refine (congrArg _ e).trans ((product_at _ _ (y 0) (x 1)).trans ?_)
  refine Finset.sum_congr rfl fun d _ => congrArg (h (ix2 (y 0) d) * ·) ?_
  refine View.ld_unit_apply_of w _ _ _ _ _ fun a => ?_
  fin_cases a
  · show (d : ℕ) = 0 + (d : ℕ); omega
  · exact h1

theorem block_at (h : Vec Ideal S1024x1024 .bf16) (w : Vec Ideal S1024x2560 .bf16) (y : S1024x2560.Idx) :
    out0_2 h w y = ∑ d : Fin 1024, h (ix2 (y 0) d) * w (ix2 d (y 1)) := by
  unfold out0_2
  canon_tiles x h
  all_goals open_payloads
  · exact tile_at h w 2048 _ x y h0 h1
  · exact tile_at h w 1536 _ x y h0 h1
  · exact tile_at h w 1024 _ x y h0 h1
  · exact tile_at h w 512 _ x y h0 h1
  · exact tile_at h w 0 _ x y h0 (h1.trans (Nat.zero_add _).symm)

theorem idx0 : ∀ t : Fin cfg0.N, win0_0.index t = ![(t : ℕ), 0] := by decide +kernel
theorem idx1 : ∀ t : Fin cfg0.N, win0_1.index t = ![0, 3] := by decide +kernel
theorem idx2 : ∀ t : Fin cfg0.N, win0_2.index t = ![(t : ℕ), 0] := by decide +kernel

/-- Row `a` of the rows of grid point `t`. -/
def row (t : Fin cfg0.N) (a : Fin 1024) : Fin 8192 := ⟨(t : ℕ) * 1024 + (a : ℕ), by have := lt_of_lt_of_eq t.isLt N_0; omega⟩

/-- Column `c` of the gate's columns. -/
def col (c : Fin 2560) : Fin 10240 := ⟨3 * 2560 + (c : ℕ), by omega⟩

theorem blk0 (v : (⟨S8192x1024, .bf16⟩ : BufTy).Contents (Elt Ideal)) (t : Fin cfg0.N) (a : Fin 1024) (d : Fin 1024) :
    (((cfg0.win 0).blk t).view.read (Elt Ideal) v) (ix2 a d) = v (ix2 (row t a) d) := by
  blk_ext [idx0 t]
  rfl

theorem blk1 (v : (⟨S1024x10240, .bf16⟩ : BufTy).Contents (Elt Ideal)) (t : Fin cfg0.N) (d : Fin 1024) (c : Fin 2560) :
    (((cfg0.win 1).blk t).view.read (Elt Ideal) v) (ix2 d c) = v (ix2 d (col c)) := by
  blk_ext [idx1 t]
  rfl

theorem emb2 (t : Fin cfg0.N) (y : S1024x2560.Idx) : ((cfg0.win 2).blk t).view.emb y = (ix2 (row t (y 0)) (y 1) : S8192x2560.Idx) := by
  blk_ext [idx2 t]
  rfl

/-- The product with the gate's columns. -/
def product (h : S8192x1024.Idx → EReal) (w : S1024x10240.Idx → EReal) : (⟨S8192x2560, .f32⟩ : BufTy).Contents (Elt Ideal) :=
  fun y => ∑ d : Fin 1024, h (ix2 (y 0) d) * w (ix2 d (col (y 1)))

variable (m : (ℓ : Loc nD τ sig) → Buf (Elt Ideal) ℓ) (c : Dev nD)

/-- The rows and the columns of grid point `t`. -/
def rows (t : Fin cfg0.N) : Vec Ideal S1024x1024 .bf16 := iblk m c 0 t
def cols (t : Fin cfg0.N) : Vec Ideal S1024x2560 .bf16 := iblk m c 1 t

/-- The whole product, from the launch contents. -/
def whole : (⟨S8192x2560, .f32⟩ : BufTy).Contents (Elt Ideal) :=
  product (m ((c.tc : Thread nD τ).loc main_arg0)) (m ((c.tc : Thread nD τ).loc main_arg1))

theorem rows_at (t : Fin cfg0.N) (a d : Fin 1024) : rows m c t (ix2 a d) = m ((c.tc : Thread nD τ).loc main_arg0) (ix2 (row t a) d) :=
  blk0 (V m c main_arg0) t a d

theorem cols_at (t : Fin cfg0.N) (d : Fin 1024) (k : Fin 2560) : cols m c t (ix2 d k) = m ((c.tc : Thread nD τ).loc main_arg1) (ix2 d (col k)) :=
  blk1 (V m c main_arg1) t d k

/-- What grid point `t` leaves. -/
def left (t : Fin cfg0.N) : Vec Ideal S1024x2560 .f32 := fun y => whole m c (ix2 (row t (y 0)) (y 1))

theorem after_eq (t : Fin cfg0.N) : (dats m 0 c).after 2 t = left m c t :=
  (after0_2 m c t).trans (funext fun y : S1024x2560.Idx => (block_at (rows m c t) (cols m c t) y).trans
    (Finset.sum_congr rfl fun d _ => congrArg₂ (· * ·) (rows_at m c t (y 0) d) (cols_at m c t d (y 1))))

theorem array : (dats m 0 c).arrAt 2 cfg0.N = whole m c := by
  refine (dats m 0 c).arrAt_eq_of_covers 2 _ (by decide +kernel) fun t hf y => ?_
  refine Eq.trans ?_ (congrArg (whole m c) (emb2 t y)).symm
  exact congrArg (cast _) (congrFun (after_eq m c t) ((cfg0.win 2).xinj (cfg0.grid.coords t) y))

end Cert.Kernel5Ideal.Array

end
-- ==== Proof.ProjRead.lean ====
/- The references of the two forward calls of the projection read at an index: products with some of the weight's
   columns. -/
module

public import proofs.«01_k».proof.Proof.Gen.Reference4Ideal.Run
public import proofs.«01_k».proof.Proof.Gen.Reference5Ideal.Run
public import Idealize.ShloMosaic.Lib.Pointwise

@[expose] public section

set_option maxRecDepth 16384

noncomputable section

namespace Cert.Reference4Ideal.Read

open Cert.Reference4Ideal Cert.Reference4Ideal.Gen Idealize.ShloMosaic

variable (h : FVec Ideal S8192x1024 .bf16) (w : FVec Ideal S1024x10240 .bf16)

def product : FVec Ideal S8192x3072 .f32 :=
  extractStridedSlice S8192x3072 ![0, 0] (Host.dotGeneral dot_S8192x1024_S1024x10240_S8192x10240_1_0_0_1_n_n none
    (extf .f32 h bitsLt_bf16_f32) (extf .f32 w bitsLt_bf16_f32)) slices_S8192x10240_S8192x3072_0_0

theorem product_at (t : Fin 8192) (c : Fin 3072) (k : Fin 10240) (hk : (k : ℕ) = 0 + (c : ℕ)) :
    product h w (ix2 t c) = ∑ d : Fin 1024, h (ix2 t d) * w (ix2 d k) := by
  rw [show k = ⟨0 + (c : ℕ), by omega⟩ from Fin.ext hk]
  unfold product
  pointwise

end Cert.Reference4Ideal.Read

namespace Cert.Reference5Ideal.Read

open Cert.Reference5Ideal Cert.Reference5Ideal.Gen Idealize.ShloMosaic

variable (h : FVec Ideal S8192x1024 .bf16) (w : FVec Ideal S1024x10240 .bf16)

def product : FVec Ideal S8192x2560 .f32 :=
  extractStridedSlice S8192x2560 ![0, 7680] (Host.dotGeneral dot_S8192x1024_S1024x10240_S8192x10240_1_0_0_1_n_n none
    (extf .f32 h bitsLt_bf16_f32) (extf .f32 w bitsLt_bf16_f32)) slices_S8192x10240_S8192x2560_0_7680

theorem product_at (t : Fin 8192) (c : Fin 2560) (k : Fin 10240) (hk : (k : ℕ) = 7680 + (c : ℕ)) :
    product h w (ix2 t c) = ∑ d : Fin 1024, h (ix2 t d) * w (ix2 d k) := by
  rw [show k = ⟨7680 + (c : ℕ), by omega⟩ from Fin.ext hk]
  unfold product
  pointwise

end Cert.Reference5Ideal.Read

end
-- ==== Proof.QkvEntry.lean ====
/- The coefficients that the projection onto the queries', keys' and values' columns turns by, read at an index. -/
module

public import proofs.«01_k».proof.Proof.Gen.Kernel6Ideal.Value
public import Idealize.ShloMosaic.Lib.Pointwise
public import Idealize.ShloMosaic.Lib.Claim

@[expose] public section

set_option maxRecDepth 16384

noncomputable section

namespace Cert.Kernel6Ideal.Entry

open Cert.Kernel6Ideal Cert.Kernel6Ideal.Gen Idealize.ShloMosaic Idealize.ShloMosaic.TcCoe Idealize.ShloMosaic.StableHlo

/-- The angles of every position. -/
def angle (p : IVec S8192 32) : FVec Ideal S8192x8 .f32 :=
  mulf (broadcastInDim S8192x8 ![0, 1] bcast_S8192x1_S8192x8_0_1 (broadcastInDim S8192x1 ![0] bcast_S8192_S8192x1_0 (sitofp .f32 p)))
    (broadcastInDim S8192x8 ![0, 1] bcast_S1x8_S8192x8_0_1 (broadcastInDim S1x8 ![1] bcast_S8_S1x8_1
      (Host.powf (broadcastInDim S8 ![] bcast_S_S8 (constant (F := Ideal) S_ .f32 0x48F42400#32))
        (Host.negf (Host.divf (mulf (sitofp .f32 (iotaInDim S8 32 0)) (broadcastInDim S8 ![] bcast_S_S8 (constant (F := Ideal) S_ .f32 0x40000000#32)))
          (broadcastInDim S8 ![] bcast_S_S8 (constant (F := Ideal) S_ .f32 0x41800000#32)))))))

/-- A plane's coefficients: the first eight lanes of each half, the next eight, and the rest. -/
def spread (a b : FVec Ideal S8192x8 .f32) (r : FVec Ideal S8192x48 .f32) : FVec Ideal S8192x128 .f32 :=
  shapeCast S8192x128 (broadcastInDim S1x8192x2x64 ![0, 1, 2, 3]
    bcast_S1x8192x1x64_S1x8192x2x64_0_1_2_3 (shapeCast S1x8192x1x64 (concatenate S8192x64 1 [⟨S8192x8, a⟩, ⟨S8192x8, b⟩, ⟨S8192x48, r⟩]
      concatenates_S8192x8_S8192x8_S8192x48_S8192x64_d1) shapeCasts_S8192x64_S1x8192x1x64)) shapeCasts_S1x8192x2x64_S8192x128

/-- The same, as one plane of three. -/
def plane (a b : FVec Ideal S8192x8 .f32) (r : FVec Ideal S8192x48 .f32) : FVec Ideal S1x8192x128 .f32 :=
  broadcastInDim S1x8192x128 ![1, 2] bcast_S8192x128_S1x8192x128_1_2 (spread a b r)

/-- Zero in the first lanes, zero in the others. -/
def none8 : FVec Ideal S8192x8 .f32 := broadcastInDim S8192x8 ![] bcast_S_S8192x8 (constant (F := Ideal) S_ .f32 0x00000000#32)
def none48 : FVec Ideal S8192x48 .f32 := broadcastInDim S8192x48 ![] bcast_S_S8192x48 (constant (F := Ideal) S_ .f32 0x00000000#32)

/-- One in the others. -/
def one48 : FVec Ideal S8192x48 .f32 := broadcastInDim S8192x48 ![] bcast_S_S8192x48 (constant (F := Ideal) S_ .f32 0x3F800000#32)

/-- The coefficients of the cosines `C` and the sines `S`. -/
def planes (C S : FVec Ideal S8192x8 .f32) : FVec Ideal S3x8192x128 .f32 :=
  concatenate S3x8192x128 0 [⟨S1x8192x128, plane C C one48⟩, ⟨S1x8192x128, plane (Host.negf S) none8 none48⟩, ⟨S1x8192x128, plane none8 S none48⟩]
    concatenates_S1x8192x128_S1x8192x128_S1x8192x128_S3x8192x128_d0

section Lines

variable (σ : Valuation τ sig (Elt Ideal))

/-- The lines up to the cosines and sines; those of each plane; and the last. -/
def start : List (HloOp τ sig (Elt Ideal)) := (hostOps0 (F := Ideal)).take 23
def first : List (HloOp τ sig (Elt Ideal)) := ((hostOps0 (F := Ideal)).drop 23).take 7
def second : List (HloOp τ sig (Elt Ideal)) := ((hostOps0 (F := Ideal)).drop 30).take 6
def third : List (HloOp τ sig (Elt Ideal)) := ((hostOps0 (F := Ideal)).drop 36).take 7
def last : List (HloOp τ sig (Elt Ideal)) := (hostOps0 (F := Ideal)).drop 43

theorem lines : after hostOps0 σ = after last (after third (after second (after first (after start σ)))) := rfl

theorem start_cos : after start σ (Proc.tc.devRef main_v14) = Host.cos (angle (σ (Proc.tc.devRef main_arg1))) := by
  dsimp only [start, hostOps0, List.take, List.drop]
  after_results_simp
  rfl

theorem start_sin : after start σ (Proc.tc.devRef main_v15) = Host.sin (angle (σ (Proc.tc.devRef main_arg1))) := by
  dsimp only [start, hostOps0, List.take, List.drop]
  after_results_simp
  rfl

theorem start_none : after start σ (Proc.tc.devRef main_v16) = none8 := by
  dsimp only [start, hostOps0, List.take, List.drop]
  after_results_simp
  rfl

theorem start_one : after start σ (Proc.tc.devRef main_v17) = one48 := by
  dsimp only [start, hostOps0, List.take, List.drop]
  after_results_simp
  rfl

theorem first_plane : after first σ (Proc.tc.devRef main_v21) = spread (σ (Proc.tc.devRef main_v14)) (σ (Proc.tc.devRef main_v14)) (σ (Proc.tc.devRef main_v17)) := by
  dsimp only [first, hostOps0, List.take, List.drop]
  after_results_simp
  rfl

theorem first_neg : after first σ (Proc.tc.devRef main_v22) = (Host.negf (σ (Proc.tc.devRef main_v15) : FVec Ideal S8192x8 .f32) : FVec Ideal S8192x8 .f32) := by
  dsimp only [first, hostOps0, List.take, List.drop]
  after_results_simp

theorem first_none : after first σ (Proc.tc.devRef main_v23) = none48 := by
  dsimp only [first, hostOps0, List.take, List.drop]
  after_results_simp
  rfl

theorem first_15 : after first σ (Proc.tc.devRef main_v15) = σ (Proc.tc.devRef main_v15) := by
  dsimp only [first, hostOps0, List.take, List.drop]
  after_results_simp

theorem first_16 : after first σ (Proc.tc.devRef main_v16) = σ (Proc.tc.devRef main_v16) := by
  dsimp only [first, hostOps0, List.take, List.drop]
  after_results_simp

theorem second_plane : after second σ (Proc.tc.devRef main_v27) = spread (σ (Proc.tc.devRef main_v22)) (σ (Proc.tc.devRef main_v16)) (σ (Proc.tc.devRef main_v23)) := by
  dsimp only [second, hostOps0, List.take, List.drop]
  after_results_simp
  rfl

theorem second_21 : after second σ (Proc.tc.devRef main_v21) = σ (Proc.tc.devRef main_v21) := by
  dsimp only [second, hostOps0, List.take, List.drop]
  after_results_simp

theorem second_15 : after second σ (Proc.tc.devRef main_v15) = σ (Proc.tc.devRef main_v15) := by
  dsimp only [second, hostOps0, List.take, List.drop]
  after_results_simp

theorem second_16 : after second σ (Proc.tc.devRef main_v16) = σ (Proc.tc.devRef main_v16) := by
  dsimp only [second, hostOps0, List.take, List.drop]
  after_results_simp

theorem second_none : after second σ (Proc.tc.devRef main_v28) = none48 := by
  dsimp only [second, hostOps0, List.take, List.drop]
  after_results_simp
  rfl

theorem third_plane : after third σ (Proc.tc.devRef main_v35) = plane (σ (Proc.tc.devRef main_v16)) (σ (Proc.tc.devRef main_v15)) (σ (Proc.tc.devRef main_v28)) := by
  dsimp only [third, hostOps0, List.take, List.drop]
  after_results_simp
  rfl

theorem third_33 : after third σ (Proc.tc.devRef main_v33) = (broadcastInDim S1x8192x128 ![1, 2] bcast_S8192x128_S1x8192x128_1_2 (σ (Proc.tc.devRef main_v21) : FVec Ideal S8192x128 .f32) : FVec Ideal S1x8192x128 .f32) := by
  dsimp only [third, hostOps0, List.take, List.drop]
  after_results_simp

theorem third_34 : after third σ (Proc.tc.devRef main_v34) = (broadcastInDim S1x8192x128 ![1, 2] bcast_S8192x128_S1x8192x128_1_2 (σ (Proc.tc.devRef main_v27) : FVec Ideal S8192x128 .f32) : FVec Ideal S1x8192x128 .f32) := by
  dsimp only [third, hostOps0, List.take, List.drop]
  after_results_simp

theorem last_at : after last σ (Proc.tc.devRef main_v36) = concatenate S3x8192x128 0 [⟨S1x8192x128, (σ (Proc.tc.devRef main_v33) : S1x8192x128.Idx → EReal)⟩,
      ⟨S1x8192x128, (σ (Proc.tc.devRef main_v34) : S1x8192x128.Idx → EReal)⟩, ⟨S1x8192x128, (σ (Proc.tc.devRef main_v35) : S1x8192x128.Idx → EReal)⟩]
    concatenates_S1x8192x128_S1x8192x128_S1x8192x128_S3x8192x128_d0 := by
  dsimp only [last, hostOps0, List.drop]
  after_results_simp
  rfl

theorem coefficients : (after hostOps0 σ (Proc.tc.devRef main_v36) : S3x8192x128.Idx → EReal)
      = planes (Host.cos (angle (σ (Proc.tc.devRef main_arg1)))) (Host.sin (angle (σ (Proc.tc.devRef main_arg1)))) := by
  rw [lines, last_at, third_33, third_34, third_plane, second_plane, second_21, second_15, second_16, second_none, first_plane, first_neg,
    first_none, first_15, first_16, start_cos, start_sin, start_none, start_one]
  rfl

end Lines

section Lanes

variable (a b : FVec Ideal S8192x8 .f32) (r : FVec Ideal S8192x48 .f32) (z : Fin 1) (t : Fin 8192) (l : Fin 128) (e : Fin 8)

variable {a b r}
theorem plane_first (h : (l : ℕ) % 64 = (e : ℕ)) : plane a b r (ix3 z t l) = a (ix2 t e) := by
  unfold plane spread
  pointwise
  rw [dif_pos (by omega)]
  exact congrArg (fun q => a (ix2 t q)) (Fin.ext (by show (l : ℕ) % 64 = e; omega))

theorem plane_second (h : (l : ℕ) % 64 = 8 + (e : ℕ)) : plane a b r (ix3 z t l) = b (ix2 t e) := by
  unfold plane spread
  pointwise
  rw [dif_neg (by omega), dif_pos (by omega)]
  exact congrArg (fun q => b (ix2 t q)) (Fin.ext (by show (l : ℕ) % 64 - 8 = e; omega))

theorem plane_rest (e : Fin 48) (h : (l : ℕ) % 64 = 16 + (e : ℕ)) : plane a b r (ix3 z t l) = r (ix2 t e) := by
  unfold plane spread
  pointwise
  rw [dif_neg (by omega), dif_neg (by omega)]
  exact congrArg (fun q => r (ix2 t q)) (Fin.ext (by show (l : ℕ) % 64 - 8 - 8 = e; omega))

end Lanes

section Planes

variable (C S : FVec Ideal S8192x8 .f32) (t : Fin 8192) (l : Fin 128)

theorem planes_0 : planes C S (ix3 0 t l)
    = plane C C one48 (ix3 0 t l) := by
  unfold planes
  pointwise

theorem planes_1 : planes C S (ix3 1 t l) = plane (Host.negf S) none8 none48 (ix3 0 t l) := by
  unfold planes
  pointwise

theorem planes_2 : planes C S (ix3 2 t l) = plane none8 S none48 (ix3 0 t l) := by
  unfold planes
  pointwise

variable {C S t l}

/-- What the turn makes of a first lane, of a second, and of the others. -/
theorem turn_first (e : Fin 8) (h : (l : ℕ) % 64 = (e : ℕ)) (u v w : EReal) :
    u * planes C S (ix3 0 t l) + v * planes C S (ix3 1 t l) + w * planes C S (ix3 2 t l) = u * C (ix2 t e) - v * S (ix2 t e) := by
  rw [planes_0, planes_1, planes_2, plane_first 0 t l e h, plane_first 0 t l e h, plane_first 0 t l e h]
  unfold none8
  pointwise
  rw [mul_zero, add_zero, mul_neg, sub_eq_add_neg]

theorem turn_second (e : Fin 8) (h : (l : ℕ) % 64 = 8 + (e : ℕ)) (u v w : EReal) :
    u * planes C S (ix3 0 t l) + v * planes C S (ix3 1 t l) + w * planes C S (ix3 2 t l) = u * C (ix2 t e) + w * S (ix2 t e) := by
  rw [planes_0, planes_1, planes_2, plane_second 0 t l e h, plane_second 0 t l e h, plane_second 0 t l e h]
  unfold none8
  pointwise
  rw [mul_zero, add_zero]

theorem turn_rest (e : Fin 48) (h : (l : ℕ) % 64 = 16 + (e : ℕ)) (u v w : EReal) :
    u * planes C S (ix3 0 t l) + v * planes C S (ix3 1 t l) + w * planes C S (ix3 2 t l) = u := by
  rw [planes_0, planes_1, planes_2, plane_rest 0 t l e h, plane_rest 0 t l e h, plane_rest 0 t l e h]
  unfold none48 one48
  pointwise
  rw [mul_zero, mul_zero, add_zero, add_zero]

end Planes

end Cert.Kernel6Ideal.Entry

end
-- ==== Proof.QkvArray.lean ====
/- The projection onto the queries', keys' and values' columns: what a grid point stores is the product of its rows with
   those columns, the queries and keys turned by the coefficients; and the points' blocks make up the array. -/
module

public import proofs.«01_k».proof.Proof.QkvEntry
public import Idealize.ShloMosaic.Lib.Pointwise
public import Idealize.ShloMosaic.Lib.WholeRead
public import Idealize.ShloMosaic.Lib.ValueLayout
public import Idealize.ShloMosaic.Lib.KernelVsHost
public import Idealize.ShloMosaic.Lib.Pipeline.ValueKit
public import Idealize.ShloMosaic.Lib.Claim

@[expose] public section

set_option maxRecDepth 16384

noncomputable section

namespace Cert.Kernel6Ideal.Array

open Cert.Kernel6Ideal Cert.Kernel6Ideal.Gen Idealize.ShloMosaic Idealize.ShloMosaic.TcCoe Idealize.ShloMosaic.StableHlo

/-- A tile of the product: 128 of its columns, from `off` on. -/
def part (h : Vec Ideal S1024x1024 .bf16) (w : Vec Ideal S1024x512 .bf16) (off : ℕ) (hs : S1024x512.Slices ![0, off] S1024x128) : FVec Ideal S1024x128 .f32 :=
  extractStridedSlice S1024x128 ![0, off] (matmul (φ₁ := .bf16) (φ₂ := .bf16) dot_S1024x1024_S1024x512_S1024x512_1_0_0_1_n_n none h w (constant (F := Ideal) S1024x512 .f32 0x00000000#32)) hs

/-- A tile of the block from its values. -/
def tile (v : FVec Ideal S1024x128 .f32) : Vec Ideal S1x1x1024x128 .bf16 :=
  shapeCast S1x1x1024x128 (shapeCast S1x1024x128 (truncf .bf16 v bitsLt_bf16_f32) shapeCasts_S1024x128_S1x1024x128) shapeCasts_S1x1024x128_S1x1x1024x128

/-- The values `v` turned by the coefficients `a`, `b`, `c`: each lane's own, and those of the lanes eight after and eight before it. -/
def turned (v : FVec Ideal S1024x128 .f32) (a b c : Vec Ideal S1024x128 .f32) : FVec Ideal S1024x128 .f32 :=
  addf (addf (mulf v (shapeCast S1024x128 a shapeCasts_S1024x128_S1024x128))
      (mulf (dynamicRotate 1 120#32 none v rotates_S1024x128_d1) (shapeCast S1024x128 b shapeCasts_S1024x128_S1024x128)))
    (mulf (dynamicRotate 1 8#32 none v rotates_S1024x128_d1) (shapeCast S1024x128 c shapeCasts_S1024x128_S1024x128))

section Block

variable (c : Dev nD) (i : grid0.Coords) (arg1 : Memref sig .tc .vmem S2048x1024 .bf16) (harg1 : arg1.IsWhole)
  (arg2 : Memref sig .tc .vmem S3x2048x128 .f32) (harg2 : arg2.IsWhole) (arg3 : Memref sig .tc .vmem S1024x512 .bf16) (harg3 : arg3.IsWhole)
  (arg4 : Memref sig .tc .vmem S1024x512 .bf16) (harg4 : arg4.IsWhole) (arg5 : Memref sig .tc .vmem S1024x512 .bf16) (harg5 : arg5.IsWhole)
  (arg6 : Memref sig .tc .vmem S3x1x2048x512 .bf16) (harg6 : arg6.IsWhole) (arg7 : Memref sig .tc .vmem S2x8x1024x128 .f32) (harg7 : arg7.IsWhole)
  (x0 : Vec Ideal S2048x1024 .bf16) (x1 : Vec Ideal S3x2048x128 .f32) (x2 x3 x4 : Vec Ideal S1024x512 .bf16)

/-- Half of the rows, from `off` on, as loaded. -/
def half (off : ℕ) (hb : ∀ a, (![off, 0] : Fin 2 → ℕ) a + S1024x1024.size a ≤ S2048x1024.size a) : Vec Ideal S1024x1024 .bf16 :=
  View.readAt (Elt Ideal) arg1.view (Rect.unit (s := S2048x1024) ![off, 0] S1024x1024.size hb).toLoadRect (harg1.unread x0)

/-- The weight's columns, as loaded. -/
def weight (x : Vec Ideal S1024x512 .bf16) : Vec Ideal S1024x512 .bf16 :=
  View.readAt (Elt Ideal) arg3.view (Rect.unit (s := S1024x512) ![0, 0] S1024x512.size inb_S1024x512_S1024x512_0_0).toLoadRect (harg3.unread x)

/-- Plane `k` of the coefficients, from row `off` on, as loaded. -/
def coef (k off : ℕ) (hk : ∀ a, (![k, 0, 0] : Fin 3 → ℕ) a + S1x2048x128.size a ≤ S3x2048x128.size a)
    (hb : ∀ a, (![off, 0] : Fin 2 → ℕ) a + S1024x128.size a ≤ S2048x128.size a) : Vec Ideal S1024x128 .f32 :=
  LoadRect.valAlong (LoadRect.numel_consLift (Rect.unit (s := S2048x128) ![off, 0] S1024x128.size hb).toLoadRect ![1, 2048, 128] (by decide) (by decide))
    (View.readAt (Elt Ideal) arg2.view ((Rect.unit (s := S3x2048x128) ![k, 0, 0] S1x2048x128.size hk).withinL
      ((Rect.unit (s := S2048x128) ![off, 0] S1024x128.size hb).toLoadRect.consLift ![1, 2048, 128] (by decide) (by decide)) (fun _ => rfl)) (harg2.unread x1))

/-- The tiles that a grid point stores, last first. -/
def tiles : List (View.Piece (Elt Ideal) S3x1x2048x512 .bf16) :=
    [⟨Rect.unit (s := S3x1x2048x512) ![2, 0, 1024, 384] S1x1x1024x128.size inb_S3x1x2048x512_S1x1x1024x128_2_0_1024_384,
        tile (part (half arg1 harg1 x0 1024 inb_S2048x1024_S1024x1024_1024_0) (weight arg5 harg5 x4) 384 slices_S1024x512_o0_384_S1024x128)⟩,
      ⟨Rect.unit (s := S3x1x2048x512) ![2, 0, 1024, 256] S1x1x1024x128.size inb_S3x1x2048x512_S1x1x1024x128_2_0_1024_256,
        tile (part (half arg1 harg1 x0 1024 inb_S2048x1024_S1024x1024_1024_0) (weight arg5 harg5 x4) 256 slices_S1024x512_o0_256_S1024x128)⟩,
      ⟨Rect.unit (s := S3x1x2048x512) ![2, 0, 1024, 128] S1x1x1024x128.size inb_S3x1x2048x512_S1x1x1024x128_2_0_1024_128,
        tile (part (half arg1 harg1 x0 1024 inb_S2048x1024_S1024x1024_1024_0) (weight arg5 harg5 x4) 128 slices_S1024x512_o0_128_S1024x128)⟩,
      ⟨Rect.unit (s := S3x1x2048x512) ![2, 0, 1024, 0] S1x1x1024x128.size inb_S3x1x2048x512_S1x1x1024x128_2_0_1024_0,
        tile (part (half arg1 harg1 x0 1024 inb_S2048x1024_S1024x1024_1024_0) (weight arg5 harg5 x4) 0 slices_S1024x512_o0_0_S1024x128)⟩,
      ⟨Rect.unit (s := S3x1x2048x512) ![2, 0, 0, 384] S1x1x1024x128.size inb_S3x1x2048x512_S1x1x1024x128_2_0_0_384,
        tile (part (half arg1 harg1 x0 0 inb_S2048x1024_S1024x1024_0_0) (weight arg5 harg5 x4) 384 slices_S1024x512_o0_384_S1024x128)⟩,
      ⟨Rect.unit (s := S3x1x2048x512) ![2, 0, 0, 256] S1x1x1024x128.size inb_S3x1x2048x512_S1x1x1024x128_2_0_0_256,
        tile (part (half arg1 harg1 x0 0 inb_S2048x1024_S1024x1024_0_0) (weight arg5 harg5 x4) 256 slices_S1024x512_o0_256_S1024x128)⟩,
      ⟨Rect.unit (s := S3x1x2048x512) ![2, 0, 0, 128] S1x1x1024x128.size inb_S3x1x2048x512_S1x1x1024x128_2_0_0_128,
        tile (part (half arg1 harg1 x0 0 inb_S2048x1024_S1024x1024_0_0) (weight arg5 harg5 x4) 128 slices_S1024x512_o0_128_S1024x128)⟩,
      ⟨Rect.unit (s := S3x1x2048x512) ![2, 0, 0, 0] S1x1x1024x128.size inb_S3x1x2048x512_S1x1x1024x128_2_0_0_0,
        tile (part (half arg1 harg1 x0 0 inb_S2048x1024_S1024x1024_0_0) (weight arg5 harg5 x4) 0 slices_S1024x512_o0_0_S1024x128)⟩,
      ⟨Rect.unit (s := S3x1x2048x512) ![1, 0, 1024, 384] S1x1x1024x128.size inb_S3x1x2048x512_S1x1x1024x128_1_0_1024_384,
        tile (turned (part (half arg1 harg1 x0 1024 inb_S2048x1024_S1024x1024_1024_0) (weight arg4 harg4 x3) 384 slices_S1024x512_o0_384_S1024x128) (coef arg2 harg2 x1 0 1024 inb_S3x2048x128_S1x2048x128_0_0_0 inb_S2048x128_S1024x128_1024_0) (coef arg2 harg2 x1 1 1024 inb_S3x2048x128_S1x2048x128_1_0_0 inb_S2048x128_S1024x128_1024_0) (coef arg2 harg2 x1 2 1024 inb_S3x2048x128_S1x2048x128_2_0_0 inb_S2048x128_S1024x128_1024_0))⟩,
      ⟨Rect.unit (s := S3x1x2048x512) ![1, 0, 1024, 256] S1x1x1024x128.size inb_S3x1x2048x512_S1x1x1024x128_1_0_1024_256,
        tile (turned (part (half arg1 harg1 x0 1024 inb_S2048x1024_S1024x1024_1024_0) (weight arg4 harg4 x3) 256 slices_S1024x512_o0_256_S1024x128) (coef arg2 harg2 x1 0 1024 inb_S3x2048x128_S1x2048x128_0_0_0 inb_S2048x128_S1024x128_1024_0) (coef arg2 harg2 x1 1 1024 inb_S3x2048x128_S1x2048x128_1_0_0 inb_S2048x128_S1024x128_1024_0) (coef arg2 harg2 x1 2 1024 inb_S3x2048x128_S1x2048x128_2_0_0 inb_S2048x128_S1024x128_1024_0))⟩,
      ⟨Rect.unit (s := S3x1x2048x512) ![1, 0, 1024, 128] S1x1x1024x128.size inb_S3x1x2048x512_S1x1x1024x128_1_0_1024_128,
        tile (turned (part (half arg1 harg1 x0 1024 inb_S2048x1024_S1024x1024_1024_0) (weight arg4 harg4 x3) 128 slices_S1024x512_o0_128_S1024x128) (coef arg2 harg2 x1 0 1024 inb_S3x2048x128_S1x2048x128_0_0_0 inb_S2048x128_S1024x128_1024_0) (coef arg2 harg2 x1 1 1024 inb_S3x2048x128_S1x2048x128_1_0_0 inb_S2048x128_S1024x128_1024_0) (coef arg2 harg2 x1 2 1024 inb_S3x2048x128_S1x2048x128_2_0_0 inb_S2048x128_S1024x128_1024_0))⟩,
      ⟨Rect.unit (s := S3x1x2048x512) ![1, 0, 1024, 0] S1x1x1024x128.size inb_S3x1x2048x512_S1x1x1024x128_1_0_1024_0,
        tile (turned (part (half arg1 harg1 x0 1024 inb_S2048x1024_S1024x1024_1024_0) (weight arg4 harg4 x3) 0 slices_S1024x512_o0_0_S1024x128) (coef arg2 harg2 x1 0 1024 inb_S3x2048x128_S1x2048x128_0_0_0 inb_S2048x128_S1024x128_1024_0) (coef arg2 harg2 x1 1 1024 inb_S3x2048x128_S1x2048x128_1_0_0 inb_S2048x128_S1024x128_1024_0) (coef arg2 harg2 x1 2 1024 inb_S3x2048x128_S1x2048x128_2_0_0 inb_S2048x128_S1024x128_1024_0))⟩,
      ⟨Rect.unit (s := S3x1x2048x512) ![1, 0, 0, 384] S1x1x1024x128.size inb_S3x1x2048x512_S1x1x1024x128_1_0_0_384,
        tile (turned (part (half arg1 harg1 x0 0 inb_S2048x1024_S1024x1024_0_0) (weight arg4 harg4 x3) 384 slices_S1024x512_o0_384_S1024x128) (coef arg2 harg2 x1 0 0 inb_S3x2048x128_S1x2048x128_0_0_0 inb_S2048x128_S1024x128_0_0) (coef arg2 harg2 x1 1 0 inb_S3x2048x128_S1x2048x128_1_0_0 inb_S2048x128_S1024x128_0_0) (coef arg2 harg2 x1 2 0 inb_S3x2048x128_S1x2048x128_2_0_0 inb_S2048x128_S1024x128_0_0))⟩,
      ⟨Rect.unit (s := S3x1x2048x512) ![1, 0, 0, 256] S1x1x1024x128.size inb_S3x1x2048x512_S1x1x1024x128_1_0_0_256,
        tile (turned (part (half arg1 harg1 x0 0 inb_S2048x1024_S1024x1024_0_0) (weight arg4 harg4 x3) 256 slices_S1024x512_o0_256_S1024x128) (coef arg2 harg2 x1 0 0 inb_S3x2048x128_S1x2048x128_0_0_0 inb_S2048x128_S1024x128_0_0) (coef arg2 harg2 x1 1 0 inb_S3x2048x128_S1x2048x128_1_0_0 inb_S2048x128_S1024x128_0_0) (coef arg2 harg2 x1 2 0 inb_S3x2048x128_S1x2048x128_2_0_0 inb_S2048x128_S1024x128_0_0))⟩,
      ⟨Rect.unit (s := S3x1x2048x512) ![1, 0, 0, 128] S1x1x1024x128.size inb_S3x1x2048x512_S1x1x1024x128_1_0_0_128,
        tile (turned (part (half arg1 harg1 x0 0 inb_S2048x1024_S1024x1024_0_0) (weight arg4 harg4 x3) 128 slices_S1024x512_o0_128_S1024x128) (coef arg2 harg2 x1 0 0 inb_S3x2048x128_S1x2048x128_0_0_0 inb_S2048x128_S1024x128_0_0) (coef arg2 harg2 x1 1 0 inb_S3x2048x128_S1x2048x128_1_0_0 inb_S2048x128_S1024x128_0_0) (coef arg2 harg2 x1 2 0 inb_S3x2048x128_S1x2048x128_2_0_0 inb_S2048x128_S1024x128_0_0))⟩,
      ⟨Rect.unit (s := S3x1x2048x512) ![1, 0, 0, 0] S1x1x1024x128.size inb_S3x1x2048x512_S1x1x1024x128_1_0_0_0,
        tile (turned (part (half arg1 harg1 x0 0 inb_S2048x1024_S1024x1024_0_0) (weight arg4 harg4 x3) 0 slices_S1024x512_o0_0_S1024x128) (coef arg2 harg2 x1 0 0 inb_S3x2048x128_S1x2048x128_0_0_0 inb_S2048x128_S1024x128_0_0) (coef arg2 harg2 x1 1 0 inb_S3x2048x128_S1x2048x128_1_0_0 inb_S2048x128_S1024x128_0_0) (coef arg2 harg2 x1 2 0 inb_S3x2048x128_S1x2048x128_2_0_0 inb_S2048x128_S1024x128_0_0))⟩,
      ⟨Rect.unit (s := S3x1x2048x512) ![0, 0, 1024, 384] S1x1x1024x128.size inb_S3x1x2048x512_S1x1x1024x128_0_0_1024_384,
        tile (turned (part (half arg1 harg1 x0 1024 inb_S2048x1024_S1024x1024_1024_0) (weight arg3 harg3 x2) 384 slices_S1024x512_o0_384_S1024x128) (coef arg2 harg2 x1 0 1024 inb_S3x2048x128_S1x2048x128_0_0_0 inb_S2048x128_S1024x128_1024_0) (coef arg2 harg2 x1 1 1024 inb_S3x2048x128_S1x2048x128_1_0_0 inb_S2048x128_S1024x128_1024_0) (coef arg2 harg2 x1 2 1024 inb_S3x2048x128_S1x2048x128_2_0_0 inb_S2048x128_S1024x128_1024_0))⟩,
      ⟨Rect.unit (s := S3x1x2048x512) ![0, 0, 1024, 256] S1x1x1024x128.size inb_S3x1x2048x512_S1x1x1024x128_0_0_1024_256,
        tile (turned (part (half arg1 harg1 x0 1024 inb_S2048x1024_S1024x1024_1024_0) (weight arg3 harg3 x2) 256 slices_S1024x512_o0_256_S1024x128) (coef arg2 harg2 x1 0 1024 inb_S3x2048x128_S1x2048x128_0_0_0 inb_S2048x128_S1024x128_1024_0) (coef arg2 harg2 x1 1 1024 inb_S3x2048x128_S1x2048x128_1_0_0 inb_S2048x128_S1024x128_1024_0) (coef arg2 harg2 x1 2 1024 inb_S3x2048x128_S1x2048x128_2_0_0 inb_S2048x128_S1024x128_1024_0))⟩,
      ⟨Rect.unit (s := S3x1x2048x512) ![0, 0, 1024, 128] S1x1x1024x128.size inb_S3x1x2048x512_S1x1x1024x128_0_0_1024_128,
        tile (turned (part (half arg1 harg1 x0 1024 inb_S2048x1024_S1024x1024_1024_0) (weight arg3 harg3 x2) 128 slices_S1024x512_o0_128_S1024x128) (coef arg2 harg2 x1 0 1024 inb_S3x2048x128_S1x2048x128_0_0_0 inb_S2048x128_S1024x128_1024_0) (coef arg2 harg2 x1 1 1024 inb_S3x2048x128_S1x2048x128_1_0_0 inb_S2048x128_S1024x128_1024_0) (coef arg2 harg2 x1 2 1024 inb_S3x2048x128_S1x2048x128_2_0_0 inb_S2048x128_S1024x128_1024_0))⟩,
      ⟨Rect.unit (s := S3x1x2048x512) ![0, 0, 1024, 0] S1x1x1024x128.size inb_S3x1x2048x512_S1x1x1024x128_0_0_1024_0,
        tile (turned (part (half arg1 harg1 x0 1024 inb_S2048x1024_S1024x1024_1024_0) (weight arg3 harg3 x2) 0 slices_S1024x512_o0_0_S1024x128) (coef arg2 harg2 x1 0 1024 inb_S3x2048x128_S1x2048x128_0_0_0 inb_S2048x128_S1024x128_1024_0) (coef arg2 harg2 x1 1 1024 inb_S3x2048x128_S1x2048x128_1_0_0 inb_S2048x128_S1024x128_1024_0) (coef arg2 harg2 x1 2 1024 inb_S3x2048x128_S1x2048x128_2_0_0 inb_S2048x128_S1024x128_1024_0))⟩,
      ⟨Rect.unit (s := S3x1x2048x512) ![0, 0, 0, 384] S1x1x1024x128.size inb_S3x1x2048x512_S1x1x1024x128_0_0_0_384,
        tile (turned (part (half arg1 harg1 x0 0 inb_S2048x1024_S1024x1024_0_0) (weight arg3 harg3 x2) 384 slices_S1024x512_o0_384_S1024x128) (coef arg2 harg2 x1 0 0 inb_S3x2048x128_S1x2048x128_0_0_0 inb_S2048x128_S1024x128_0_0) (coef arg2 harg2 x1 1 0 inb_S3x2048x128_S1x2048x128_1_0_0 inb_S2048x128_S1024x128_0_0) (coef arg2 harg2 x1 2 0 inb_S3x2048x128_S1x2048x128_2_0_0 inb_S2048x128_S1024x128_0_0))⟩,
      ⟨Rect.unit (s := S3x1x2048x512) ![0, 0, 0, 256] S1x1x1024x128.size inb_S3x1x2048x512_S1x1x1024x128_0_0_0_256,
        tile (turned (part (half arg1 harg1 x0 0 inb_S2048x1024_S1024x1024_0_0) (weight arg3 harg3 x2) 256 slices_S1024x512_o0_256_S1024x128) (coef arg2 harg2 x1 0 0 inb_S3x2048x128_S1x2048x128_0_0_0 inb_S2048x128_S1024x128_0_0) (coef arg2 harg2 x1 1 0 inb_S3x2048x128_S1x2048x128_1_0_0 inb_S2048x128_S1024x128_0_0) (coef arg2 harg2 x1 2 0 inb_S3x2048x128_S1x2048x128_2_0_0 inb_S2048x128_S1024x128_0_0))⟩,
      ⟨Rect.unit (s := S3x1x2048x512) ![0, 0, 0, 128] S1x1x1024x128.size inb_S3x1x2048x512_S1x1x1024x128_0_0_0_128,
        tile (turned (part (half arg1 harg1 x0 0 inb_S2048x1024_S1024x1024_0_0) (weight arg3 harg3 x2) 128 slices_S1024x512_o0_128_S1024x128) (coef arg2 harg2 x1 0 0 inb_S3x2048x128_S1x2048x128_0_0_0 inb_S2048x128_S1024x128_0_0) (coef arg2 harg2 x1 1 0 inb_S3x2048x128_S1x2048x128_1_0_0 inb_S2048x128_S1024x128_0_0) (coef arg2 harg2 x1 2 0 inb_S3x2048x128_S1x2048x128_2_0_0 inb_S2048x128_S1024x128_0_0))⟩,
      ⟨Rect.unit (s := S3x1x2048x512) ![0, 0, 0, 0] S1x1x1024x128.size inb_S3x1x2048x512_S1x1x1024x128_0_0_0_0,
        tile (turned (part (half arg1 harg1 x0 0 inb_S2048x1024_S1024x1024_0_0) (weight arg3 harg3 x2) 0 slices_S1024x512_o0_0_S1024x128) (coef arg2 harg2 x1 0 0 inb_S3x2048x128_S1x2048x128_0_0_0 inb_S2048x128_S1024x128_0_0) (coef arg2 harg2 x1 1 0 inb_S3x2048x128_S1x2048x128_1_0_0 inb_S2048x128_S1024x128_0_0) (coef arg2 harg2 x1 2 0 inb_S3x2048x128_S1x2048x128_2_0_0 inb_S2048x128_S1024x128_0_0))⟩]

theorem store_24 : k0_pay1 (kernelRun0_A.sl.r_52 (F := Ideal) c arg1 harg1 arg5 harg5 x0 x4)
    = tile (part (half arg1 harg1 x0 1024 inb_S2048x1024_S1024x1024_1024_0) (weight arg5 harg5 x4) 384 slices_S1024x512_o0_384_S1024x128) := rfl

theorem store_23 : k0_pay77 (kernelRun0_A.sl.r_48 (F := Ideal) c arg1 harg1 arg5 harg5 x0 x4)
    = tile (part (half arg1 harg1 x0 1024 inb_S2048x1024_S1024x1024_1024_0) (weight arg5 harg5 x4) 256 slices_S1024x512_o0_256_S1024x128) := rfl

theorem store_22 : k0_pay76 (kernelRun0_A.sl.r_47 (F := Ideal) c arg1 harg1 arg5 harg5 x0 x4)
    = tile (part (half arg1 harg1 x0 1024 inb_S2048x1024_S1024x1024_1024_0) (weight arg5 harg5 x4) 128 slices_S1024x512_o0_128_S1024x128) := rfl

theorem store_21 : k0_pay75 (kernelRun0_A.sl.r_50 (F := Ideal) c arg1 harg1 arg5 harg5 x0 x4)
    = tile (part (half arg1 harg1 x0 1024 inb_S2048x1024_S1024x1024_1024_0) (weight arg5 harg5 x4) 0 slices_S1024x512_o0_0_S1024x128) := rfl

theorem store_20 : k0_pay70 (kernelRun0_A.sl.r_46 (F := Ideal) c arg1 harg1 arg5 harg5 x0 x4)
    = tile (part (half arg1 harg1 x0 0 inb_S2048x1024_S1024x1024_0_0) (weight arg5 harg5 x4) 384 slices_S1024x512_o0_384_S1024x128) := rfl

theorem store_19 : k0_pay69 (kernelRun0_A.sl.r_45 (F := Ideal) c arg1 harg1 arg5 harg5 x0 x4)
    = tile (part (half arg1 harg1 x0 0 inb_S2048x1024_S1024x1024_0_0) (weight arg5 harg5 x4) 256 slices_S1024x512_o0_256_S1024x128) := rfl

theorem store_18 : k0_pay68 (kernelRun0_A.sl.r_44 (F := Ideal) c arg1 harg1 arg5 harg5 x0 x4)
    = tile (part (half arg1 harg1 x0 0 inb_S2048x1024_S1024x1024_0_0) (weight arg5 harg5 x4) 128 slices_S1024x512_o0_128_S1024x128) := rfl

theorem store_17 : k0_pay67 (kernelRun0_A.sl.r_33 (F := Ideal) c arg1 harg1 arg5 harg5 x0 x4)
    = tile (part (half arg1 harg1 x0 0 inb_S2048x1024_S1024x1024_0_0) (weight arg5 harg5 x4) 0 slices_S1024x512_o0_0_S1024x128) := rfl

theorem store_16 : k0_pay62 (kernelRun0_A.sl.r_41 (F := Ideal) c arg1 harg1 arg2 harg2 arg4 harg4 x0 x1 x3)
    = tile (turned (part (half arg1 harg1 x0 1024 inb_S2048x1024_S1024x1024_1024_0) (weight arg4 harg4 x3) 384 slices_S1024x512_o0_384_S1024x128) (coef arg2 harg2 x1 0 1024 inb_S3x2048x128_S1x2048x128_0_0_0 inb_S2048x128_S1024x128_1024_0) (coef arg2 harg2 x1 1 1024 inb_S3x2048x128_S1x2048x128_1_0_0 inb_S2048x128_S1024x128_1024_0) (coef arg2 harg2 x1 2 1024 inb_S3x2048x128_S1x2048x128_2_0_0 inb_S2048x128_S1024x128_1024_0)) := rfl

theorem store_15 : k0_pay61 (kernelRun0_A.sl.r_39 (F := Ideal) c arg1 harg1 arg2 harg2 arg4 harg4 x0 x1 x3)
    = tile (turned (part (half arg1 harg1 x0 1024 inb_S2048x1024_S1024x1024_1024_0) (weight arg4 harg4 x3) 256 slices_S1024x512_o0_256_S1024x128) (coef arg2 harg2 x1 0 1024 inb_S3x2048x128_S1x2048x128_0_0_0 inb_S2048x128_S1024x128_1024_0) (coef arg2 harg2 x1 1 1024 inb_S3x2048x128_S1x2048x128_1_0_0 inb_S2048x128_S1024x128_1024_0) (coef arg2 harg2 x1 2 1024 inb_S3x2048x128_S1x2048x128_2_0_0 inb_S2048x128_S1024x128_1024_0)) := rfl

theorem store_14 : k0_pay60 (kernelRun0_A.sl.r_42 (F := Ideal) c arg1 harg1 arg2 harg2 arg4 harg4 x0 x1 x3)
    = tile (turned (part (half arg1 harg1 x0 1024 inb_S2048x1024_S1024x1024_1024_0) (weight arg4 harg4 x3) 128 slices_S1024x512_o0_128_S1024x128) (coef arg2 harg2 x1 0 1024 inb_S3x2048x128_S1x2048x128_0_0_0 inb_S2048x128_S1024x128_1024_0) (coef arg2 harg2 x1 1 1024 inb_S3x2048x128_S1x2048x128_1_0_0 inb_S2048x128_S1024x128_1024_0) (coef arg2 harg2 x1 2 1024 inb_S3x2048x128_S1x2048x128_2_0_0 inb_S2048x128_S1024x128_1024_0)) := rfl

theorem store_13 : k0_pay58 (kernelRun0_A.sl.r_34 (F := Ideal) c arg1 harg1 arg2 harg2 arg4 harg4 x0 x1 x3)
    = tile (turned (part (half arg1 harg1 x0 1024 inb_S2048x1024_S1024x1024_1024_0) (weight arg4 harg4 x3) 0 slices_S1024x512_o0_0_S1024x128) (coef arg2 harg2 x1 0 1024 inb_S3x2048x128_S1x2048x128_0_0_0 inb_S2048x128_S1024x128_1024_0) (coef arg2 harg2 x1 1 1024 inb_S3x2048x128_S1x2048x128_1_0_0 inb_S2048x128_S1024x128_1024_0) (coef arg2 harg2 x1 2 1024 inb_S3x2048x128_S1x2048x128_2_0_0 inb_S2048x128_S1024x128_1024_0)) := rfl

theorem store_12 : k0_pay48 (kernelRun0_A.sl.r_30 (F := Ideal) c arg1 harg1 arg2 harg2 arg4 harg4 x0 x1 x3)
    = tile (turned (part (half arg1 harg1 x0 0 inb_S2048x1024_S1024x1024_0_0) (weight arg4 harg4 x3) 384 slices_S1024x512_o0_384_S1024x128) (coef arg2 harg2 x1 0 0 inb_S3x2048x128_S1x2048x128_0_0_0 inb_S2048x128_S1024x128_0_0) (coef arg2 harg2 x1 1 0 inb_S3x2048x128_S1x2048x128_1_0_0 inb_S2048x128_S1024x128_0_0) (coef arg2 harg2 x1 2 0 inb_S3x2048x128_S1x2048x128_2_0_0 inb_S2048x128_S1024x128_0_0)) := rfl

theorem store_11 : k0_pay47 (kernelRun0_A.sl.r_29 (F := Ideal) c arg1 harg1 arg2 harg2 arg4 harg4 x0 x1 x3)
    = tile (turned (part (half arg1 harg1 x0 0 inb_S2048x1024_S1024x1024_0_0) (weight arg4 harg4 x3) 256 slices_S1024x512_o0_256_S1024x128) (coef arg2 harg2 x1 0 0 inb_S3x2048x128_S1x2048x128_0_0_0 inb_S2048x128_S1024x128_0_0) (coef arg2 harg2 x1 1 0 inb_S3x2048x128_S1x2048x128_1_0_0 inb_S2048x128_S1024x128_0_0) (coef arg2 harg2 x1 2 0 inb_S3x2048x128_S1x2048x128_2_0_0 inb_S2048x128_S1024x128_0_0)) := rfl

theorem store_10 : k0_pay46 (kernelRun0_A.sl.r_25 (F := Ideal) c arg1 harg1 arg2 harg2 arg4 harg4 x0 x1 x3)
    = tile (turned (part (half arg1 harg1 x0 0 inb_S2048x1024_S1024x1024_0_0) (weight arg4 harg4 x3) 128 slices_S1024x512_o0_128_S1024x128) (coef arg2 harg2 x1 0 0 inb_S3x2048x128_S1x2048x128_0_0_0 inb_S2048x128_S1024x128_0_0) (coef arg2 harg2 x1 1 0 inb_S3x2048x128_S1x2048x128_1_0_0 inb_S2048x128_S1024x128_0_0) (coef arg2 harg2 x1 2 0 inb_S3x2048x128_S1x2048x128_2_0_0 inb_S2048x128_S1024x128_0_0)) := rfl

theorem store_9 : k0_pay45 (kernelRun0_A.sl.r_31 (F := Ideal) c arg1 harg1 arg2 harg2 arg4 harg4 x0 x1 x3)
    = tile (turned (part (half arg1 harg1 x0 0 inb_S2048x1024_S1024x1024_0_0) (weight arg4 harg4 x3) 0 slices_S1024x512_o0_0_S1024x128) (coef arg2 harg2 x1 0 0 inb_S3x2048x128_S1x2048x128_0_0_0 inb_S2048x128_S1024x128_0_0) (coef arg2 harg2 x1 1 0 inb_S3x2048x128_S1x2048x128_1_0_0 inb_S2048x128_S1024x128_0_0) (coef arg2 harg2 x1 2 0 inb_S3x2048x128_S1x2048x128_2_0_0 inb_S2048x128_S1024x128_0_0)) := rfl

theorem store_8 : k0_pay32 (kernelRun0_A.sl.r_19 (F := Ideal) c arg1 harg1 arg2 harg2 arg3 harg3 x0 x1 x2)
    = tile (turned (part (half arg1 harg1 x0 1024 inb_S2048x1024_S1024x1024_1024_0) (weight arg3 harg3 x2) 384 slices_S1024x512_o0_384_S1024x128) (coef arg2 harg2 x1 0 1024 inb_S3x2048x128_S1x2048x128_0_0_0 inb_S2048x128_S1024x128_1024_0) (coef arg2 harg2 x1 1 1024 inb_S3x2048x128_S1x2048x128_1_0_0 inb_S2048x128_S1024x128_1024_0) (coef arg2 harg2 x1 2 1024 inb_S3x2048x128_S1x2048x128_2_0_0 inb_S2048x128_S1024x128_1024_0)) := rfl

theorem store_7 : k0_pay31 (kernelRun0_A.sl.r_20 (F := Ideal) c arg1 harg1 arg2 harg2 arg3 harg3 x0 x1 x2)
    = tile (turned (part (half arg1 harg1 x0 1024 inb_S2048x1024_S1024x1024_1024_0) (weight arg3 harg3 x2) 256 slices_S1024x512_o0_256_S1024x128) (coef arg2 harg2 x1 0 1024 inb_S3x2048x128_S1x2048x128_0_0_0 inb_S2048x128_S1024x128_1024_0) (coef arg2 harg2 x1 1 1024 inb_S3x2048x128_S1x2048x128_1_0_0 inb_S2048x128_S1024x128_1024_0) (coef arg2 harg2 x1 2 1024 inb_S3x2048x128_S1x2048x128_2_0_0 inb_S2048x128_S1024x128_1024_0)) := rfl

theorem store_6 : k0_pay29 (kernelRun0_A.sl.r_14 (F := Ideal) c arg1 harg1 arg2 harg2 arg3 harg3 x0 x1 x2)
    = tile (turned (part (half arg1 harg1 x0 1024 inb_S2048x1024_S1024x1024_1024_0) (weight arg3 harg3 x2) 128 slices_S1024x512_o0_128_S1024x128) (coef arg2 harg2 x1 0 1024 inb_S3x2048x128_S1x2048x128_0_0_0 inb_S2048x128_S1024x128_1024_0) (coef arg2 harg2 x1 1 1024 inb_S3x2048x128_S1x2048x128_1_0_0 inb_S2048x128_S1024x128_1024_0) (coef arg2 harg2 x1 2 1024 inb_S3x2048x128_S1x2048x128_2_0_0 inb_S2048x128_S1024x128_1024_0)) := rfl

theorem store_5 : k0_pay28 (kernelRun0_A.sl.r_11 (F := Ideal) c arg1 harg1 arg2 harg2 arg3 harg3 x0 x1 x2)
    = tile (turned (part (half arg1 harg1 x0 1024 inb_S2048x1024_S1024x1024_1024_0) (weight arg3 harg3 x2) 0 slices_S1024x512_o0_0_S1024x128) (coef arg2 harg2 x1 0 1024 inb_S3x2048x128_S1x2048x128_0_0_0 inb_S2048x128_S1024x128_1024_0) (coef arg2 harg2 x1 1 1024 inb_S3x2048x128_S1x2048x128_1_0_0 inb_S2048x128_S1024x128_1024_0) (coef arg2 harg2 x1 2 1024 inb_S3x2048x128_S1x2048x128_2_0_0 inb_S2048x128_S1024x128_1024_0)) := rfl

theorem store_4 : k0_pay15 (kernelRun0_A.sl.r_8 (F := Ideal) c arg1 harg1 arg2 harg2 arg3 harg3 x0 x1 x2)
    = tile (turned (part (half arg1 harg1 x0 0 inb_S2048x1024_S1024x1024_0_0) (weight arg3 harg3 x2) 384 slices_S1024x512_o0_384_S1024x128) (coef arg2 harg2 x1 0 0 inb_S3x2048x128_S1x2048x128_0_0_0 inb_S2048x128_S1024x128_0_0) (coef arg2 harg2 x1 1 0 inb_S3x2048x128_S1x2048x128_1_0_0 inb_S2048x128_S1024x128_0_0) (coef arg2 harg2 x1 2 0 inb_S3x2048x128_S1x2048x128_2_0_0 inb_S2048x128_S1024x128_0_0)) := rfl

theorem store_3 : k0_pay14 (kernelRun0_A.sl.r_7 (F := Ideal) c arg1 harg1 arg2 harg2 arg3 harg3 x0 x1 x2)
    = tile (turned (part (half arg1 harg1 x0 0 inb_S2048x1024_S1024x1024_0_0) (weight arg3 harg3 x2) 256 slices_S1024x512_o0_256_S1024x128) (coef arg2 harg2 x1 0 0 inb_S3x2048x128_S1x2048x128_0_0_0 inb_S2048x128_S1024x128_0_0) (coef arg2 harg2 x1 1 0 inb_S3x2048x128_S1x2048x128_1_0_0 inb_S2048x128_S1024x128_0_0) (coef arg2 harg2 x1 2 0 inb_S3x2048x128_S1x2048x128_2_0_0 inb_S2048x128_S1024x128_0_0)) := rfl

theorem store_2 : k0_pay13 (kernelRun0_A.sl.r_4 (F := Ideal) c arg1 harg1 arg2 harg2 arg3 harg3 x0 x1 x2)
    = tile (turned (part (half arg1 harg1 x0 0 inb_S2048x1024_S1024x1024_0_0) (weight arg3 harg3 x2) 128 slices_S1024x512_o0_128_S1024x128) (coef arg2 harg2 x1 0 0 inb_S3x2048x128_S1x2048x128_0_0_0 inb_S2048x128_S1024x128_0_0) (coef arg2 harg2 x1 1 0 inb_S3x2048x128_S1x2048x128_1_0_0 inb_S2048x128_S1024x128_0_0) (coef arg2 harg2 x1 2 0 inb_S3x2048x128_S1x2048x128_2_0_0 inb_S2048x128_S1024x128_0_0)) := rfl

theorem store_1 : k0_pay12 (kernelRun0_A.sl.r_2 (F := Ideal) c arg1 harg1 arg2 harg2 arg3 harg3 x0 x1 x2)
    = tile (turned (part (half arg1 harg1 x0 0 inb_S2048x1024_S1024x1024_0_0) (weight arg3 harg3 x2) 0 slices_S1024x512_o0_0_S1024x128) (coef arg2 harg2 x1 0 0 inb_S3x2048x128_S1x2048x128_0_0_0 inb_S2048x128_S1024x128_0_0) (coef arg2 harg2 x1 1 0 inb_S3x2048x128_S1x2048x128_1_0_0 inb_S2048x128_S1024x128_0_0) (coef arg2 harg2 x1 2 0 inb_S3x2048x128_S1x2048x128_2_0_0 inb_S2048x128_S1024x128_0_0)) := rfl

theorem pieces : (kernelRun0_A (F := Ideal) c i arg1 harg1 arg2 harg2 arg3 harg3 arg4 harg4 arg5 harg5 arg6 harg6 arg7 harg7 x0 x1 x2 x3 x4).1
    = [⟨Rect.unit (s := S3x1x2048x512) ![2, 0, 1024, 384] S1x1x1024x128.size inb_S3x1x2048x512_S1x1x1024x128_2_0_1024_384, k0_pay1 (kernelRun0_A.sl.r_52 (F := Ideal) c arg1 harg1 arg5 harg5 x0 x4)⟩,
      ⟨Rect.unit (s := S3x1x2048x512) ![2, 0, 1024, 256] S1x1x1024x128.size inb_S3x1x2048x512_S1x1x1024x128_2_0_1024_256, k0_pay77 (kernelRun0_A.sl.r_48 (F := Ideal) c arg1 harg1 arg5 harg5 x0 x4)⟩,
      ⟨Rect.unit (s := S3x1x2048x512) ![2, 0, 1024, 128] S1x1x1024x128.size inb_S3x1x2048x512_S1x1x1024x128_2_0_1024_128, k0_pay76 (kernelRun0_A.sl.r_47 (F := Ideal) c arg1 harg1 arg5 harg5 x0 x4)⟩,
      ⟨Rect.unit (s := S3x1x2048x512) ![2, 0, 1024, 0] S1x1x1024x128.size inb_S3x1x2048x512_S1x1x1024x128_2_0_1024_0, k0_pay75 (kernelRun0_A.sl.r_50 (F := Ideal) c arg1 harg1 arg5 harg5 x0 x4)⟩,
      ⟨Rect.unit (s := S3x1x2048x512) ![2, 0, 0, 384] S1x1x1024x128.size inb_S3x1x2048x512_S1x1x1024x128_2_0_0_384, k0_pay70 (kernelRun0_A.sl.r_46 (F := Ideal) c arg1 harg1 arg5 harg5 x0 x4)⟩,
      ⟨Rect.unit (s := S3x1x2048x512) ![2, 0, 0, 256] S1x1x1024x128.size inb_S3x1x2048x512_S1x1x1024x128_2_0_0_256, k0_pay69 (kernelRun0_A.sl.r_45 (F := Ideal) c arg1 harg1 arg5 harg5 x0 x4)⟩,
      ⟨Rect.unit (s := S3x1x2048x512) ![2, 0, 0, 128] S1x1x1024x128.size inb_S3x1x2048x512_S1x1x1024x128_2_0_0_128, k0_pay68 (kernelRun0_A.sl.r_44 (F := Ideal) c arg1 harg1 arg5 harg5 x0 x4)⟩,
      ⟨Rect.unit (s := S3x1x2048x512) ![2, 0, 0, 0] S1x1x1024x128.size inb_S3x1x2048x512_S1x1x1024x128_2_0_0_0, k0_pay67 (kernelRun0_A.sl.r_33 (F := Ideal) c arg1 harg1 arg5 harg5 x0 x4)⟩,
      ⟨Rect.unit (s := S3x1x2048x512) ![1, 0, 1024, 384] S1x1x1024x128.size inb_S3x1x2048x512_S1x1x1024x128_1_0_1024_384, k0_pay62 (kernelRun0_A.sl.r_41 (F := Ideal) c arg1 harg1 arg2 harg2 arg4 harg4 x0 x1 x3)⟩,
      ⟨Rect.unit (s := S3x1x2048x512) ![1, 0, 1024, 256] S1x1x1024x128.size inb_S3x1x2048x512_S1x1x1024x128_1_0_1024_256, k0_pay61 (kernelRun0_A.sl.r_39 (F := Ideal) c arg1 harg1 arg2 harg2 arg4 harg4 x0 x1 x3)⟩,
      ⟨Rect.unit (s := S3x1x2048x512) ![1, 0, 1024, 128] S1x1x1024x128.size inb_S3x1x2048x512_S1x1x1024x128_1_0_1024_128, k0_pay60 (kernelRun0_A.sl.r_42 (F := Ideal) c arg1 harg1 arg2 harg2 arg4 harg4 x0 x1 x3)⟩,
      ⟨Rect.unit (s := S3x1x2048x512) ![1, 0, 1024, 0] S1x1x1024x128.size inb_S3x1x2048x512_S1x1x1024x128_1_0_1024_0, k0_pay58 (kernelRun0_A.sl.r_34 (F := Ideal) c arg1 harg1 arg2 harg2 arg4 harg4 x0 x1 x3)⟩,
      ⟨Rect.unit (s := S3x1x2048x512) ![1, 0, 0, 384] S1x1x1024x128.size inb_S3x1x2048x512_S1x1x1024x128_1_0_0_384, k0_pay48 (kernelRun0_A.sl.r_30 (F := Ideal) c arg1 harg1 arg2 harg2 arg4 harg4 x0 x1 x3)⟩,
      ⟨Rect.unit (s := S3x1x2048x512) ![1, 0, 0, 256] S1x1x1024x128.size inb_S3x1x2048x512_S1x1x1024x128_1_0_0_256, k0_pay47 (kernelRun0_A.sl.r_29 (F := Ideal) c arg1 harg1 arg2 harg2 arg4 harg4 x0 x1 x3)⟩,
      ⟨Rect.unit (s := S3x1x2048x512) ![1, 0, 0, 128] S1x1x1024x128.size inb_S3x1x2048x512_S1x1x1024x128_1_0_0_128, k0_pay46 (kernelRun0_A.sl.r_25 (F := Ideal) c arg1 harg1 arg2 harg2 arg4 harg4 x0 x1 x3)⟩,
      ⟨Rect.unit (s := S3x1x2048x512) ![1, 0, 0, 0] S1x1x1024x128.size inb_S3x1x2048x512_S1x1x1024x128_1_0_0_0, k0_pay45 (kernelRun0_A.sl.r_31 (F := Ideal) c arg1 harg1 arg2 harg2 arg4 harg4 x0 x1 x3)⟩,
      ⟨Rect.unit (s := S3x1x2048x512) ![0, 0, 1024, 384] S1x1x1024x128.size inb_S3x1x2048x512_S1x1x1024x128_0_0_1024_384, k0_pay32 (kernelRun0_A.sl.r_19 (F := Ideal) c arg1 harg1 arg2 harg2 arg3 harg3 x0 x1 x2)⟩,
      ⟨Rect.unit (s := S3x1x2048x512) ![0, 0, 1024, 256] S1x1x1024x128.size inb_S3x1x2048x512_S1x1x1024x128_0_0_1024_256, k0_pay31 (kernelRun0_A.sl.r_20 (F := Ideal) c arg1 harg1 arg2 harg2 arg3 harg3 x0 x1 x2)⟩,
      ⟨Rect.unit (s := S3x1x2048x512) ![0, 0, 1024, 128] S1x1x1024x128.size inb_S3x1x2048x512_S1x1x1024x128_0_0_1024_128, k0_pay29 (kernelRun0_A.sl.r_14 (F := Ideal) c arg1 harg1 arg2 harg2 arg3 harg3 x0 x1 x2)⟩,
      ⟨Rect.unit (s := S3x1x2048x512) ![0, 0, 1024, 0] S1x1x1024x128.size inb_S3x1x2048x512_S1x1x1024x128_0_0_1024_0, k0_pay28 (kernelRun0_A.sl.r_11 (F := Ideal) c arg1 harg1 arg2 harg2 arg3 harg3 x0 x1 x2)⟩,
      ⟨Rect.unit (s := S3x1x2048x512) ![0, 0, 0, 384] S1x1x1024x128.size inb_S3x1x2048x512_S1x1x1024x128_0_0_0_384, k0_pay15 (kernelRun0_A.sl.r_8 (F := Ideal) c arg1 harg1 arg2 harg2 arg3 harg3 x0 x1 x2)⟩,
      ⟨Rect.unit (s := S3x1x2048x512) ![0, 0, 0, 256] S1x1x1024x128.size inb_S3x1x2048x512_S1x1x1024x128_0_0_0_256, k0_pay14 (kernelRun0_A.sl.r_7 (F := Ideal) c arg1 harg1 arg2 harg2 arg3 harg3 x0 x1 x2)⟩,
      ⟨Rect.unit (s := S3x1x2048x512) ![0, 0, 0, 128] S1x1x1024x128.size inb_S3x1x2048x512_S1x1x1024x128_0_0_0_128, k0_pay13 (kernelRun0_A.sl.r_4 (F := Ideal) c arg1 harg1 arg2 harg2 arg3 harg3 x0 x1 x2)⟩,
      ⟨Rect.unit (s := S3x1x2048x512) ![0, 0, 0, 0] S1x1x1024x128.size inb_S3x1x2048x512_S1x1x1024x128_0_0_0_0, k0_pay12 (kernelRun0_A.sl.r_2 (F := Ideal) c arg1 harg1 arg2 harg2 arg3 harg3 x0 x1 x2)⟩] := rfl

theorem stores : (kernelRun0_A (F := Ideal) c i arg1 harg1 arg2 harg2 arg3 harg3 arg4 harg4 arg5 harg5 arg6 harg6 arg7 harg7 x0 x1 x2 x3 x4).1
    = tiles arg1 harg1 arg2 harg2 arg3 harg3 arg4 harg4 arg5 harg5 x0 x1 x2 x3 x4 := by
  unfold tiles
  rw [pieces, store_24, store_23, store_22, store_21, store_20, store_19, store_18, store_17, store_16, store_15, store_14, store_13, store_12, store_11, store_10, store_9, store_8, store_7, store_6, store_5, store_4, store_3, store_2, store_1]

theorem coef_at (k off : ℕ) (hk) (hb) (a : Fin 1024) (l : Fin 128) (q : Fin 3) (r : Fin 2048) (hq : (q : ℕ) = k) (hr : (r : ℕ) = off + (a : ℕ)) :
    coef arg2 harg2 x1 k off hk hb (ix2 a l) = x1 (ix3 q r l) := by
  refine (congrFun (harg2.read_unread x1) _).trans (congrArg x1 ?_)
  refine (Rect.idx_withinL _ _ _ _).trans ?_
  have e : Shape.reshapeEquiv (LoadRect.numel_consLift (Rect.unit (s := S2048x128) ![off, 0] S1024x128.size hb).toLoadRect ![1, 2048, 128] (by decide) (by decide)) (ix2 a l)
      = ix3 (0 : Fin 1) a l := ValueIdx.reshapeEquiv_ix2_1ab _ a l
  refine (congrArg (fun z => (Rect.unit (s := S3x2048x128) ![k, 0, 0] S1x2048x128.size hk).emb (((Rect.unit (s := S2048x128) ![off, 0] S1024x128.size hb).toLoadRect.consLift ![1, 2048, 128] (by decide) (by decide)).idx z)) e).trans ?_
  funext b
  refine Fin.ext ?_
  fin_cases b
  · show k + 1 * (0 + 1 * 0) = (q : ℕ); omega
  · show 0 + 1 * (off + 1 * (a : ℕ)) = (r : ℕ); omega
  · show 0 + 1 * (0 + 1 * (l : ℕ)) = (l : ℕ); omega

end Block

theorem product_at (h : FVec Ideal S1024x1024 .bf16) (w : FVec Ideal S1024x512 .bf16) (t : Fin 1024) (c : Fin 512) :
    matmul dot_S1024x1024_S1024x512_S1024x512_1_0_0_1_n_n none h w (constant (F := Ideal) S1024x512 .f32 0x00000000#32) (ix2 t c)
      = ∑ d : Fin 1024, h (ix2 t d) * w (ix2 d c) := by
  pointwise

theorem part_at (h : Vec Ideal S1024x1024 .bf16) (w : Vec Ideal S1024x512 .bf16) (off : ℕ) (hs) (t : Fin 1024) (l : Fin 128) (j : Fin 512)
    (hj : (j : ℕ) = off + (l : ℕ)) : part h w off hs (ix2 t l) = ∑ d : Fin 1024, h (ix2 t d) * w (ix2 d j) := by
  have hlt : off + (l : ℕ) < 512 := hj ▸ j.isLt
  rw [show j = ⟨off + (l : ℕ), hlt⟩ from Fin.ext hj]
  unfold part
  pointwise

theorem tile_apply (v : FVec Ideal S1024x128 .f32) (x : S1x1x1024x128.Idx) : tile v x = v (ix2 (x 2) (x 3)) := by
  have e : x = (ix4 0 0 (x 2) (x 3) : S1x1x1024x128.Idx) := funext fun a => by
    have h0 : (x 0 : ℕ) < 1 := (x 0).isLt
    have h1 : (x 1 : ℕ) < 1 := (x 1).isLt
    fin_cases a
    · exact Fin.ext (by show (x 0 : ℕ) = 0; omega)
    · exact Fin.ext (by show (x 1 : ℕ) = 0; omega)
    · rfl
    · rfl
  refine (congrArg (tile v) e).trans ?_
  generalize x 2 = t
  generalize x 3 = l
  change Fin 1024 at t
  change Fin 128 at l
  unfold tile
  pointwise

/-- The lane eight after lane `l`, and eight before it, around the end. -/
def after8 (l : Fin 128) : Fin 128 := ⟨((l : ℕ) + 8) % 128, by omega⟩
def before8 (l : Fin 128) : Fin 128 := ⟨((l : ℕ) + 120) % 128, by omega⟩

theorem turned_at (v : FVec Ideal S1024x128 .f32) (a b c : Vec Ideal S1024x128 .f32) (t : Fin 1024) (l : Fin 128) :
    turned v a b c (ix2 t l) = v (ix2 t l) * a (ix2 t l) + v (ix2 t (after8 l)) * b (ix2 t l) + v (ix2 t (before8 l)) * c (ix2 t l) := by
  have e1 := dynamicRotate_apply (1 : Fin S1024x128.rank) 120#32 v rotates_S1024x128_d1 (ix2 t l) (ix2 t (after8 l)) (fun b => by
    fin_cases b
    · rfl
    · show ((l : ℕ) + 8) % 128 = ((l : ℕ) + 128 - 120) % 128
      omega)
  have e2 := dynamicRotate_apply (1 : Fin S1024x128.rank) 8#32 v rotates_S1024x128_d1 (ix2 t l) (ix2 t (before8 l)) (fun b => by
    fin_cases b
    · rfl
    · show ((l : ℕ) + 120) % 128 = ((l : ℕ) + 128 - 8) % 128
      omega)
  unfold turned
  rw [shapeCast_self, shapeCast_self, shapeCast_self]
  show v (ix2 t l) * a (ix2 t l) + dynamicRotate 1 120#32 none v rotates_S1024x128_d1 (ix2 t l) * b (ix2 t l)
    + dynamicRotate 1 8#32 none v rotates_S1024x128_d1 (ix2 t l) * c (ix2 t l) = _
  rw [e1, e2]

/-- Lane of column `j`, and the columns whose lanes are eight after and eight before its own. -/
def lane (j : Fin 512) : Fin 128 := ⟨(j : ℕ) % 128, by omega⟩
def next (j : Fin 512) : Fin 512 := ⟨(j : ℕ) / 128 * 128 + ((j : ℕ) % 128 + 8) % 128, by omega⟩
def prev (j : Fin 512) : Fin 512 := ⟨(j : ℕ) / 128 * 128 + ((j : ℕ) % 128 + 120) % 128, by omega⟩

/-- A row's values turned by the coefficients. -/
def turn (p : Fin 512 → EReal) (q : Fin 3 → Fin 128 → EReal) (j : Fin 512) : EReal := p j * q 0 (lane j) + p (next j) * q 1 (lane j) + p (prev j) * q 2 (lane j)

/-- The entry of a row `h` at column `j` of the queries (`k = 0`), the keys (1) or the values (2), which are not turned. -/
def value (h : Fin 1024 → EReal) (w : Fin 3 → Fin 1024 → Fin 512 → EReal) (q : Fin 3 → Fin 128 → EReal) (k : Fin 3) (j : Fin 512) : EReal :=
  if (k : ℕ) = 2 then ∑ d : Fin 1024, h d * w k d j else turn (fun j => ∑ d : Fin 1024, h d * w k d j) q j

section Block

variable (c : Dev nD) (i : grid0.Coords) (arg1 : Memref sig .tc .vmem S2048x1024 .bf16) (harg1 : arg1.IsWhole)
  (arg2 : Memref sig .tc .vmem S3x2048x128 .f32) (harg2 : arg2.IsWhole) (arg3 : Memref sig .tc .vmem S1024x512 .bf16) (harg3 : arg3.IsWhole)
  (arg4 : Memref sig .tc .vmem S1024x512 .bf16) (harg4 : arg4.IsWhole) (arg5 : Memref sig .tc .vmem S1024x512 .bf16) (harg5 : arg5.IsWhole)
  (arg6 : Memref sig .tc .vmem S3x1x2048x512 .bf16) (harg6 : arg6.IsWhole) (arg7 : Memref sig .tc .vmem S2x8x1024x128 .f32) (harg7 : arg7.IsWhole)
  (x0 : Vec Ideal S2048x1024 .bf16) (x1 : Vec Ideal S3x2048x128 .f32) (x2 x3 x4 : Vec Ideal S1024x512 .bf16)

theorem weight_eq (x : Vec Ideal S1024x512 .bf16) : weight arg3 harg3 x = x :=
  (View.readAt_eq_ld arg3.view (harg3.unread x) _).trans ((View.ld_unit_lit _ _ (by decide)).trans (harg3.read_unread x))

theorem half_at (off : ℕ) (hb) (a d : Fin 1024) (r : Fin 2048) (hr : (r : ℕ) = off + (a : ℕ)) : half arg1 harg1 x0 off hb (ix2 a d) = x0 (ix2 r d) := by
  have e : half arg1 harg1 x0 off hb = View.ld x0 (Rect.unit (s := S2048x1024) ![off, 0] S1024x1024.size hb) :=
    (View.readAt_eq_ld arg1.view (harg1.unread x0) _).trans (congrArg (View.ld · _) (harg1.read_unread x0))
  rw [e]
  refine View.ld_unit_apply_of x0 _ _ _ _ _ fun b => ?_
  fin_cases b
  · exact hr
  · show (d : ℕ) = 0 + (d : ℕ); omega

theorem plain_tile (w : Vec Ideal S1024x512 .bf16) (ro off : ℕ) (hb) (hs) (x : S1x1x1024x128.Idx) (r : Fin 2048) (j : Fin 512)
    (hr : (r : ℕ) = ro + (x 2 : ℕ)) (hj : (j : ℕ) = off + (x 3 : ℕ)) :
    tile (part (half arg1 harg1 x0 ro hb) (weight arg3 harg3 w) off hs) x = ∑ d : Fin 1024, x0 (ix2 r d) * w (ix2 d j) := by
  rw [weight_eq, tile_apply]
  refine (part_at _ _ off hs (x 2) (x 3) j hj).trans ?_
  exact Finset.sum_congr rfl fun d _ => congrArg (· * _) (half_at arg1 harg1 x0 ro hb (x 2) d r hr)

theorem turned_tile (w : Vec Ideal S1024x512 .bf16) (ro off : ℕ) (hoff : off % 128 = 0) (hb) (hs) (k0 k1 k2) (hc) (x : S1x1x1024x128.Idx) (r : Fin 2048) (j : Fin 512)
    (hr : (r : ℕ) = ro + (x 2 : ℕ)) (hj : (j : ℕ) = off + (x 3 : ℕ)) :
    tile (turned (part (half arg1 harg1 x0 ro hb) (weight arg3 harg3 w) off hs) (coef arg2 harg2 x1 0 ro k0 hc) (coef arg2 harg2 x1 1 ro k1 hc) (coef arg2 harg2 x1 2 ro k2 hc)) x
      = turn (fun j => ∑ d : Fin 1024, x0 (ix2 r d) * w (ix2 d j)) (fun q l => x1 (ix3 q r l)) j := by
  rw [weight_eq, tile_apply]
  have hp : ∀ (l : Fin 128) (j : Fin 512), (j : ℕ) = off + (l : ℕ) → part (half arg1 harg1 x0 ro hb) w off hs (ix2 (x 2) l) = ∑ d : Fin 1024, x0 (ix2 r d) * w (ix2 d j) :=
    fun l j hj => (part_at _ _ off hs (x 2) l j hj).trans (Finset.sum_congr rfl fun d _ => congrArg (· * _) (half_at arg1 harg1 x0 ro hb (x 2) d r hr))
  have hx : (x 3 : ℕ) < 128 := (x 3).isLt
  have hl : (x 3 : Fin 128) = lane j := Fin.ext (by show (x 3 : ℕ) = (j : ℕ) % 128; omega)
  refine (turned_at _ _ _ _ (x 2) (x 3)).trans ?_
  rw [hp (x 3) j hj, hp (after8 (x 3)) (next j) (by show (j : ℕ) / 128 * 128 + ((j : ℕ) % 128 + 8) % 128 = off + ((x 3 : ℕ) + 8) % 128; omega),
    hp (before8 (x 3)) (prev j) (by show (j : ℕ) / 128 * 128 + ((j : ℕ) % 128 + 120) % 128 = off + ((x 3 : ℕ) + 120) % 128; omega),
    coef_at arg2 harg2 x1 0 ro k0 hc (x 2) (x 3) 0 r rfl hr, coef_at arg2 harg2 x1 1 ro k1 hc (x 2) (x 3) 1 r rfl hr,
    coef_at arg2 harg2 x1 2 ro k2 hc (x 2) (x 3) 2 r rfl hr, hl]
  rfl

/-- The three blocks of columns. -/
def three (k : Fin 3) (d : Fin 1024) (j : Fin 512) : EReal := if (k : ℕ) = 0 then x2 (ix2 d j) else if (k : ℕ) = 1 then x3 (ix2 d j) else x4 (ix2 d j)

variable (h : Fin 1024 → EReal) (q : Fin 3 → Fin 128 → EReal) (j : Fin 512)

theorem value_0 (k : Fin 3) (hk : (k : ℕ) = 0) : value h (three x2 x3 x4) q k j = turn (fun j => ∑ d : Fin 1024, h d * x2 (ix2 d j)) q j := by
  obtain rfl : k = 0 := Fin.ext hk
  rfl

theorem value_1 (k : Fin 3) (hk : (k : ℕ) = 1) : value h (three x2 x3 x4) q k j = turn (fun j => ∑ d : Fin 1024, h d * x3 (ix2 d j)) q j := by
  obtain rfl : k = 1 := Fin.ext hk
  rfl

theorem value_2 (k : Fin 3) (hk : (k : ℕ) = 2) : value h (three x2 x3 x4) q k j = ∑ d : Fin 1024, h d * x4 (ix2 d j) := by
  obtain rfl : k = 2 := Fin.ext hk
  rfl

omit c i arg6 arg7 h q j in
theorem tiles_at (y : S3x1x2048x512.Idx) : View.canon (tiles arg1 harg1 arg2 harg2 arg3 harg3 arg4 harg4 arg5 harg5 x0 x1 x2 x3 x4) y
    = value (fun d => x0 (ix2 (y 2) d)) (three x2 x3 x4) (fun q l => x1 (ix3 q (y 2) l)) (y 0) (y 3) := by
  unfold tiles
  canon_tiles x h
  · exact (plain_tile arg1 harg1 arg5 harg5 x0 x4 1024 384 _ _ x (y 2) (y 3) h2 h3).trans (value_2 x2 x3 x4 _ _ _ (y 0) (by have : (x 0 : ℕ) < 1 := (x 0).isLt; omega)).symm
  · exact (plain_tile arg1 harg1 arg5 harg5 x0 x4 1024 256 _ _ x (y 2) (y 3) h2 h3).trans (value_2 x2 x3 x4 _ _ _ (y 0) (by have : (x 0 : ℕ) < 1 := (x 0).isLt; omega)).symm
  · exact (plain_tile arg1 harg1 arg5 harg5 x0 x4 1024 128 _ _ x (y 2) (y 3) h2 h3).trans (value_2 x2 x3 x4 _ _ _ (y 0) (by have : (x 0 : ℕ) < 1 := (x 0).isLt; omega)).symm
  · exact (plain_tile arg1 harg1 arg5 harg5 x0 x4 1024 0 _ _ x (y 2) (y 3) h2 (h3.trans (Nat.zero_add _).symm)).trans (value_2 x2 x3 x4 _ _ _ (y 0) (by have : (x 0 : ℕ) < 1 := (x 0).isLt; omega)).symm
  · exact (plain_tile arg1 harg1 arg5 harg5 x0 x4 0 384 _ _ x (y 2) (y 3) (h2.trans (Nat.zero_add _).symm) h3).trans (value_2 x2 x3 x4 _ _ _ (y 0) (by have : (x 0 : ℕ) < 1 := (x 0).isLt; omega)).symm
  · exact (plain_tile arg1 harg1 arg5 harg5 x0 x4 0 256 _ _ x (y 2) (y 3) (h2.trans (Nat.zero_add _).symm) h3).trans (value_2 x2 x3 x4 _ _ _ (y 0) (by have : (x 0 : ℕ) < 1 := (x 0).isLt; omega)).symm
  · exact (plain_tile arg1 harg1 arg5 harg5 x0 x4 0 128 _ _ x (y 2) (y 3) (h2.trans (Nat.zero_add _).symm) h3).trans (value_2 x2 x3 x4 _ _ _ (y 0) (by have : (x 0 : ℕ) < 1 := (x 0).isLt; omega)).symm
  · exact (plain_tile arg1 harg1 arg5 harg5 x0 x4 0 0 _ _ x (y 2) (y 3) (h2.trans (Nat.zero_add _).symm) (h3.trans (Nat.zero_add _).symm)).trans (value_2 x2 x3 x4 _ _ _ (y 0) (by have : (x 0 : ℕ) < 1 := (x 0).isLt; omega)).symm
  · exact (turned_tile arg1 harg1 arg2 harg2 arg4 harg4 x0 x1 x3 1024 384 rfl _ _ _ _ _ _ x (y 2) (y 3) h2 h3).trans (value_1 x2 x3 x4 _ _ _ (y 0) (by have : (x 0 : ℕ) < 1 := (x 0).isLt; omega)).symm
  · exact (turned_tile arg1 harg1 arg2 harg2 arg4 harg4 x0 x1 x3 1024 256 rfl _ _ _ _ _ _ x (y 2) (y 3) h2 h3).trans (value_1 x2 x3 x4 _ _ _ (y 0) (by have : (x 0 : ℕ) < 1 := (x 0).isLt; omega)).symm
  · exact (turned_tile arg1 harg1 arg2 harg2 arg4 harg4 x0 x1 x3 1024 128 rfl _ _ _ _ _ _ x (y 2) (y 3) h2 h3).trans (value_1 x2 x3 x4 _ _ _ (y 0) (by have : (x 0 : ℕ) < 1 := (x 0).isLt; omega)).symm
  · exact (turned_tile arg1 harg1 arg2 harg2 arg4 harg4 x0 x1 x3 1024 0 rfl _ _ _ _ _ _ x (y 2) (y 3) h2 (h3.trans (Nat.zero_add _).symm)).trans (value_1 x2 x3 x4 _ _ _ (y 0) (by have : (x 0 : ℕ) < 1 := (x 0).isLt; omega)).symm
  · exact (turned_tile arg1 harg1 arg2 harg2 arg4 harg4 x0 x1 x3 0 384 rfl _ _ _ _ _ _ x (y 2) (y 3) (h2.trans (Nat.zero_add _).symm) h3).trans (value_1 x2 x3 x4 _ _ _ (y 0) (by have : (x 0 : ℕ) < 1 := (x 0).isLt; omega)).symm
  · exact (turned_tile arg1 harg1 arg2 harg2 arg4 harg4 x0 x1 x3 0 256 rfl _ _ _ _ _ _ x (y 2) (y 3) (h2.trans (Nat.zero_add _).symm) h3).trans (value_1 x2 x3 x4 _ _ _ (y 0) (by have : (x 0 : ℕ) < 1 := (x 0).isLt; omega)).symm
  · exact (turned_tile arg1 harg1 arg2 harg2 arg4 harg4 x0 x1 x3 0 128 rfl _ _ _ _ _ _ x (y 2) (y 3) (h2.trans (Nat.zero_add _).symm) h3).trans (value_1 x2 x3 x4 _ _ _ (y 0) (by have : (x 0 : ℕ) < 1 := (x 0).isLt; omega)).symm
  · exact (turned_tile arg1 harg1 arg2 harg2 arg4 harg4 x0 x1 x3 0 0 rfl _ _ _ _ _ _ x (y 2) (y 3) (h2.trans (Nat.zero_add _).symm) (h3.trans (Nat.zero_add _).symm)).trans (value_1 x2 x3 x4 _ _ _ (y 0) (by have : (x 0 : ℕ) < 1 := (x 0).isLt; omega)).symm
  · exact (turned_tile arg1 harg1 arg2 harg2 arg3 harg3 x0 x1 x2 1024 384 rfl _ _ _ _ _ _ x (y 2) (y 3) h2 h3).trans (value_0 x2 x3 x4 _ _ _ (y 0) (by have : (x 0 : ℕ) < 1 := (x 0).isLt; omega)).symm
  · exact (turned_tile arg1 harg1 arg2 harg2 arg3 harg3 x0 x1 x2 1024 256 rfl _ _ _ _ _ _ x (y 2) (y 3) h2 h3).trans (value_0 x2 x3 x4 _ _ _ (y 0) (by have : (x 0 : ℕ) < 1 := (x 0).isLt; omega)).symm
  · exact (turned_tile arg1 harg1 arg2 harg2 arg3 harg3 x0 x1 x2 1024 128 rfl _ _ _ _ _ _ x (y 2) (y 3) h2 h3).trans (value_0 x2 x3 x4 _ _ _ (y 0) (by have : (x 0 : ℕ) < 1 := (x 0).isLt; omega)).symm
  · exact (turned_tile arg1 harg1 arg2 harg2 arg3 harg3 x0 x1 x2 1024 0 rfl _ _ _ _ _ _ x (y 2) (y 3) h2 (h3.trans (Nat.zero_add _).symm)).trans (value_0 x2 x3 x4 _ _ _ (y 0) (by have : (x 0 : ℕ) < 1 := (x 0).isLt; omega)).symm
  · exact (turned_tile arg1 harg1 arg2 harg2 arg3 harg3 x0 x1 x2 0 384 rfl _ _ _ _ _ _ x (y 2) (y 3) (h2.trans (Nat.zero_add _).symm) h3).trans (value_0 x2 x3 x4 _ _ _ (y 0) (by have : (x 0 : ℕ) < 1 := (x 0).isLt; omega)).symm
  · exact (turned_tile arg1 harg1 arg2 harg2 arg3 harg3 x0 x1 x2 0 256 rfl _ _ _ _ _ _ x (y 2) (y 3) (h2.trans (Nat.zero_add _).symm) h3).trans (value_0 x2 x3 x4 _ _ _ (y 0) (by have : (x 0 : ℕ) < 1 := (x 0).isLt; omega)).symm
  · exact (turned_tile arg1 harg1 arg2 harg2 arg3 harg3 x0 x1 x2 0 128 rfl _ _ _ _ _ _ x (y 2) (y 3) (h2.trans (Nat.zero_add _).symm) h3).trans (value_0 x2 x3 x4 _ _ _ (y 0) (by have : (x 0 : ℕ) < 1 := (x 0).isLt; omega)).symm
  · exact (turned_tile arg1 harg1 arg2 harg2 arg3 harg3 x0 x1 x2 0 0 rfl _ _ _ _ _ _ x (y 2) (y 3) (h2.trans (Nat.zero_add _).symm) (h3.trans (Nat.zero_add _).symm)).trans (value_0 x2 x3 x4 _ _ _ (y 0) (by have : (x 0 : ℕ) < 1 := (x 0).isLt; omega)).symm

theorem block_at (y : S3x1x2048x512.Idx) :
    out0_A_5 (F := Ideal) c i arg1 harg1 arg2 harg2 arg3 harg3 arg4 harg4 arg5 harg5 arg6 harg6 arg7 harg7 x0 x1 x2 x3 x4 y
      = value (fun d => x0 (ix2 (y 2) d)) (three x2 x3 x4) (fun q l => x1 (ix3 q (y 2) l)) (y 0) (y 3) := by
  unfold out0_A_5
  rw [View.read_writes_eq_canon _ _ _ (cover0_A_5 c i arg1 harg1 arg2 harg2 arg3 harg3 arg4 harg4 arg5 harg5 arg6 harg6 arg7 harg7 x0 x1 x2 x3 x4), stores]
  exact tiles_at arg1 harg1 arg2 harg2 arg3 harg3 arg4 harg4 arg5 harg5 x0 x1 x2 x3 x4 y

end Block

theorem idx0 : ∀ t : Fin cfg0.N, win0_0.index t = ![(t : ℕ), 0] := by decide +kernel
theorem idx1 : ∀ t : Fin cfg0.N, win0_1.index t = ![0, (t : ℕ), 0] := by decide +kernel
theorem idx2 : ∀ t : Fin cfg0.N, win0_2.index t = ![0, 6] := by decide +kernel
theorem idx3 : ∀ t : Fin cfg0.N, win0_3.index t = ![0, 9] := by decide +kernel
theorem idx4 : ∀ t : Fin cfg0.N, win0_4.index t = ![0, 12] := by decide +kernel
theorem idx5 : ∀ t : Fin cfg0.N, win0_5.index t = ![0, 0, (t : ℕ), 0] := by decide +kernel

/-- Row `a` of the rows of grid point `t`. -/
def row (t : Fin cfg0.N) (a : Fin 2048) : Fin 8192 := ⟨(t : ℕ) * 2048 + (a : ℕ), by have := lt_of_lt_of_eq t.isLt N_0; omega⟩

/-- Column `j` of the queries', the keys' or the values' columns. -/
def col (k : Fin 3) (j : Fin 512) : Fin 10240 := ⟨3072 + 1536 * (k : ℕ) + (j : ℕ), by omega⟩

theorem blk0 (v : (⟨S8192x1024, .bf16⟩ : BufTy).Contents (Elt Ideal)) (t : Fin cfg0.N) (a : Fin 2048) (d : Fin 1024) :
    (((cfg0.win 0).blk t).view.read (Elt Ideal) v) (ix2 a d) = v (ix2 (row t a) d) := by
  blk_ext [idx0 t]
  rfl

theorem blk1 (v : (⟨S3x8192x128, .f32⟩ : BufTy).Contents (Elt Ideal)) (t : Fin cfg0.N) (q : Fin 3) (a : Fin 2048) (l : Fin 128) :
    (((cfg0.win 1).blk t).view.read (Elt Ideal) v) (ix3 q a l) = v (ix3 q (row t a) l) := by
  blk_ext [idx1 t]
  rfl

theorem blk2 (v : (⟨S1024x10240, .bf16⟩ : BufTy).Contents (Elt Ideal)) (t : Fin cfg0.N) (d : Fin 1024) (j : Fin 512) :
    (((cfg0.win 2).blk t).view.read (Elt Ideal) v) (ix2 d j) = v (ix2 d (col 0 j)) := by
  blk_ext [idx2 t]
  rfl

theorem blk3 (v : (⟨S1024x10240, .bf16⟩ : BufTy).Contents (Elt Ideal)) (t : Fin cfg0.N) (d : Fin 1024) (j : Fin 512) :
    (((cfg0.win 3).blk t).view.read (Elt Ideal) v) (ix2 d j) = v (ix2 d (col 1 j)) := by
  blk_ext [idx3 t]
  rfl

theorem blk4 (v : (⟨S1024x10240, .bf16⟩ : BufTy).Contents (Elt Ideal)) (t : Fin cfg0.N) (d : Fin 1024) (j : Fin 512) :
    (((cfg0.win 4).blk t).view.read (Elt Ideal) v) (ix2 d j) = v (ix2 d (col 2 j)) := by
  blk_ext [idx4 t]
  rfl

theorem emb5 (t : Fin cfg0.N) (y : S3x1x2048x512.Idx) : ((cfg0.win 5).blk t).view.emb y = (ix4 (y 0) (y 1) (row t (y 2)) (y 3) : S3x1x8192x512.Idx) := by
  blk_ext [idx5 t]
  rfl

/-- The whole array from the rows `h`, the coefficients `q` and the weight `w`. -/
def product (h : S8192x1024.Idx → EReal) (q : S3x8192x128.Idx → EReal) (w : S1024x10240.Idx → EReal) : (⟨S3x1x8192x512, .bf16⟩ : BufTy).Contents (Elt Ideal) :=
  fun y => value (fun d => h (ix2 (y 2) d)) (fun k d j => w (ix2 d (col k j))) (fun p l => q (ix3 p (y 2) l)) (y 0) (y 3)

variable (m : (ℓ : Loc nD τ sig) → Buf (Elt Ideal) ℓ) (c : Dev nD)

/-- The rows, the coefficients and the columns of grid point `t`. -/
def rows (t : Fin cfg0.N) : Vec Ideal S2048x1024 .bf16 := iblk m c 0 t
def turns (t : Fin cfg0.N) : Vec Ideal S3x2048x128 .f32 := iblk m c 1 t
def cols0 (t : Fin cfg0.N) : Vec Ideal S1024x512 .bf16 := iblk m c 2 t
def cols1 (t : Fin cfg0.N) : Vec Ideal S1024x512 .bf16 := iblk m c 3 t
def cols2 (t : Fin cfg0.N) : Vec Ideal S1024x512 .bf16 := iblk m c 4 t

/-- The cosines and sines of the positions' angles, and their coefficients. -/
def given : S3x8192x128.Idx → EReal := Entry.planes (Host.cos (Entry.angle (m ((c.tc : Thread nD τ).loc main_arg1)))) (Host.sin (Entry.angle (m ((c.tc : Thread nD τ).loc main_arg1))))

/-- The whole array, from the launch contents. -/
def whole : (⟨S3x1x8192x512, .bf16⟩ : BufTy).Contents (Elt Ideal) :=
  product (m ((c.tc : Thread nD τ).loc main_arg0)) (given m c) (m ((c.tc : Thread nD τ).loc main_arg2))

theorem given_eq : V m c main_v36 = given m c := Entry.coefficients _

theorem rows_at (t : Fin cfg0.N) (a : Fin 2048) (d : Fin 1024) : rows m c t (ix2 a d) = m ((c.tc : Thread nD τ).loc main_arg0) (ix2 (row t a) d) :=
  (blk0 (V m c main_arg0) t a d).trans (congrFun (V_main_arg0 m c) _)

theorem turns_at (t : Fin cfg0.N) (q : Fin 3) (a : Fin 2048) (l : Fin 128) : turns m c t (ix3 q a l) = given m c (ix3 q (row t a) l) :=
  (blk1 (V m c main_v36) t q a l).trans (congrFun (given_eq m c) _)

theorem cols_at (t : Fin cfg0.N) (k : Fin 3) (d : Fin 1024) (j : Fin 512) :
    three (cols0 m c t) (cols1 m c t) (cols2 m c t) k d j = m ((c.tc : Thread nD τ).loc main_arg2) (ix2 d (col k j)) := by
  fin_cases k
  · exact (blk2 (V m c main_arg2) t d j).trans (congrFun (V_main_arg2 m c) _)
  · exact (blk3 (V m c main_arg2) t d j).trans (congrFun (V_main_arg2 m c) _)
  · exact (blk4 (V m c main_arg2) t d j).trans (congrFun (V_main_arg2 m c) _)

/-- What grid point `t` leaves. -/
def left (t : Fin cfg0.N) : Vec Ideal S3x1x2048x512 .bf16 := fun y => whole m c (ix4 (y 0) (y 1) (row t (y 2)) (y 3))

theorem block_left (t : Fin cfg0.N) (y : S3x1x2048x512.Idx) :
    value (fun d => rows m c t (ix2 (y 2) d)) (three (cols0 m c t) (cols1 m c t) (cols2 m c t)) (fun q l => turns m c t (ix3 q (y 2) l)) (y 0) (y 3) = left m c t y := by
  have e0 : (fun d => rows m c t (ix2 (y 2) d)) = fun d => m ((c.tc : Thread nD τ).loc main_arg0) (ix2 (row t (y 2)) d) := funext fun d => rows_at m c t (y 2) d
  have e1 : three (cols0 m c t) (cols1 m c t) (cols2 m c t) = fun k d j => m ((c.tc : Thread nD τ).loc main_arg2) (ix2 d (col k j)) :=
    funext fun k => funext fun d => funext fun j => cols_at m c t k d j
  have e2 : (fun q l => turns m c t (ix3 q (y 2) l)) = fun q l => given m c (ix3 q (row t (y 2)) l) := funext fun q => funext fun l => turns_at m c t q (y 2) l
  rw [e0, e1, e2]
  rfl

theorem after_eq (t : Fin cfg0.N) : (dats m 0 c).after 5 t = left m c t :=
  (after0_5 m c t).trans (funext fun y : S3x1x2048x512.Idx => (block_at c (grid0.coords t) (ms0_0 t) (hs0_0 t) (ms0_1 t) (hs0_1 t) (ms0_2 t) (hs0_2 t)
    (ms0_3 t) (hs0_3 t) (ms0_4 t) (hs0_4 t) (ms0_5 t) (hs0_5 t) scM0_0 (Memref.isWhole_whole _) (rows m c t) (turns m c t) (cols0 m c t) (cols1 m c t) (cols2 m c t) y).trans
    (block_left m c t y))

theorem array : (dats m 0 c).arrAt 5 cfg0.N = whole m c := by
  refine (dats m 0 c).arrAt_eq_of_covers 5 _ (by decide +kernel) fun t hf y => ?_
  refine Eq.trans ?_ (congrArg (whole m c) (emb5 t y)).symm
  exact congrArg (cast _) (congrFun (after_eq m c t) ((cfg0.win 5).xinj (cfg0.grid.coords t) y))

end Cert.Kernel6Ideal.Array

end
-- ==== Proof.QkvRead.lean ====
/- The reference of the projection onto the queries', keys' and values' columns read at an index, and its equality to the kernel's array. -/
module

public import proofs.«01_k».proof.Proof.Gen.Reference6Ideal.Run
public import proofs.«01_k».proof.Proof.QkvArray
public import Idealize.ShloMosaic.Lib.Pointwise

@[expose] public section

set_option maxRecDepth 16384

noncomputable section

namespace Cert.Reference6Ideal.Read

open Cert.Reference6Ideal Cert.Reference6Ideal.Gen Idealize.ShloMosaic
open Cert.Kernel6Ideal.Array (value turn lane next prev col)

/-- The product's columns from `off` on, by heads. -/
def group (h : FVec Ideal S8192x1024 .bf16) (w : FVec Ideal S1024x10240 .bf16) (off : ℕ) (hs : S8192x10240.Slices ![0, off] S8192x512) : FVec Ideal S8192x8x64 .f32 :=
  shapeCast S8192x8x64 (extractStridedSlice S8192x512 ![0, off] (Host.dotGeneral dot_S8192x1024_S1024x10240_S8192x10240_1_0_0_1_n_n none
    (extf .f32 h bitsLt_bf16_f32) (extf .f32 w bitsLt_bf16_f32)) hs) shapeCasts_S8192x512_S8192x8x64

/-- A cosine or sine for every head. -/
def heads (C : FVec Ideal S8192x8 .f32) : FVec Ideal S8192x8x8 .f32 :=
  broadcastInDim S8192x8x8 ![0, 1, 2] bcast_S8192x1x8_S8192x8x8_0_1_2 (broadcastInDim S8192x1x8 ![0, 2] bcast_S8192x8_S8192x1x8_0_2 C)

/-- The heads' first sixteen lanes turned by the cosines `C` and sines `S`. -/
def turned (X : FVec Ideal S8192x8x64 .f32) (C S : FVec Ideal S8192x8 .f32) : FVec Ideal S8192x8x64 .f32 :=
  concatenate S8192x8x64 2
    [⟨S8192x8x8, subf (mulf (extractStridedSlice S8192x8x8 ![0, 0, 0] X slices_S8192x8x64_S8192x8x8_0_0_0) (heads C))
        (mulf (extractStridedSlice S8192x8x8 ![0, 0, 8] X slices_S8192x8x64_S8192x8x8_0_0_8) (heads S))⟩,
      ⟨S8192x8x8, addf (mulf (extractStridedSlice S8192x8x8 ![0, 0, 8] X slices_S8192x8x64_S8192x8x8_0_0_8) (heads C))
        (mulf (extractStridedSlice S8192x8x8 ![0, 0, 0] X slices_S8192x8x64_S8192x8x8_0_0_0) (heads S))⟩,
      ⟨S8192x8x48, extractStridedSlice S8192x8x48 ![0, 0, 16] X slices_S8192x8x64_S8192x8x48_0_0_16⟩]
    concatenates_S8192x8x8_S8192x8x8_S8192x8x48_S8192x8x64_d2

/-- The queries, the keys and the values side by side. -/
def joined (Q K V : FVec Ideal S8192x8x64 .f32) : FVec Ideal S3x8192x8x64 .f32 :=
  concatenate S3x8192x8x64 0
    [⟨S1x8192x8x64, broadcastInDim S1x8192x8x64 ![1, 2, 3] bcast_S8192x8x64_S1x8192x8x64_1_2_3 Q⟩,
      ⟨S1x8192x8x64, broadcastInDim S1x8192x8x64 ![1, 2, 3] bcast_S8192x8x64_S1x8192x8x64_1_2_3 K⟩,
      ⟨S1x8192x8x64, broadcastInDim S1x8192x8x64 ![1, 2, 3] bcast_S8192x8x64_S1x8192x8x64_1_2_3 V⟩]
    concatenates_S1x8192x8x64_S1x8192x8x64_S1x8192x8x64_S3x8192x8x64_d0

/-- The reference's result, with the cosines `C` and sines `S` given. -/
def out (h : FVec Ideal S8192x1024 .bf16) (C S : FVec Ideal S8192x8 .f32) (w : FVec Ideal S1024x10240 .bf16) : FVec Ideal S3x1x8192x512 .bf16 :=
  truncf .bf16 (shapeCast S3x1x8192x512 (joined (turned (group h w 3072 slices_S8192x10240_S8192x512_0_3072) C S)
    (turned (group h w 4608 slices_S8192x10240_S8192x512_0_4608) C S) (group h w 6144 slices_S8192x10240_S8192x512_0_6144))
    shapeCasts_S3x8192x8x64_S3x1x8192x512) bitsLt_bf16_f32

/-- The head of column `j`, and its lane in the head. -/
def head (j : Fin 512) : Fin 8 := ⟨(j : ℕ) / 64, by omega⟩
def place (j : Fin 512) : Fin 64 := ⟨(j : ℕ) % 64, by omega⟩

theorem cast_at (Y : FVec Ideal S3x8192x8x64 .f32) (k : Fin 3) (z : Fin 1) (t : Fin 8192) (j : Fin 512) :
    shapeCast S3x1x8192x512 Y shapeCasts_S3x8192x8x64_S3x1x8192x512 (ix4 k z t j) = Y (ix4 k t (head j) (place j)) := by
  pointwise
  rfl

section Joined

variable (Q K V : FVec Ideal S8192x8x64 .f32) (t : Fin 8192) (e : Fin 8) (l : Fin 64)

theorem joined_0 : joined Q K V (ix4 0 t e l) = Q (ix3 t e l) := by
  unfold joined
  pointwise

theorem joined_1 : joined Q K V (ix4 1 t e l) = K (ix3 t e l) := by
  unfold joined
  pointwise

theorem joined_2 : joined Q K V (ix4 2 t e l) = V (ix3 t e l) := by
  unfold joined
  pointwise

end Joined

theorem group_at (h : FVec Ideal S8192x1024 .bf16) (w : FVec Ideal S1024x10240 .bf16) (off : ℕ) (hs) (t : Fin 8192) (e : Fin 8) (l : Fin 64) (k : Fin 10240)
    (hk : (k : ℕ) = off + ((e : ℕ) * 64 + (l : ℕ))) : group h w off hs (ix3 t e l) = ∑ d : Fin 1024, h (ix2 t d) * w (ix2 d k) := by
  have hlt : off + ((e : ℕ) * 64 + (l : ℕ)) < 10240 := hk ▸ k.isLt
  rw [show k = ⟨off + ((e : ℕ) * 64 + (l : ℕ)), hlt⟩ from Fin.ext hk]
  unfold group
  pointwise

theorem heads_at (C : FVec Ideal S8192x8 .f32) (t : Fin 8192) (e f : Fin 8) : heads C (ix3 t e f) = C (ix2 t f) := by
  unfold heads
  pointwise

section Turned

variable (X : FVec Ideal S8192x8x64 .f32) (C S : FVec Ideal S8192x8 .f32) (t : Fin 8192) (e : Fin 8) (l l' : Fin 64)

theorem turned_first (f : Fin 8) (hl : (l : ℕ) = f) (hl' : (l' : ℕ) = 8 + (f : ℕ)) :
    turned X C S (ix3 t e l) = X (ix3 t e l) * C (ix2 t f) - X (ix3 t e l') * S (ix2 t f) := by
  unfold turned
  pointwise
  rw [dif_pos (by omega), heads_at, heads_at]
  rw [show (⟨8 + (l : ℕ), by omega⟩ : Fin 64) = l' from Fin.ext (by show 8 + (l : ℕ) = l'; omega), show (⟨(l : ℕ), by omega⟩ : Fin 8) = f from Fin.ext hl]

theorem turned_second (f : Fin 8) (hl : (l : ℕ) = 8 + (f : ℕ)) (hl' : (l' : ℕ) = f) :
    turned X C S (ix3 t e l) = X (ix3 t e l) * C (ix2 t f) + X (ix3 t e l') * S (ix2 t f) := by
  unfold turned
  pointwise
  rw [dif_neg (by omega), dif_pos (by omega), heads_at, heads_at]
  rw [show (⟨8 + ((l : ℕ) - 8), by omega⟩ : Fin 64) = l from Fin.ext (by show 8 + ((l : ℕ) - 8) = l; omega),
    show (⟨(l : ℕ) - 8, by omega⟩ : Fin 64) = l' from Fin.ext (by show (l : ℕ) - 8 = l'; omega), show (⟨(l : ℕ) - 8, by omega⟩ : Fin 8) = f from Fin.ext (by show (l : ℕ) - 8 = f; omega)]

theorem turned_rest (hl : 16 ≤ (l : ℕ)) : turned X C S (ix3 t e l) = X (ix3 t e l) := by
  unfold turned
  pointwise
  rw [dif_neg (by omega), dif_neg (by omega)]
  exact congrArg (fun q => X (ix3 t e q)) (Fin.ext (by show 16 + ((l : ℕ) - 8 - 8) = l; omega))

end Turned

section Whole

variable (h : FVec Ideal S8192x1024 .bf16) (C S : FVec Ideal S8192x8 .f32) (w : FVec Ideal S1024x10240 .bf16) (t : Fin 8192) (j : Fin 512)
  (off : ℕ) (hs : S8192x10240.Slices ![0, off] S8192x512) (k : Fin 512 → Fin 10240) (hk : ∀ j, (k j : ℕ) = off + (j : ℕ))

include hk in
/-- The product's columns from `off` on, at column `j`. -/
theorem group_col : group h w off hs (ix3 t (head j) (place j)) = ∑ d : Fin 1024, h (ix2 t d) * w (ix2 d (k j)) :=
  group_at h w off hs t (head j) (place j) (k j) ((hk j).trans (congrArg (off + ·) (by show (j : ℕ) = (j : ℕ) / 64 * 64 + (j : ℕ) % 64; omega)))

include hk in
/-- The reference's turn is the kernel's. -/
theorem turned_col : turned (group h w off hs) C S (ix3 t (head j) (place j))
    = turn (fun j => ∑ d : Fin 1024, h (ix2 t d) * w (ix2 d (k j))) (fun p l => Cert.Kernel6Ideal.Entry.planes C S (ix3 p t l)) j := by
  have hl : ((lane j : Fin 128) : ℕ) % 64 = (j : ℕ) % 64 := by show (j : ℕ) % 128 % 64 = (j : ℕ) % 64; omega
  have hp : ((place j : Fin 64) : ℕ) = (j : ℕ) % 64 := rfl
  have hn : ((next j : Fin 512) : ℕ) = (j : ℕ) / 128 * 128 + ((j : ℕ) % 128 + 8) % 128 := rfl
  have hv : ((prev j : Fin 512) : ℕ) = (j : ℕ) / 128 * 128 + ((j : ℕ) % 128 + 120) % 128 := rfl
  unfold turn
  by_cases h8 : (j : ℕ) % 64 < 8
  · have e : head j = head (next j) := Fin.ext (by show (j : ℕ) / 64 = (next j : ℕ) / 64; omega)
    rw [Cert.Kernel6Ideal.Entry.turn_first ⟨(j : ℕ) % 64, h8⟩ hl, turned_first _ C S t (head j) (place j) (place (next j)) ⟨(j : ℕ) % 64, h8⟩ rfl
      (by show (next j : ℕ) % 64 = 8 + (j : ℕ) % 64; omega), group_col h w t j off hs k hk, e, group_col h w t (next j) off hs k hk]
  · by_cases h16 : (j : ℕ) % 64 < 16
    · have e : head j = head (prev j) := Fin.ext (by show (j : ℕ) / 64 = (prev j : ℕ) / 64; omega)
      have hf : (j : ℕ) % 64 - 8 < 8 := by omega
      rw [Cert.Kernel6Ideal.Entry.turn_second ⟨(j : ℕ) % 64 - 8, hf⟩ (hl.trans (by show (j : ℕ) % 64 = 8 + ((j : ℕ) % 64 - 8); omega)),
        turned_second _ C S t (head j) (place j) (place (prev j)) ⟨(j : ℕ) % 64 - 8, hf⟩ (by show (j : ℕ) % 64 = 8 + ((j : ℕ) % 64 - 8); omega)
          (by show (prev j : ℕ) % 64 = (j : ℕ) % 64 - 8; omega), group_col h w t j off hs k hk, e, group_col h w t (prev j) off hs k hk]
    · have hf : (j : ℕ) % 64 - 16 < 48 := by omega
      rw [Cert.Kernel6Ideal.Entry.turn_rest ⟨(j : ℕ) % 64 - 16, hf⟩ (hl.trans (by show (j : ℕ) % 64 = 16 + ((j : ℕ) % 64 - 16); omega)),
        turned_rest _ C S t (head j) (place j) (by omega), group_col h w t j off hs k hk]

theorem narrow_at (X : FVec Ideal S3x1x8192x512 .f32) (y : S3x1x8192x512.Idx) : truncf .bf16 X bitsLt_bf16_f32 y = X y := rfl

/-- The reference's result at an entry is its block of the three. -/
theorem out_joined (q : Fin 3) (z : Fin 1) : out h C S w (ix4 q z t j) = joined (turned (group h w 3072 slices_S8192x10240_S8192x512_0_3072) C S)
    (turned (group h w 4608 slices_S8192x10240_S8192x512_0_4608) C S) (group h w 6144 slices_S8192x10240_S8192x512_0_6144) (ix4 q t (head j) (place j)) := by
  unfold out
  rw [narrow_at, cast_at]

/-- The kernel's value at the queries, the keys and the values. -/
theorem value_queries (r : Fin 1024 → EReal) (v : Fin 3 → Fin 1024 → Fin 512 → EReal) (p : Fin 3 → Fin 128 → EReal) :
    value r v p 0 j = turn (fun j => ∑ d : Fin 1024, r d * v 0 d j) p j := rfl
theorem value_keys (r : Fin 1024 → EReal) (v : Fin 3 → Fin 1024 → Fin 512 → EReal) (p : Fin 3 → Fin 128 → EReal) :
    value r v p 1 j = turn (fun j => ∑ d : Fin 1024, r d * v 1 d j) p j := rfl
theorem value_values (r : Fin 1024 → EReal) (v : Fin 3 → Fin 1024 → Fin 512 → EReal) (p : Fin 3 → Fin 128 → EReal) :
    value r v p 2 j = ∑ d : Fin 1024, r d * v 2 d j := rfl

theorem out_at (q : Fin 3) (z : Fin 1) : out h C S w (ix4 q z t j)
    = value (fun d => h (ix2 t d)) (fun k d j => w (ix2 d (col k j))) (fun p l => Cert.Kernel6Ideal.Entry.planes C S (ix3 p t l)) q j := by
  rw [out_joined]
  match q with
  | 0 =>
    rw [joined_0, value_queries]
    exact turned_col h C S w t j 3072 _ (col 0) fun _ => rfl
  | 1 =>
    rw [joined_1, value_keys]
    exact turned_col h C S w t j 4608 _ (col 1) fun _ => rfl
  | 2 =>
    rw [joined_2, value_values]
    exact group_col h w t j 6144 _ (col 2) fun _ => rfl

theorem out_eq : out h C S w = Cert.Kernel6Ideal.Array.product h (Cert.Kernel6Ideal.Entry.planes C S) w :=
  funext fun y => (congrArg (out h C S w) (ix4_eta y).symm).trans (out_at h C S w (y 2) (y 3) (y 0) (y 1))

end Whole

end Cert.Reference6Ideal.Read

end
-- ==== Proof.lean ====
/- Six kernels are claimed of. Each runs and keeps its arguments, as do its idealisation and its reference, and over the
   extended reals (the first two from finite arguments) it leaves what its reference's derivative leaves.

   The first is the backward pass of a banded softmax attention, one grid point per sequence. Its value claim meets in the
   middle, at the gradients `Attn.Head.grad` of every head of every sequence: `Proof/RefRead` reads the reference there,
   `Proof/Tile`, `Proof/Units`, `Proof/TileRead` one grid point of the kernel, `Proof/Entry` what the kernel is handed,
   `Proof/Assemble` its output array.

   The second is the backward pass of a modulated norm and the projection after it, one grid point per block of rows. It
   meets at the quantities of `Norm.Rows`: `Proof/Ref2Read` reads the reference there, `Proof/InputTile` one grid point,
   `Proof/InputArray` the output arrays.

   The third is the gradient of that projection's weight, in two calls that divide the columns among them, after a call that
   computes the modulated norm again. It meets at `Weight.Rows.grad`: `Proof/Ref3Read` reads the reference there,
   `Proof/WeightTile` one grid point of each call, `Proof/WeightArray` the arrays from call to call, `Proof/WeightRun` the
   run.

   The fourth and the fifth are the two calls that project onto the columns of the convolution and of the gate. They meet at
   the product of the rows with those columns of the weight: `Proof/ProjRead` reads the references there, `Proof/ConvArray`
   and `Proof/GateArray` a grid point and the array of each call.

   The sixth projects onto the columns of one dilation's queries, keys and values and turns the queries and keys. It meets
   there too: `Proof/QkvRead` reads the reference and states the equality, `Proof/QkvEntry` the coefficients that the kernel
   turns by, `Proof/QkvArray` a grid point and the array. -/
module

public import proofs.«01_k».proof.Defs
public import proofs.«01_k».proof.Proof.Finite
public import proofs.«01_k».proof.Proof.Assemble
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Finite2
public import proofs.«01_k».proof.Proof.InputArray
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.WeightRun
public import proofs.«01_k».proof.Proof.Ref3Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.ConvArray
public import proofs.«01_k».proof.Proof.GateArray
public import proofs.«01_k».proof.Proof.ProjRead
public import proofs.«01_k».proof.Proof.QkvArray
public import proofs.«01_k».proof.Proof.QkvRead
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel4Ideal.Value
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import Idealize.ShloMosaic.Adequacy
public import Idealize.ShloMosaic.Init

@[expose] public section

noncomputable section

namespace Cert.Proof

open Idealize.ShloMosaic Idealize.SL.Sem Attn

/-- The reference runs and keeps its arguments; it has no semaphore. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

/-- Over finite arguments that agree, the array the kernel leaves is the reference's result. -/
theorem same_gradient (A : FVec Ideal Cert.Pre_finite.S3x8192x512 .bf16) (B : FVec Ideal Cert.Pre_finite.S8192x512 .f32)
    (hfin : Cert.Pre_finite.fn (F := Ideal) A B = fun _ => 1#1)
    (m : (ℓ : Loc Cert.KernelIdeal.nD Cert.KernelIdeal.τ Cert.KernelIdeal.sig) → Buf (Elt Ideal) ℓ) (c : Dev Cert.KernelIdeal.nD)
    (hA : m ((c.tc : Thread Cert.KernelIdeal.nD Cert.KernelIdeal.τ).loc Cert.KernelIdeal.main_arg0) = A)
    (hB : m ((c.tc : Thread Cert.KernelIdeal.nD Cert.KernelIdeal.τ).loc Cert.KernelIdeal.main_arg1) = B)
    (V0 : Valuation Cert.ReferenceIdeal.τ Cert.ReferenceIdeal.sig (Elt Ideal))
    (hA' : V0 (Proc.devRef .tc Cert.ReferenceIdeal.main_arg0) = A) (hB' : V0 (Proc.devRef .tc Cert.ReferenceIdeal.main_arg1) = B) :
    Cert.ReferenceIdeal.Read.out V0 = (Cert.KernelIdeal.Gen.dats m 0 c).arrAt 12 Cert.KernelIdeal.cfg0.N := by
  obtain ⟨hx, hy⟩ := Cert.Pre_finite.Read.both A B hfin
  have HK : Cert.KernelIdeal.Entry.Holds (Cert.KernelIdeal.Assemble.launch m c)
      (fun w t a => (A (ix3 w t a) : EReal).toReal) (fun t a => (B (ix2 t a) : EReal).toReal) :=
    ⟨fun w t a => (congrFun hA _).trans (hx _), fun t a => (congrFun hB _).trans (hy _)⟩
  have HR : Cert.ReferenceIdeal.Read.Holds V0 (fun w t a => (A (ix3 w t a) : EReal).toReal) (fun t a => (B (ix2 t a) : EReal).toReal) :=
    ⟨fun w t a => (congrFun hA' _).trans (hx _), fun t a => (congrFun hB' _).trans (hy _)⟩
  rw [Cert.KernelIdeal.Assemble.array m c HK]
  refine funext fun y => ?_
  have e : y = ix3 (y 0) (row ⟨(y 1 : ℕ) / 512, by have : (y 1 : ℕ) < 8192 := (y 1).isLt; omega⟩ ⟨(y 1 : ℕ) % 512, by omega⟩)
      (col ⟨(y 2 : ℕ) / 64, by have : (y 2 : ℕ) < 512 := (y 2).isLt; omega⟩ ⟨(y 2 : ℕ) % 64, by omega⟩) := by
    refine (ix3_eta y).symm.trans ?_
    congr 1
    · exact Fin.ext (Nat.div_add_mod' _ _).symm
    · exact Fin.ext (Nat.div_add_mod' _ _).symm
  rw [e]
  exact (Cert.ReferenceIdeal.Read.out_at HR _ _ _ _ _).trans (Cert.KernelIdeal.Assemble.grads_at _ _ _ _ _).symm

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) :=
  fun m g m' g' hpre hagree =>
    ⟨fun c => (Cert.KernelIdeal.Gen.dats m 0 c).arrAt 12 Cert.KernelIdeal.cfg0.N,
      Cert.KernelIdeal.Value.run_blocks m g,
      (θ_run Cert.ReferenceIdeal.defs _ _).mono (fun _ h c => ⟨(h c).1.trans
          (same_gradient _ _ (hpre c) m c rfl rfl (StableHlo.launchContents m' c) (hagree c).1 (hagree c).2), (h c).2⟩)
        (Cert.ReferenceIdeal.Value.run (F := Ideal) m' g')⟩

/-- The second reference runs and keeps its arguments; it has no semaphore. -/
theorem reference2_frame (m : (ℓ : Loc Cert.Reference2Ideal.nD Cert.Reference2Ideal.τ Cert.Reference2Ideal.sig) → Buf (Elt Ideal) ℓ)
    (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0) :=
  (θ_run Cert.Reference2Ideal.defs _ _).mono (fun r h => ⟨fun c => (h c).2.2, sem_eq_zero_of_no_sems (by decide) r.2⟩)
    (Cert.Reference2Ideal.Value.run (F := Ideal) m g)

/-- Finite arguments hold reals. -/
theorem reals_of_finite (A0 : FVec Ideal Cert.Pre_finite2.S8192x10240 .bf16) (A1 : FVec Ideal Cert.Pre_finite2.S1024x10240 .bf16)
    (A2 A3 : FVec Ideal Cert.Pre_finite2.S8192x1024 .f32) (A4 : FVec Ideal Cert.Pre_finite2.S3x1024 .f32) (A5 : FVec Ideal Cert.Pre_finite2.S1x1024 .f32)
    (hfin : Cert.Pre_finite2.fn (F := Ideal) A0 A1 A2 A3 A4 A5 = fun _ => 1#1) :
    ∃ D : Cert.Kernel2Ideal.Array.All, Cert.Reference2Ideal.Read.Holds A0 A1 A2 A3 A4 A5 D := by
  obtain ⟨hp, hw, hx, hr, hs, hg⟩ := Cert.Pre_finite2.Read.all A0 A1 A2 A3 A4 A5 hfin
  exact ⟨⟨fun t c => (A0 (ix2 t c) : EReal).toReal, fun d c => (A1 (ix2 d c) : EReal).toReal, fun t d => (A2 (ix2 t d) : EReal).toReal,
      fun t d => (A3 (ix2 t d) : EReal).toReal, fun d => (A4 (ix2 1 d) : EReal).toReal, fun d => (A5 (ix2 0 d) : EReal).toReal⟩,
    ⟨fun _ _ => hp _, fun _ _ => hw _, fun _ _ => hx _, fun _ _ => hr _, fun _ => hs _, fun _ => hg _⟩⟩

theorem gx_eq {A0 : FVec Ideal Cert.Pre_finite2.S8192x10240 .bf16} {A1 : FVec Ideal Cert.Pre_finite2.S1024x10240 .bf16}
    {A2 A3 : FVec Ideal Cert.Pre_finite2.S8192x1024 .f32} {A4 : FVec Ideal Cert.Pre_finite2.S3x1024 .f32} {A5 : FVec Ideal Cert.Pre_finite2.S1x1024 .f32}
    {D : Cert.Kernel2Ideal.Array.All} (H : Cert.Reference2Ideal.Read.Holds A0 A1 A2 A3 A4 A5 D) :
    Cert.Reference2Ideal.Read.gx A0 A1 A2 A3 A4 A5 = Cert.Kernel2Ideal.Array.gx D :=
  funext fun y => (congrArg (Cert.Reference2Ideal.Read.gx A0 A1 A2 A3 A4 A5) (ix2_eta y).symm).trans (Cert.Reference2Ideal.Read.gx_at H (y 0) (y 1))

theorem sums_eq {A0 : FVec Ideal Cert.Pre_finite2.S8192x10240 .bf16} {A1 : FVec Ideal Cert.Pre_finite2.S1024x10240 .bf16}
    {A2 A3 : FVec Ideal Cert.Pre_finite2.S8192x1024 .f32} {A4 : FVec Ideal Cert.Pre_finite2.S3x1024 .f32} {A5 : FVec Ideal Cert.Pre_finite2.S1x1024 .f32}
    {D : Cert.Kernel2Ideal.Array.All} (H : Cert.Reference2Ideal.Read.Holds A0 A1 A2 A3 A4 A5 D) :
    Cert.Reference2Ideal.Read.sums A0 A1 A2 A4 A5 = Cert.Kernel2Ideal.Array.sums D :=
  funext fun y => (congrArg (Cert.Reference2Ideal.Read.sums A0 A1 A2 A4 A5) (ix2_eta y).symm).trans (Cert.Reference2Ideal.Read.sums_at H (y 0) (y 1))

theorem algebraic2 : Cert.algebraic_Kernel2Ideal_Reference2Ideal_pre_finite2 (hKernel2Ideal := Cert.Kernel2Ideal.Gen.facts)
    (hReference2Ideal := Cert.Reference2Ideal.Gen.facts) (hPre_finite2 := Cert.Pre_finite2.Gen.facts) :=
  fun m g m' g' hpre hagree =>
    ⟨fun c => (Cert.Kernel2Ideal.Gen.dats m 0 c).arrAt 6 Cert.Kernel2Ideal.cfg0.N,
      fun c => (Cert.Kernel2Ideal.Gen.dats m 0 c).arrAt 7 Cert.Kernel2Ideal.cfg0.N,
      Cert.Kernel2Ideal.Value.run_blocks m g,
      (θ_run Cert.Reference2Ideal.defs _ _).mono (fun _ h c => by
          obtain ⟨D, H⟩ := reals_of_finite _ _ _ _ _ _ (hpre c)
          obtain ⟨e0, e1, e2, e3, e4, e5⟩ := hagree c
          have H' := H
          rw [← e0, ← e1, ← e2, ← e3, ← e4, ← e5] at H'
          refine ⟨(h c).1.trans ?_, (h c).2.1.trans ?_, (h c).2.2⟩
          · exact (Cert.Reference2Ideal.Read.out0_eq m' c).trans ((gx_eq H').trans (Cert.Kernel2Ideal.Array.array6 H).symm)
          · exact (sums_eq H').trans (Cert.Kernel2Ideal.Array.array7 H).symm)
        (Cert.Reference2Ideal.Value.run (F := Ideal) m' g')⟩

/-- The third reference runs and keeps its arguments; it has no semaphore. -/
theorem reference3_frame (m : (ℓ : Loc Cert.Reference3Ideal.nD Cert.Reference3Ideal.τ Cert.Reference3Ideal.sig) → Buf (Elt Ideal) ℓ)
    (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0) :=
  (θ_run Cert.Reference3Ideal.defs _ _).mono (fun r h => ⟨fun c => (h c).2, sem_eq_zero_of_no_sems (by decide) r.2⟩)
    (Cert.Reference3Ideal.Value.run (F := Ideal) m g)

theorem algebraic3 : Cert.algebraic_Kernel3Ideal_Reference3Ideal (hKernel3Ideal := Cert.Kernel3Ideal.Gen.facts) (hReference3Ideal := Cert.Reference3Ideal.Gen.facts) :=
  fun m g m' g' _ hagree =>
    ⟨fun c => Cert.Kernel3Ideal.Array.grad (Cert.Kernel3Ideal.Array.data m c), Cert.Kernel3Ideal.Whole.run m g,
      (θ_run Cert.Reference3Ideal.defs _ _).mono (fun _ h c => by
          obtain ⟨e0, e1, e2, e3⟩ := hagree c
          refine ⟨(h c).1.trans ?_, (h c).2⟩
          refine (Cert.Reference3Ideal.Read.grad_eq _ _ _ _).trans ?_
          rw [e0, e1, e2, e3]
          rfl)
        (Cert.Reference3Ideal.Value.run (F := Ideal) m' g')⟩

/-- The fourth reference runs and keeps its arguments; it has no semaphore. -/
theorem reference4_frame (m : (ℓ : Loc Cert.Reference4Ideal.nD Cert.Reference4Ideal.τ Cert.Reference4Ideal.sig) → Buf (Elt Ideal) ℓ)
    (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0) :=
  (θ_run Cert.Reference4Ideal.defs _ _).mono (fun r h => ⟨fun c => (h c).2, sem_eq_zero_of_no_sems (by decide) r.2⟩)
    (Cert.Reference4Ideal.Value.run (F := Ideal) m g)

theorem product4_eq (h : FVec Ideal Cert.Reference4Ideal.S8192x1024 .bf16) (w : FVec Ideal Cert.Reference4Ideal.S1024x10240 .bf16) :
    Cert.Reference4Ideal.Read.product h w = Cert.Kernel4Ideal.Array.product h w :=
  funext fun y => (congrArg (Cert.Reference4Ideal.Read.product h w) (ix2_eta y).symm).trans
    (Cert.Reference4Ideal.Read.product_at h w (y 0) (y 1) (Cert.Kernel4Ideal.Array.col (y 1)) (Nat.zero_add _).symm)

theorem algebraic4 : Cert.algebraic_Kernel4Ideal_Reference4Ideal (hKernel4Ideal := Cert.Kernel4Ideal.Gen.facts) (hReference4Ideal := Cert.Reference4Ideal.Gen.facts) :=
  fun m g m' g' _ hagree =>
    ⟨fun c => (Cert.Kernel4Ideal.Gen.dats m 0 c).arrAt 2 Cert.Kernel4Ideal.cfg0.N, Cert.Kernel4Ideal.Value.run_blocks m g,
      (θ_run Cert.Reference4Ideal.defs _ _).mono (fun _ h c => by
          obtain ⟨e0, e1⟩ := hagree c
          refine ⟨(h c).1.trans ?_, (h c).2⟩
          refine (product4_eq _ _).trans (Eq.trans ?_ (Cert.Kernel4Ideal.Array.array m c).symm)
          rw [e0, e1]
          rfl)
        (Cert.Reference4Ideal.Value.run (F := Ideal) m' g')⟩

/-- The fifth reference runs and keeps its arguments; it has no semaphore. -/
theorem reference5_frame (m : (ℓ : Loc Cert.Reference5Ideal.nD Cert.Reference5Ideal.τ Cert.Reference5Ideal.sig) → Buf (Elt Ideal) ℓ)
    (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0) :=
  (θ_run Cert.Reference5Ideal.defs _ _).mono (fun r h => ⟨fun c => (h c).2, sem_eq_zero_of_no_sems (by decide) r.2⟩)
    (Cert.Reference5Ideal.Value.run (F := Ideal) m g)

theorem product5_eq (h : FVec Ideal Cert.Reference5Ideal.S8192x1024 .bf16) (w : FVec Ideal Cert.Reference5Ideal.S1024x10240 .bf16) :
    Cert.Reference5Ideal.Read.product h w = Cert.Kernel5Ideal.Array.product h w :=
  funext fun y => (congrArg (Cert.Reference5Ideal.Read.product h w) (ix2_eta y).symm).trans
    (Cert.Reference5Ideal.Read.product_at h w (y 0) (y 1) (Cert.Kernel5Ideal.Array.col (y 1)) rfl)

theorem algebraic5 : Cert.algebraic_Kernel5Ideal_Reference5Ideal (hKernel5Ideal := Cert.Kernel5Ideal.Gen.facts) (hReference5Ideal := Cert.Reference5Ideal.Gen.facts) :=
  fun m g m' g' _ hagree =>
    ⟨fun c => (Cert.Kernel5Ideal.Gen.dats m 0 c).arrAt 2 Cert.Kernel5Ideal.cfg0.N, Cert.Kernel5Ideal.Value.run_blocks m g,
      (θ_run Cert.Reference5Ideal.defs _ _).mono (fun _ h c => by
          obtain ⟨e0, e1⟩ := hagree c
          refine ⟨(h c).1.trans ?_, (h c).2⟩
          refine (product5_eq _ _).trans (Eq.trans ?_ (Cert.Kernel5Ideal.Array.array m c).symm)
          rw [e0, e1]
          rfl)
        (Cert.Reference5Ideal.Value.run (F := Ideal) m' g')⟩

/-- The sixth reference runs and keeps its arguments; it has no semaphore. -/
theorem reference6_frame (m : (ℓ : Loc Cert.Reference6Ideal.nD Cert.Reference6Ideal.τ Cert.Reference6Ideal.sig) → Buf (Elt Ideal) ℓ)
    (g : Dev Cert.Reference6Ideal.nD → PrngReg) :
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0) :=
  (θ_run Cert.Reference6Ideal.defs _ _).mono (fun r h => ⟨fun c => (h c).2, sem_eq_zero_of_no_sems (by decide) r.2⟩)
    (Cert.Reference6Ideal.Value.run (F := Ideal) m g)

/-- The reference's term of the arguments is `out` at the cosines and sines of the angles. -/
theorem result6_eq (m : (ℓ : Loc Cert.Reference6Ideal.nD Cert.Reference6Ideal.τ Cert.Reference6Ideal.sig) → Buf (Elt Ideal) ℓ) (c : Dev Cert.Reference6Ideal.nD) :
    Cert.Reference6Ideal.Value.res_out0 m c = Cert.Reference6Ideal.Read.out (m ((c.tc : Thread Cert.Reference6Ideal.nD Cert.Reference6Ideal.τ).loc Cert.Reference6Ideal.main_arg0))
      (Host.cos (Cert.Kernel6Ideal.Entry.angle (m ((c.tc : Thread Cert.Reference6Ideal.nD Cert.Reference6Ideal.τ).loc Cert.Reference6Ideal.main_arg1))))
      (Host.sin (Cert.Kernel6Ideal.Entry.angle (m ((c.tc : Thread Cert.Reference6Ideal.nD Cert.Reference6Ideal.τ).loc Cert.Reference6Ideal.main_arg1))))
      (m ((c.tc : Thread Cert.Reference6Ideal.nD Cert.Reference6Ideal.τ).loc Cert.Reference6Ideal.main_arg2)) := rfl

theorem algebraic6 : Cert.algebraic_Kernel6Ideal_Reference6Ideal (hKernel6Ideal := Cert.Kernel6Ideal.Gen.facts) (hReference6Ideal := Cert.Reference6Ideal.Gen.facts) :=
  fun m g m' g' _ hagree =>
    ⟨fun c => (Cert.Kernel6Ideal.Gen.dats m 0 c).arrAt 5 Cert.Kernel6Ideal.cfg0.N, Cert.Kernel6Ideal.Value.run_blocks m g,
      (θ_run Cert.Reference6Ideal.defs _ _).mono (fun _ h c => by
          obtain ⟨e0, e1, e2⟩ := hagree c
          refine ⟨(h c).1.trans ?_, (h c).2⟩
          refine (result6_eq m' c).trans ((Cert.Reference6Ideal.Read.out_eq _ _ _ _).trans (Eq.trans ?_ (Cert.Kernel6Ideal.Array.array m c).symm))
          rw [e0, e1, e2]
          rfl)
        (Cert.Reference6Ideal.Value.run (F := Ideal) m' g')⟩

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Cert.Kernel5.Gen.facts, Cert.Kernel5Ideal.Gen.facts, Cert.Reference5Ideal.Gen.facts,
    Cert.Kernel6.Gen.facts, Cert.Kernel6Ideal.Gen.facts, Cert.Reference6Ideal.Gen.facts, Cert.Pre_finite.Gen.facts, Cert.Pre_finite2.Gen.facts,
    fun m ρ _ => Cert.Kernel.Gen.frame m ρ, fun m ρ _ => Cert.KernelIdeal.Gen.frame m ρ, fun m ρ _ => Cert.KernelIdeal.Gen.frame m ρ,
    fun m ρ _ => reference_frame m ρ, fun m ρ _ => reference_frame m ρ,
    fun m ρ _ => Cert.Kernel2.Gen.frame m ρ, fun m ρ _ => Cert.Kernel2Ideal.Gen.frame m ρ, fun m ρ _ => Cert.Kernel2Ideal.Gen.frame m ρ,
    fun m ρ _ => reference2_frame m ρ, fun m ρ _ => reference2_frame m ρ,
    fun m ρ _ => Cert.Kernel3.Gen.frame m ρ, fun m ρ _ => Cert.Kernel3Ideal.Gen.frame m ρ, fun m ρ _ => reference3_frame m ρ,
    fun m ρ _ => Cert.Kernel4.Gen.frame m ρ, fun m ρ _ => Cert.Kernel4Ideal.Gen.frame m ρ, fun m ρ _ => reference4_frame m ρ,
    fun m ρ _ => Cert.Kernel5.Gen.frame m ρ, fun m ρ _ => Cert.Kernel5Ideal.Gen.frame m ρ, fun m ρ _ => reference5_frame m ρ,
    fun m ρ _ => Cert.Kernel6.Gen.frame m ρ, fun m ρ _ => Cert.Kernel6Ideal.Gen.frame m ρ, fun m ρ _ => reference6_frame m ρ,
    IdealRules.named_const.statement Cert.KernelIdeal.κ "mask" .f32 0xF149F2CA#32 ⊥ rfl, algebraic, trivial, algebraic2, trivial, algebraic3,
    trivial, algebraic4, trivial, algebraic5, trivial, algebraic6⟩

end Cert.Proof

end
